-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def preserves_Kernel_KernelIdeal : Prop :=
  IdealRules.named_const.Statement Cert.KernelIdeal.κ "mla_scale_log2e" .f32 0x3DD53B95#32 (((Real.sqrt 192)⁻¹ * (Real.log 2)⁻¹ : ℝ) : EReal)
  ∧ IdealRules.named_const.Statement Cert.KernelIdeal.κ "a_scale_log2e" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v49_10)) (v2 : (c : Dev Cert.KernelIdeal.nD) → Buf (Elt Ideal) ((c.tc : Thread Cert.KernelIdeal.nD Cert.KernelIdeal.τ).loc Cert.KernelIdeal.main_v49_11)) (v3 : (c : Dev Cert.KernelIdeal.nD) → Buf (Elt Ideal) ((c.tc : Thread Cert.KernelIdeal.nD Cert.KernelIdeal.τ).loc Cert.KernelIdeal.main_v49_8)) (v4 : (c : Dev Cert.KernelIdeal.nD) → Buf (Elt Ideal) ((c.tc : Thread Cert.KernelIdeal.nD Cert.KernelIdeal.τ).loc Cert.KernelIdeal.main_v49_9)) (v5 : (c : Dev Cert.KernelIdeal.nD) → Buf (Elt Ideal) ((c.tc : Thread Cert.KernelIdeal.nD Cert.KernelIdeal.τ).loc Cert.KernelIdeal.main_v49_0)) (v6 : (c : Dev Cert.KernelIdeal.nD) → Buf (Elt Ideal) ((c.tc : Thread Cert.KernelIdeal.nD Cert.KernelIdeal.τ).loc Cert.KernelIdeal.main_v49_1)) (v7 : (c : Dev Cert.KernelIdeal.nD) → Buf (Elt Ideal) ((c.tc : Thread Cert.KernelIdeal.nD Cert.KernelIdeal.τ).loc Cert.KernelIdeal.main_v49_2)) (v8 : (c : Dev Cert.KernelIdeal.nD) → Buf (Elt Ideal) ((c.tc : Thread Cert.KernelIdeal.nD Cert.KernelIdeal.τ).loc Cert.KernelIdeal.main_v49_12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v49_10) = v1 c
          ∧ r.2.mem ((c.tc : Thread Cert.KernelIdeal.nD Cert.KernelIdeal.τ).loc Cert.KernelIdeal.main_v49_11) = v2 c
          ∧ r.2.mem ((c.tc : Thread Cert.KernelIdeal.nD Cert.KernelIdeal.τ).loc Cert.KernelIdeal.main_v49_8) = v3 c
          ∧ r.2.mem ((c.tc : Thread Cert.KernelIdeal.nD Cert.KernelIdeal.τ).loc Cert.KernelIdeal.main_v49_9) = v4 c
          ∧ r.2.mem ((c.tc : Thread Cert.KernelIdeal.nD Cert.KernelIdeal.τ).loc Cert.KernelIdeal.main_v49_0) = v5 c
          ∧ r.2.mem ((c.tc : Thread Cert.KernelIdeal.nD Cert.KernelIdeal.τ).loc Cert.KernelIdeal.main_v49_1) = v6 c
          ∧ r.2.mem ((c.tc : Thread Cert.KernelIdeal.nD Cert.KernelIdeal.τ).loc Cert.KernelIdeal.main_v49_2) = v7 c
          ∧ r.2.mem ((c.tc : Thread Cert.KernelIdeal.nD Cert.KernelIdeal.τ).loc Cert.KernelIdeal.main_v49_12) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_v158) = v4 c
          ∧ r.2.mem ((c.tc : Thread Cert.ReferenceIdeal.nD Cert.ReferenceIdeal.τ).loc Cert.ReferenceIdeal.main_v166) = v5 c
          ∧ r.2.mem ((c.tc : Thread Cert.ReferenceIdeal.nD Cert.ReferenceIdeal.τ).loc Cert.ReferenceIdeal.main_v168) = v6 c
          ∧ r.2.mem ((c.tc : Thread Cert.ReferenceIdeal.nD Cert.ReferenceIdeal.τ).loc Cert.ReferenceIdeal.main_v170) = v7 c
          ∧ r.2.mem ((c.tc : Thread Cert.ReferenceIdeal.nD Cert.ReferenceIdeal.τ).loc Cert.ReferenceIdeal.main_v172) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v25) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v9)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v9) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v40) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hPle : Cert.Ple.Facts) (hPleIdeal : Cert.PleIdeal.Facts) (hPleReferenceIdeal : Cert.PleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ple (hPle := hPle)
    ∧ quiescent_PleIdeal (hPleIdeal := hPleIdeal)
    ∧ quiescent_PleReferenceIdeal (hPleReferenceIdeal := hPleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Ple_PleIdeal
    ∧ algebraic_PleIdeal_PleReferenceIdeal (hPleIdeal := hPleIdeal) (hPleReferenceIdeal := hPleReferenceIdeal)
-- ==== Pre_finite.lean ====
abbrev S8x4096x2048 : Shape := ⟨3, ![8, 4096, 2048]⟩
abbrev S1x2048 : Shape := ⟨2, ![1, 2048]⟩
abbrev S1x2048x8512 : Shape := ⟨3, ![1, 2048, 8512]⟩
abbrev S1x768 : Shape := ⟨2, ![1, 768]⟩
abbrev S1x768x1536 : Shape := ⟨3, ![1, 768, 1536]⟩
abbrev S1x8x128x512 : Shape := ⟨4, ![1, 8, 128, 512]⟩
abbrev S1x8x512x128 : Shape := ⟨4, ![1, 8, 512, 128]⟩
abbrev S1x512 : Shape := ⟨2, ![1, 512]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x8512 : S_.BroadcastsInDim S1x2048x8512 (![] : Fin 0 → Fin S1x2048x8512.rank)
  reducesTo_S1x2048x8512_S_d0_1_2 : S1x2048x8512.ReducesTo [0, 1, 2] S_
  bcast_S_S1x768 : S_.BroadcastsInDim S1x768 (![] : Fin 0 → Fin S1x768.rank)
  reducesTo_S1x768_S_d0_1 : S1x768.ReducesTo [0, 1] S_
  bcast_S_S1x768x1536 : S_.BroadcastsInDim S1x768x1536 (![] : Fin 0 → Fin S1x768x1536.rank)
  reducesTo_S1x768x1536_S_d0_1_2 : S1x768x1536.ReducesTo [0, 1, 2] S_
  bcast_S_S1x8x128x512 : S_.BroadcastsInDim S1x8x128x512 (![] : Fin 0 → Fin S1x8x128x512.rank)
  reducesTo_S1x8x128x512_S_d0_1_2_3 : S1x8x128x512.ReducesTo [0, 1, 2, 3] S_
  bcast_S_S1x8x512x128 : S_.BroadcastsInDim S1x8x512x128 (![] : Fin 0 → Fin S1x8x512x128.rank)
  reducesTo_S1x8x512x128_S_d0_1_2_3 : S1x8x512x128.ReducesTo [0, 1, 2, 3] S_
  bcast_S_S1x512 : S_.BroadcastsInDim S1x512 (![] : Fin 0 → Fin S1x512.rank)
  reducesTo_S1x512_S_d0_1 : S1x512.ReducesTo [0, 1] S_

variable [Facts]

def fn_part2 {F : FTy → Type} [FloatOps F] (main_arg7 : FVec F S1x512 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  main_v38

def fn_part1 {F : FTy → Type} [FloatOps F] (main_arg4 : FVec F S1x768x1536 .f32) (main_arg5 : FVec F S1x8x128x512 .f32) (main_arg6 : FVec F S1x8x512x128 .f32) (main_arg7 : FVec F S1x512 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S1x768x1536 .f32 := Host.absf main_arg4
  let main_cst_6 : FVec F S_ .f32 := constant S_ .f32 0x7F800000#32
  let main_v20 : FVec F S1x768x1536 .f32 := broadcastInDim S1x768x1536 ![] bcast_S_S1x768x1536 main_cst_6
  let main_v21 : IVec S1x768x1536 1 := cmpf .olt main_v19 main_v20
  let main_c_7 : IVec S_ 1 := constantI S_ 1 1#1
  let main_v22 : IVec S_ 1 := (fun x v => Host.reduce IntOp.andi x v reducesTo_S1x768x1536_S_d0_1_2 h_S_) main_v21 main_c_7
  let main_v23 : IVec S_ 1 := andi main_v18 main_v22
  let main_v24 : FVec F S1x8x128x512 .f32 := Host.absf main_arg5
  let main_cst_8 : FVec F S_ .f32 := constant S_ .f32 0x7F800000#32
  let main_v25 : FVec F S1x8x128x512 .f32 := broadcastInDim S1x8x128x512 ![] bcast_S_S1x8x128x512 main_cst_8
  let main_v26 : IVec S1x8x128x512 1 := cmpf .olt main_v24 main_v25
  let main_c_9 : IVec S_ 1 := constantI S_ 1 1#1
  let main_v27 : IVec S_ 1 := (fun x v => Host.reduce IntOp.andi x v reducesTo_S1x8x128x512_S_d0_1_2_3 h_S_) main_v26 main_c_9
  let main_v28 : IVec S_ 1 := andi main_v23 main_v27
  let main_v29 : FVec F S1x8x512x128 .f32 := Host.absf main_arg6
  let main_cst_10 : FVec F S_ .f32 := constant S_ .f32 0x7F800000#32
  let main_v30 : FVec F S1x8x512x128 .f32 := broadcastInDim S1x8x512x128 ![] bcast_S_S1x8x512x128 main_cst_10
  let main_v31 : IVec S1x8x512x128 1 := cmpf .olt main_v29 main_v30
  let main_c_11 : IVec S_ 1 := constantI S_ 1 1#1
  let main_v32 : IVec S_ 1 := (fun x v => Host.reduce IntOp.andi x v reducesTo_S1x8x512x128_S_d0_1_2_3 h_S_) main_v31 main_c_11
  let main_v33 : IVec S_ 1 := andi main_v28 main_v32
  fn_part2 (F := F) main_arg7 main_v33

def fn {F : FTy → Type} [FloatOps F] (main_arg0 : FVec F S8x4096x2048 .f32) (main_arg1 : FVec F S1x2048 .f32) (main_arg2 : FVec F S1x2048x8512 .f32) (main_arg3 : FVec F S1x768 .f32) (main_arg4 : FVec F S1x768x1536 .f32) (main_arg5 : FVec F S1x8x128x512 .f32) (main_arg6 : FVec F S1x8x512x128 .f32) (main_arg7 : FVec F S1x512 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048x8512 .f32 := Host.absf main_arg2
  let main_cst_2 : FVec F S_ .f32 := constant S_ .f32 0x7F800000#32
  let main_v10 : FVec F S1x2048x8512 .f32 := broadcastInDim S1x2048x8512 ![] bcast_S_S1x2048x8512 main_cst_2
  let main_v11 : IVec S1x2048x8512 1 := cmpf .olt main_v9 main_v10
  let main_c_3 : IVec S_ 1 := constantI S_ 1 1#1
  let main_v12 : IVec S_ 1 := (fun x v => Host.reduce IntOp.andi x v reducesTo_S1x2048x8512_S_d0_1_2 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg4 main_arg5 main_arg6 main_arg7 main_v13 main_v16
-- ==== Kernel.lean ====
abbrev S8x4096x2048 : Shape := ⟨3, ![8, 4096, 2048]⟩
abbrev S1x2048 : Shape := ⟨2, ![1, 2048]⟩
abbrev S1x2048x8512 : Shape := ⟨3, ![1, 2048, 8512]⟩
abbrev S1x768 : Shape := ⟨2, ![1, 768]⟩
abbrev S1x768x1536 : Shape := ⟨3, ![1, 768, 1536]⟩
abbrev S1x8x128x512 : Shape := ⟨4, ![1, 8, 128, 512]⟩
abbrev S1x8x512x128 : Shape := ⟨4, ![1, 8, 512, 128]⟩
abbrev S1x512 : Shape := ⟨2, ![1, 512]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S32768x2048 : Shape := ⟨2, ![32768, 2048]⟩
abbrev S2048x8512 : Shape := ⟨2, ![2048, 8512]⟩
abbrev S768x1536 : Shape := ⟨2, ![768, 1536]⟩
abbrev S768x8x192 : Shape := ⟨3, ![768, 8, 192]⟩
abbrev S2048x3072 : Shape := ⟨2, ![2048, 3072]⟩
abbrev S2048x768 : Shape := ⟨2, ![2048, 768]⟩
abbrev S2048x512 : Shape := ⟨2, ![2048, 512]⟩
abbrev S2048x64 : Shape := ⟨2, ![2048, 64]⟩
abbrev S2048x32 : Shape := ⟨2, ![2048, 32]⟩
abbrev S2048x128 : Shape := ⟨2, ![2048, 128]⟩
abbrev S2048x640 : Shape := ⟨2, ![2048, 640]⟩
abbrev S768x8x128 : Shape := ⟨3, ![768, 8, 128]⟩
abbrev S768x1024 : Shape := ⟨2, ![768, 1024]⟩
abbrev S768x8x64 : Shape := ⟨3, ![768, 8, 64]⟩
abbrev S768x8x32 : Shape := ⟨3, ![768, 8, 32]⟩
abbrev S768x2048 : Shape := ⟨2, ![768, 2048]⟩
abbrev S8x128x512 : Shape := ⟨3, ![8, 128, 512]⟩
abbrev S512x8x128 : Shape := ⟨3, ![512, 8, 128]⟩
abbrev S512x1024 : Shape := ⟨2, ![512, 1024]⟩
abbrev S8x512x128 : Shape := ⟨3, ![8, 512, 128]⟩
abbrev S512x2048 : Shape := ⟨2, ![512, 2048]⟩
abbrev S32768x1024 : Shape := ⟨2, ![32768, 1024]⟩
abbrev S32768x128 : Shape := ⟨2, ![32768, 128]⟩
abbrev S32768x512 : Shape := ⟨2, ![32768, 512]⟩
abbrev S32768x64 : Shape := ⟨2, ![32768, 64]⟩
abbrev S4096x1024 : Shape := ⟨2, ![4096, 1024]⟩
abbrev S256x2048 : Shape := ⟨2, ![256, 2048]⟩
abbrev S256x128 : Shape := ⟨2, ![256, 128]⟩
abbrev S256x1024 : Shape := ⟨2, ![256, 1024]⟩
abbrev S256x512 : Shape := ⟨2, ![256, 512]⟩
abbrev S256x64 : Shape := ⟨2, ![256, 64]⟩
abbrev S256 : Shape := ⟨1, ![256]⟩
abbrev S256x1 : Shape := ⟨2, ![256, 1]⟩
abbrev S256x768 : Shape := ⟨2, ![256, 768]⟩
abbrev S256x640 : Shape := ⟨2, ![256, 640]⟩
abbrev S2048x1024 : Shape := ⟨2, ![2048, 1024]⟩
abbrev S8x4096x1024 : Shape := ⟨3, ![8, 4096, 1024]⟩
abbrev S8x4096x128 : Shape := ⟨3, ![8, 4096, 128]⟩
abbrev S1x4096x128 : Shape := ⟨3, ![1, 4096, 128]⟩
abbrev S512x512 : Shape := ⟨2, ![512, 512]⟩
abbrev S1024x128 : Shape := ⟨2, ![1024, 128]⟩
abbrev S1x512x128 : Shape := ⟨3, ![1, 512, 128]⟩
abbrev S512x128 : Shape := ⟨2, ![512, 128]⟩
abbrev S512x256 : Shape := ⟨2, ![512, 256]⟩
abbrev S512x1 : Shape := ⟨2, ![512, 1]⟩
abbrev S512 : Shape := ⟨1, ![512]⟩
abbrev S1x1024x128 : Shape := ⟨3, ![1, 1024, 128]⟩
abbrev S1024x256 : Shape := ⟨2, ![1024, 256]⟩

abbrev nBuf : Space → Nat
  | .hbm => 78
  | .vmem => 52
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x8512, .f32⟩
  | .hbm, ⟨3, _⟩ => ⟨S1x768, .f32⟩
  | .hbm, ⟨4, _⟩ => ⟨S1x768x1536, .f32⟩
  | .hbm, ⟨5, _⟩ => ⟨S1x8x128x512, .f32⟩
  | .hbm, ⟨6, _⟩ => ⟨S1x8x512x128, .f32⟩
  | .hbm, ⟨7, _⟩ => ⟨S1x512, .f32⟩
  | .hbm, ⟨8, _⟩ => ⟨S4096, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x128, .f32⟩
  | .hbm, ⟨27, _⟩ => ⟨S32768x2048, .f32⟩
  | .hbm, ⟨28, _⟩ => ⟨S2048x8512, .f32⟩
  | .hbm, ⟨29, _⟩ => ⟨S768x1536, .f32⟩
  | .hbm, ⟨30, _⟩ => ⟨S768x8x192, .f32⟩
  | .hbm, ⟨31, _⟩ => ⟨S2048x3072, .f32⟩
  | .hbm, ⟨32, _⟩ => ⟨S2048x3072, .bf16⟩
  | .hbm, ⟨33, _⟩ => ⟨S2048x768, .f32⟩
  | .hbm, ⟨34, _⟩ => ⟨S2048x768, .bf16⟩
  | .hbm, ⟨35, _⟩ => ⟨S2048x512, .f32⟩
  | .hbm, ⟨36, _⟩ => ⟨S2048x64, .f32⟩
  | .hbm, ⟨37, _⟩ => ⟨S2048x32, .f32⟩
  | .hbm, ⟨38, _⟩ => ⟨S2048x32, .f32⟩
  | .hbm, ⟨39, _⟩ => ⟨S2048x128, .f32⟩
  | .hbm, ⟨40, _⟩ => ⟨S2048x640, .f32⟩
  | .hbm, ⟨41, _⟩ => ⟨S2048x640, .bf16⟩
  | .hbm, ⟨42, _⟩ => ⟨S768x8x128, .f32⟩
  | .hbm, ⟨43, _⟩ => ⟨S768x1024, .f32⟩
  | .hbm, ⟨44, _⟩ => ⟨S768x8x64, .f32⟩
  | .hbm, ⟨45, _⟩ => ⟨S768x8x32, .f32⟩
  | .hbm, ⟨46, _⟩ => ⟨S768x8x32, .f32⟩
  | .hbm, ⟨47, _⟩ => ⟨S768x8x128, .f32⟩
  | .hbm, ⟨48, _⟩ => ⟨S768x1024, .f32⟩
  | .hbm, ⟨49, _⟩ => ⟨S768x2048, .f32⟩
  | .hbm, ⟨50, _⟩ => ⟨S768x2048, .bf16⟩
  | .hbm, ⟨51, _⟩ => ⟨S8x128x512, .f32⟩
  | .hbm, ⟨52, _⟩ => ⟨S512x8x128, .f32⟩
  | .hbm, ⟨53, _⟩ => ⟨S512x1024, .f32⟩
  | .hbm, ⟨54, _⟩ => ⟨S8x512x128, .f32⟩
  | .hbm, ⟨55, _⟩ => ⟨S512x8x128, .f32⟩
  | .hbm, ⟨56, _⟩ => ⟨S512x1024, .f32⟩
  | .hbm, ⟨57, _⟩ => ⟨S512x2048, .f32⟩
  | .hbm, ⟨58, _⟩ => ⟨S512x2048, .bf16⟩
  | .hbm, ⟨59, _⟩ => ⟨S32768x1024, .bf16⟩
  | .hbm, ⟨60, _⟩ => ⟨S32768x1024, .bf16⟩
  | .hbm, ⟨61, _⟩ => ⟨S32768x1024, .bf16⟩
  | .hbm, ⟨62, _⟩ => ⟨S32768x1024, .bf16⟩
  | .hbm, ⟨63, _⟩ => ⟨S32768x1024, .bf16⟩
  | .hbm, ⟨64, _⟩ => ⟨S32768x1024, .bf16⟩
  | .hbm, ⟨65, _⟩ => ⟨S32768x1024, .bf16⟩
  | .hbm, ⟨66, _⟩ => ⟨S32768x128, .bf16⟩
  | .hbm, ⟨67, _⟩ => ⟨S32768x512, .f32⟩
  | .hbm, ⟨68, _⟩ => ⟨S32768x64, .f32⟩
  | .hbm, ⟨69, _⟩ => ⟨S4096x1024, .f32⟩
  | .hbm, ⟨70, _⟩ => ⟨S4096x1024, .f32⟩
  | .hbm, ⟨71, _⟩ => ⟨S32768x2048, .bf16⟩
  | .hbm, ⟨72, _⟩ => ⟨S8x4096x1024, .bf16⟩
  | .hbm, ⟨73, _⟩ => ⟨S8x4096x1024, .bf16⟩
  | .hbm, ⟨74, _⟩ => ⟨S8x4096x1024, .bf16⟩
  | .hbm, ⟨75, _⟩ => ⟨S8x4096x128, .bf16⟩
  | .hbm, ⟨76, _⟩ => ⟨S8x4096x1024, .bf16⟩
  | .hbm, ⟨77, _⟩ => ⟨S8x4096x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x128, .f32⟩
  | .local _ .vmem, ⟨4, _⟩ => ⟨S256x128, .f32⟩
  | .local _ .vmem, ⟨5, _⟩ => ⟨S2048x3072, .bf16⟩
  | .local _ .vmem, ⟨6, _⟩ => ⟨S2048x768, .bf16⟩
  | .local _ .vmem, ⟨7, _⟩ => ⟨S2048x640, .bf16⟩
  | .local _ .vmem, ⟨8, _⟩ => ⟨S1x768, .f32⟩
  | .local _ .vmem, ⟨9, _⟩ => ⟨S1x512, .f32⟩
  | .local _ .vmem, ⟨10, _⟩ => ⟨S768x2048, .bf16⟩
  | .local _ .vmem, ⟨11, _⟩ => ⟨S512x2048, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x128, .bf16⟩
  | .local _ .vmem, ⟨27, _⟩ => ⟨S256x128, .bf16⟩
  | .local _ .vmem, ⟨28, _⟩ => ⟨S256x512, .f32⟩
  | .local _ .vmem, ⟨29, _⟩ => ⟨S256x512, .f32⟩
  | .local _ .vmem, ⟨30, _⟩ => ⟨S256x64, .f32⟩
  | .local _ .vmem, ⟨31, _⟩ => ⟨S256x64, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x2048, .bf16⟩
  | .local _ .vmem, ⟨37, _⟩ => ⟨S256x2048, .bf16⟩
  | .local _ .vmem, ⟨38, _⟩ => ⟨S1x4096x128, .bf16⟩
  | .local _ .vmem, ⟨39, _⟩ => ⟨S1x4096x128, .bf16⟩
  | .local _ .vmem, ⟨40, _⟩ => ⟨S1x4096x128, .bf16⟩
  | .local _ .vmem, ⟨41, _⟩ => ⟨S1x4096x128, .bf16⟩
  | .local _ .vmem, ⟨42, _⟩ => ⟨S1x4096x128, .bf16⟩
  | .local _ .vmem, ⟨43, _⟩ => ⟨S1x4096x128, .bf16⟩
  | .local _ .vmem, ⟨44, _⟩ => ⟨S1x4096x128, .bf16⟩
  | .local _ .vmem, ⟨45, _⟩ => ⟨S1x4096x128, .bf16⟩
  | .local _ .vmem, ⟨46, _⟩ => ⟨S1x4096x128, .bf16⟩
  | .local _ .vmem, ⟨47, _⟩ => ⟨S1x4096x128, .bf16⟩
  | .local _ .vmem, ⟨48, _⟩ => ⟨S1x4096x128, .bf16⟩
  | .local _ .vmem, ⟨49, _⟩ => ⟨S1x4096x128, .bf16⟩
  | .local _ .vmem, ⟨50, _⟩ => ⟨S512x1024, .f32⟩
  | .local _ .vmem, ⟨51, _⟩ => ⟨S512x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49_0 : Ref sig .tc := ⟨.hbm, 59, rfl⟩
abbrev main_v49_1 : Ref sig .tc := ⟨.hbm, 60, rfl⟩
abbrev main_v49_2 : Ref sig .tc := ⟨.hbm, 61, rfl⟩
abbrev main_v49_3 : Ref sig .tc := ⟨.hbm, 62, rfl⟩
abbrev main_v49_4 : Ref sig .tc := ⟨.hbm, 63, rfl⟩
abbrev main_v49_5 : Ref sig .tc := ⟨.hbm, 64, rfl⟩
abbrev main_v49_6 : Ref sig .tc := ⟨.hbm, 65, rfl⟩
abbrev main_v49_7 : Ref sig .tc := ⟨.hbm, 66, rfl⟩
abbrev main_v49_8 : Ref sig .tc := ⟨.hbm, 67, rfl⟩
abbrev main_v49_9 : Ref sig .tc := ⟨.hbm, 68, rfl⟩
abbrev main_v49_10 : Ref sig .tc := ⟨.hbm, 69, rfl⟩
abbrev main_v49_11 : Ref sig .tc := ⟨.hbm, 70, rfl⟩
abbrev main_v49_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc1_stg0_0 : Ref sig .tc := ⟨.vmem, 38, rfl⟩
abbrev cc1_stg0_1 : Ref sig .tc := ⟨.vmem, 39, rfl⟩
abbrev cc1_stg1_0 : Ref sig .tc := ⟨.vmem, 40, rfl⟩
abbrev cc1_stg1_1 : Ref sig .tc := ⟨.vmem, 41, rfl⟩
abbrev cc1_stg2_0 : Ref sig .tc := ⟨.vmem, 42, rfl⟩
abbrev cc1_stg2_1 : Ref sig .tc := ⟨.vmem, 43, rfl⟩
abbrev cc1_stg3_0 : Ref sig .tc := ⟨.vmem, 44, rfl⟩
abbrev cc1_stg3_1 : Ref sig .tc := ⟨.vmem, 45, rfl⟩
abbrev cc1_stg4_0 : Ref sig .tc := ⟨.vmem, 46, rfl⟩
abbrev cc1_stg4_1 : Ref sig .tc := ⟨.vmem, 47, rfl⟩
abbrev cc1_stg5_0 : Ref sig .tc := ⟨.vmem, 48, rfl⟩
abbrev cc1_stg5_1 : Ref sig .tc := ⟨.vmem, 49, rfl⟩
abbrev cc1_scratch0 : Ref sig .tc := ⟨.vmem, 50, rfl⟩
abbrev cc1_scratch1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc1_sem0_0 : DmaSem sig := 38
abbrev cc1_sem0_1 : DmaSem sig := 39
abbrev cc1_sem1_0 : DmaSem sig := 40
abbrev cc1_sem1_1 : DmaSem sig := 41
abbrev cc1_sem2_0 : DmaSem sig := 42
abbrev cc1_sem2_1 : DmaSem sig := 43
abbrev cc1_sem3_0 : DmaSem sig := 44
abbrev cc1_sem3_1 : DmaSem sig := 45
abbrev cc1_sem4_0 : DmaSem sig := 46
abbrev cc1_sem4_1 : DmaSem sig := 47
abbrev cc1_sem5_0 : DmaSem sig := 48
abbrev cc1_sem5_1 : DmaSem sig := 49

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c14_i32 : BitVec 32 := 14#32
  let v28 : BitVec 32 := Scalar.subi v27 c14_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  ![v30.toNat, c0_i32_11.toNat]

def cc0_transform_21 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c14_i32 : BitVec 32 := 14#32
  let v28 : BitVec 32 := Scalar.subi v27 c14_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  ![v30.toNat, c0_i32_11.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "a_scale_log2e" => some (((Real.sqrt 128)⁻¹ * (Real.log 2)⁻¹ : ℝ) : EReal)
  | "mask" => some ⊥
  | "mla_scale_log2e" => some (((Real.sqrt 192)⁻¹ * (Real.log 2)⁻¹ : ℝ) : EReal)
  | _ => none
-- ==== ReferenceIdeal.lean ====
abbrev S8x4096x2048 : Shape := ⟨3, ![8, 4096, 2048]⟩
abbrev S1x2048 : Shape := ⟨2, ![1, 2048]⟩
abbrev S1x2048x8512 : Shape := ⟨3, ![1, 2048, 8512]⟩
abbrev S1x768 : Shape := ⟨2, ![1, 768]⟩
abbrev S1x768x1536 : Shape := ⟨3, ![1, 768, 1536]⟩
abbrev S1x8x128x512 : Shape := ⟨4, ![1, 8, 128, 512]⟩
abbrev S1x8x512x128 : Shape := ⟨4, ![1, 8, 512, 128]⟩
abbrev S1x512 : Shape := ⟨2, ![1, 512]⟩
abbrev S4096 : Shape := ⟨1, ![4096]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x8512 : Shape := ⟨2, ![2048, 8512]⟩
abbrev S8x4096x8512 : Shape := ⟨3, ![8, 4096, 8512]⟩
abbrev S8x4096x1024 : Shape := ⟨3, ![8, 4096, 1024]⟩
abbrev S8x4096x8x128 : Shape := ⟨4, ![8, 4096, 8, 128]⟩
abbrev S8x4096x768 : Shape := ⟨3, ![8, 4096, 768]⟩
abbrev S8x4096x512 : Shape := ⟨3, ![8, 4096, 512]⟩
abbrev S8x4096x64 : Shape := ⟨3, ![8, 4096, 64]⟩
abbrev S768 : Shape := ⟨1, ![768]⟩
abbrev S1x1x768 : Shape := ⟨3, ![1, 1, 768]⟩
abbrev S768x1536 : Shape := ⟨2, ![768, 1536]⟩
abbrev S8x4096x1536 : Shape := ⟨3, ![8, 4096, 1536]⟩
abbrev S8x4096x8x192 : Shape := ⟨4, ![8, 4096, 8, 192]⟩
abbrev S8x4096x8x64 : Shape := ⟨4, ![8, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S8x128x512 : Shape := ⟨3, ![8, 128, 512]⟩
abbrev S8x512x8x4096 : Shape := ⟨4, ![8, 512, 8, 4096]⟩
abbrev S8x4096x8x512 : Shape := ⟨4, ![8, 4096, 8, 512]⟩
abbrev S512 : Shape := ⟨1, ![512]⟩
abbrev S1x1x512 : Shape := ⟨3, ![1, 1, 512]⟩
abbrev S1x4096x32 : Shape := ⟨3, ![1, 4096, 32]⟩
abbrev S8x4096x32 : Shape := ⟨3, ![8, 4096, 32]⟩
abbrev S1x4096 : Shape := ⟨2, ![1, 4096]⟩
abbrev S4096x4096 : Shape := ⟨2, ![4096, 4096]⟩
abbrev S8x512x128 : Shape := ⟨3, ![8, 512, 128]⟩
abbrev S8x4096x4096x8 : Shape := ⟨4, ![8, 4096, 4096, 8]⟩
abbrev S8x8x4096x4096 : Shape := ⟨4, ![8, 8, 4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x128x8x4096 : Shape := ⟨4, ![8, 128, 8, 4096]⟩
abbrev S8x512x8x128 : Shape := ⟨4, ![8, 512, 8, 128]⟩
abbrev S4096x1024 : Shape := ⟨2, ![4096, 1024]⟩
abbrev S32768x512 : Shape := ⟨2, ![32768, 512]⟩
abbrev S32768x64 : Shape := ⟨2, ![32768, 64]⟩
abbrev S32768x1024 : Shape := ⟨2, ![32768, 1024]⟩
abbrev S32768x2048 : Shape := ⟨2, ![32768, 2048]⟩

abbrev nBuf : Space → Nat
  | .hbm => 221
  | .vmem => 0
  | .smem => 0
  | _ => 0

abbrev hbmTy0_0 (i : Nat) : BufTy := match i % 128 with
  | 0 => ⟨S8x4096x2048, .f32⟩
  | 1 => ⟨S1x2048, .f32⟩
  | 2 => ⟨S1x2048x8512, .f32⟩
  | 3 => ⟨S1x768, .f32⟩
  | 4 => ⟨S1x768x1536, .f32⟩
  | 5 => ⟨S1x8x128x512, .f32⟩
  | 6 => ⟨S1x8x512x128, .f32⟩
  | 7 => ⟨S1x512, .f32⟩
  | 8 => ⟨S4096, .i32⟩
  | 9 => ⟨S2048, .f32⟩
  | 10 => ⟨S8x4096x2048, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x2048, .f32⟩
  | 22 => ⟨S8x4096x2048, .f32⟩
  | 23 => ⟨S1x1x2048, .f32⟩
  | 24 => ⟨S8x4096x2048, .f32⟩
  | 25 => ⟨S8x4096x2048, .f32⟩
  | 26 => ⟨S2048x8512, .f32⟩
  | 27 => ⟨S8x4096x8512, .f32⟩
  | 28 => ⟨S8x4096x1024, .f32⟩
  | 29 => ⟨S8x4096x8x128, .f32⟩
  | 30 => ⟨S8x4096x1024, .f32⟩
  | 31 => ⟨S8x4096x8x128, .f32⟩
  | 32 => ⟨S8x4096x768, .f32⟩
  | 33 => ⟨S8x4096x512, .f32⟩
  | 34 => ⟨S8x4096x64, .f32⟩
  | 35 => ⟨S768, .f32⟩
  | 36 => ⟨S8x4096x768, .f32⟩
  | 37 => ⟨S_, .f32⟩
  | 38 => ⟨S8x4096, .f32⟩
  | 39 => ⟨S8x4096x1, .f32⟩
  | 40 => ⟨S_, .f32⟩
  | 41 => ⟨S8x4096x1, .f32⟩
  | 42 => ⟨S8x4096x1, .f32⟩
  | 43 => ⟨S_, .f32⟩
  | 44 => ⟨S8x4096x1, .f32⟩
  | 45 => ⟨S8x4096x1, .f32⟩
  | 46 => ⟨S8x4096x1, .f32⟩
  | 47 => ⟨S8x4096x768, .f32⟩
  | 48 => ⟨S8x4096x768, .f32⟩
  | 49 => ⟨S1x1x768, .f32⟩
  | 50 => ⟨S8x4096x768, .f32⟩
  | 51 => ⟨S8x4096x768, .f32⟩
  | 52 => ⟨S768x1536, .f32⟩
  | 53 => ⟨S8x4096x1536, .f32⟩
  | 54 => ⟨S8x4096x8x192, .f32⟩
  | 55 => ⟨S8x4096x8x64, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S4096, .f32⟩
  | 65 => ⟨S4096x1, .f32⟩
  | 66 => ⟨S1x32, .f32⟩
  | 67 => ⟨S4096x32, .f32⟩
  | 68 => ⟨S4096x32, .f32⟩
  | 69 => ⟨S4096x32, .f32⟩
  | 70 => ⟨S4096x32, .f32⟩
  | 71 => ⟨S1x4096x1x32, .f32⟩
  | 72 => ⟨S4096x32, .f32⟩
  | 73 => ⟨S1x4096x1x32, .f32⟩
  | 74 => ⟨S8x4096x8x32, .f32⟩
  | 75 => ⟨S8x4096x8x32, .f32⟩
  | 76 => ⟨S8x4096x8x32, .f32⟩
  | 77 => ⟨S8x4096x8x32, .f32⟩
  | 78 => ⟨S8x4096x8x32, .f32⟩
  | 79 => ⟨S8x4096x8x32, .f32⟩
  | 80 => ⟨S8x4096x8x32, .f32⟩
  | 81 => ⟨S8x4096x8x32, .f32⟩
  | 82 => ⟨S8x4096x8x32, .f32⟩
  | 83 => ⟨S8x4096x8x32, .f32⟩
  | 84 => ⟨S8x4096x8x32, .f32⟩
  | 85 => ⟨S8x4096x8x32, .f32⟩
  | 86 => ⟨S8x4096x8x64, .f32⟩
  | 87 => ⟨S8x4096x8x128, .f32⟩
  | 88 => ⟨S8x128x512, .f32⟩
  | 89 => ⟨S8x512x8x4096, .f32⟩
  | 90 => ⟨S8x4096x8x512, .f32⟩
  | 91 => ⟨S512, .f32⟩
  | 92 => ⟨S8x4096x512, .f32⟩
  | 93 => ⟨S_, .f32⟩
  | 94 => ⟨S8x4096, .f32⟩
  | 95 => ⟨S8x4096x1, .f32⟩
  | 96 => ⟨S_, .f32⟩
  | 97 => ⟨S8x4096x1, .f32⟩
  | 98 => ⟨S8x4096x1, .f32⟩
  | 99 => ⟨S_, .f32⟩
  | 100 => ⟨S8x4096x1, .f32⟩
  | 101 => ⟨S8x4096x1, .f32⟩
  | 102 => ⟨S8x4096x1, .f32⟩
  | 103 => ⟨S8x4096x512, .f32⟩
  | 104 => ⟨S8x4096x512, .f32⟩
  | 105 => ⟨S1x1x512, .f32⟩
  | 106 => ⟨S8x4096x512, .f32⟩
  | 107 => ⟨S8x4096x512, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S4096, .f32⟩
  | 117 => ⟨S4096x1, .f32⟩
  | 118 => ⟨S1x32, .f32⟩
  | 119 => ⟨S4096x32, .f32⟩
  | 120 => ⟨S4096x32, .f32⟩
  | 121 => ⟨S4096x32, .f32⟩
  | 122 => ⟨S4096x32, .f32⟩
  | 123 => ⟨S1x4096x32, .f32⟩
  | 124 => ⟨S4096x32, .f32⟩
  | 125 => ⟨S1x4096x32, .f32⟩
  | 126 => ⟨S8x4096x32, .f32⟩
  | 127 => ⟨S8x4096x32, .f32⟩
  | _ => ⟨S8x4096x2048, .f32⟩

abbrev hbmTy0_1 (i : Nat) : BufTy := match i % 128 with
  | 0 => ⟨S8x4096x32, .f32⟩
  | 1 => ⟨S8x4096x32, .f32⟩
  | 2 => ⟨S8x4096x32, .f32⟩
  | 3 => ⟨S8x4096x32, .f32⟩
  | 4 => ⟨S8x4096x32, .f32⟩
  | 5 => ⟨S8x4096x32, .f32⟩
  | 6 => ⟨S8x4096x32, .f32⟩
  | 7 => ⟨S8x4096x32, .f32⟩
  | 8 => ⟨S8x4096x32, .f32⟩
  | 9 => ⟨S8x4096x32, .f32⟩
  | 10 => ⟨S8x4096x64, .f32⟩
  | 11 => ⟨S4096, .i32⟩
  | 12 => ⟨S_, .i32⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S4096, .i32⟩
  | 21 => ⟨S4096, .i32⟩
  | 22 => ⟨S_, .i32⟩
  | 23 => ⟨S4096, .i32⟩
  | 24 => ⟨S4096, .i1⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S1x4096, .i32⟩
  | 32 => ⟨S4096x4096, .i32⟩
  | 33 => ⟨S4096x4096, .i32⟩
  | 34 => ⟨S4096x4096, .i1⟩
  | 35 => ⟨S8x512x128, .f32⟩
  | 36 => ⟨S8x4096x4096x8, .f32⟩
  | 37 => ⟨S8x8x4096x4096, .f32⟩
  | 38 => ⟨S8x4096x4096x8, .f32⟩
  | 39 => ⟨S8x8x4096x4096, .f32⟩
  | 40 => ⟨S8x8x4096x4096, .f32⟩
  | 41 => ⟨S_, .f32⟩
  | 42 => ⟨S_, .f32⟩
  | 43 => ⟨S8x8x4096x4096, .f32⟩
  | 44 => ⟨S8x8x4096x4096, .f32⟩
  | 45 => ⟨S1x1x4096x4096, .i1⟩
  | 46 => ⟨S_, .f32⟩
  | 47 => ⟨S_, .f32⟩
  | 48 => ⟨S8x8x4096x4096, .i1⟩
  | 49 => ⟨S8x8x4096x4096, .f32⟩
  | 50 => ⟨S8x8x4096x4096, .f32⟩
  | 51 => ⟨S_, .f32⟩
  | 52 => ⟨S8x8x4096, .f32⟩
  | 53 => ⟨S_, .f32⟩
  | 54 => ⟨S8x8x4096, .f32⟩
  | 55 => ⟨S8x8x4096, .f32⟩
  | 56 => ⟨S8x8x4096x1, .f32⟩
  | 57 => ⟨S8x8x4096x4096, .f32⟩
  | 58 => ⟨S8x8x4096x4096, .f32⟩
  | 59 => ⟨S8x8x4096x4096, .f32⟩
  | 60 => ⟨S_, .f32⟩
  | 61 => ⟨S8x8x4096, .f32⟩
  | 62 => ⟨S8x8x4096x1, .f32⟩
  | 63 => ⟨S8x8x4096x4096, .f32⟩
  | 64 => ⟨S8x8x4096x4096, .f32⟩
  | 65 => ⟨S8x512x8x4096, .f32⟩
  | 66 => ⟨S8x4096x8x512, .f32⟩
  | 67 => ⟨S8x128x8x4096, .f32⟩
  | 68 => ⟨S8x4096x8x128, .f32⟩
  | 69 => ⟨S8x4096x1024, .f32⟩
  | 70 => ⟨S8x4096x1024, .bf16⟩
  | 71 => ⟨S8x512x8x128, .f32⟩
  | 72 => ⟨S4096x1024, .f32⟩
  | 73 => ⟨S8x512x8x128, .f32⟩
  | 74 => ⟨S4096x1024, .f32⟩
  | 75 => ⟨S32768x512, .f32⟩
  | 76 => ⟨S32768x64, .f32⟩
  | 77 => ⟨S8x4096x1024, .f32⟩
  | 78 => ⟨S_, .f32⟩
  | 79 => ⟨S_, .f32⟩
  | 80 => ⟨S_, .f32⟩
  | 81 => ⟨S_, .f32⟩
  | 82 => ⟨S_, .f32⟩
  | 83 => ⟨S8x4096x1024, .f32⟩
  | 84 => ⟨S8x4096x1024, .f32⟩
  | 85 => ⟨S32768x1024, .f32⟩
  | 86 => ⟨S32768x1024, .bf16⟩
  | 87 => ⟨S32768x1024, .f32⟩
  | 88 => ⟨S32768x1024, .bf16⟩
  | 89 => ⟨S32768x1024, .f32⟩
  | 90 => ⟨S32768x1024, .bf16⟩
  | 91 => ⟨S32768x2048, .f32⟩
  | 92 => ⟨S32768x2048, .bf16⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_7 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_10 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_c : Ref sig .tc := ⟨.hbm, 140, rfl⟩
abbrev main_call0_v0 : Ref sig .tc := ⟨.hbm, 141, rfl⟩
abbrev main_call0_v1 : Ref sig .tc := ⟨.hbm, 142, rfl⟩
abbrev main_call0_v2 : Ref sig .tc := ⟨.hbm, 143, rfl⟩
abbrev main_call0_v3 : Ref sig .tc := ⟨.hbm, 144, rfl⟩
abbrev main_call0_v4 : Ref sig .tc := ⟨.hbm, 145, rfl⟩
abbrev main_call0_v5 : Ref sig .tc := ⟨.hbm, 146, rfl⟩
abbrev main_call0_v6 : Ref sig .tc := ⟨.hbm, 147, rfl⟩
abbrev main_call0_v7 : Ref sig .tc := ⟨.hbm, 148, rfl⟩
abbrev main_call0_v8 : Ref sig .tc := ⟨.hbm, 149, rfl⟩
abbrev main_call0_c : Ref sig .tc := ⟨.hbm, 150, rfl⟩
abbrev main_call0_v9 : Ref sig .tc := ⟨.hbm, 151, rfl⟩
abbrev main_call0_v10 : Ref sig .tc := ⟨.hbm, 152, rfl⟩
abbrev main_call0_v11 : Ref sig .tc := ⟨.hbm, 153, rfl⟩
abbrev main_call0_c_0 : Ref sig .tc := ⟨.hbm, 154, rfl⟩
abbrev main_call0_v12 : Ref sig .tc := ⟨.hbm, 155, rfl⟩
abbrev main_call0_v13 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_12 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_13 : Ref sig .tc := ⟨.hbm, 174, rfl⟩
abbrev main_call1_v0 : Ref sig .tc := ⟨.hbm, 175, rfl⟩
abbrev main_call1_v1 : Ref sig .tc := ⟨.hbm, 176, rfl⟩
abbrev main_call1_v2 : Ref sig .tc := ⟨.hbm, 177, rfl⟩
abbrev main_v135 : Ref sig .tc := ⟨.hbm, 178, rfl⟩
abbrev main_cst_14 : Ref sig .tc := ⟨.hbm, 179, rfl⟩
abbrev main_v136 : Ref sig .tc := ⟨.hbm, 180, rfl⟩
abbrev main_cst_15 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_16 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_17 : Ref sig .tc := ⟨.hbm, 206, rfl⟩
abbrev main_v160 : Ref sig .tc := ⟨.hbm, 207, rfl⟩
abbrev main_cst_18 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩

abbrev nD : Nat := 1
abbrev τ : Topo := Topo.v7x

variable {F : FTy → Type} [FloatOps F]
-- ==== Ffn.lean ====
abbrev S8x4096x2048 : Shape := ⟨3, ![8, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩

abbrev nBuf : Space → Nat
  | .hbm => 15
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S32768x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8x4096x2048 : Shape := ⟨3, ![8, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x5632 : Shape := ⟨2, ![2048, 5632]⟩
abbrev S5632x2048 : Shape := ⟨2, ![5632, 2048]⟩
abbrev S8x4096x5632 : Shape := ⟨3, ![8, 4096, 5632]⟩
abbrev S32768x2048 : Shape := ⟨2, ![32768, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S8x4096x5632, .f32⟩
  | .hbm, ⟨26, _⟩ => ⟨S8x4096x5632, .f32⟩
  | .hbm, ⟨27, _⟩ => ⟨S8x4096x5632, .f32⟩
  | .hbm, ⟨28, _⟩ => ⟨S_, .f32⟩
  | .hbm, ⟨29, _⟩ => ⟨S8x4096x5632, .f32⟩
  | .hbm, ⟨30, _⟩ => ⟨S8x4096x5632, .f32⟩
  | .hbm, ⟨31, _⟩ => ⟨S_, .f32⟩
  | .hbm, ⟨32, _⟩ => ⟨S8x4096x5632, .f32⟩
  | .hbm, ⟨33, _⟩ => ⟨S8x4096x5632, .f32⟩
  | .hbm, ⟨34, _⟩ => ⟨S8x4096x5632, .f32⟩
  | .hbm, ⟨35, _⟩ => ⟨S8x4096x5632, .f32⟩
  | .hbm, ⟨36, _⟩ => ⟨S8x4096x5632, .f32⟩
  | .hbm, ⟨37, _⟩ => ⟨S8x4096x2048, .f32⟩
  | .hbm, ⟨38, _⟩ => ⟨S_, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Merge.lean ====
abbrev S8x4096x2048 : Shape := ⟨3, ![8, 4096, 2048]⟩
abbrev S8x4096x8x128 : Shape := ⟨4, ![8, 4096, 8, 128]⟩
abbrev S1x2048x8512 : Shape := ⟨3, ![1, 2048, 8512]⟩
abbrev S1x1024x2048 : Shape := ⟨3, ![1, 1024, 2048]⟩
abbrev S1x2048x2048 : Shape := ⟨3, ![1, 2048, 2048]⟩
abbrev S2048x8512 : Shape := ⟨2, ![2048, 8512]⟩
abbrev S2048x2048 : Shape := ⟨2, ![2048, 2048]⟩
abbrev S1024x2048 : Shape := ⟨2, ![1024, 2048]⟩
abbrev S32768x2048 : Shape := ⟨2, ![32768, 2048]⟩
abbrev S32768x1024 : Shape := ⟨2, ![32768, 1024]⟩
abbrev S256x2048 : Shape := ⟨2, ![256, 2048]⟩
abbrev S1024x1024 : Shape := ⟨2, ![1024, 1024]⟩
abbrev S2048x512 : Shape := ⟨2, ![2048, 512]⟩
abbrev S1024x512 : Shape := ⟨2, ![1024, 512]⟩
abbrev S512x2048 : Shape := ⟨2, ![512, 2048]⟩
abbrev S512x512 : Shape := ⟨2, ![512, 512]⟩

abbrev nBuf : Space → Nat
  | .hbm => 27
  | .vmem => 20
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x4096x8x128, .f32⟩
  | .hbm, ⟨3, _⟩ => ⟨S8x4096x8x128, .f32⟩
  | .hbm, ⟨4, _⟩ => ⟨S1x2048x8512, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S2048x8512, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S2048x2048, .f32⟩
  | .hbm, ⟨18, _⟩ => ⟨S2048x2048, .bf16⟩
  | .hbm, ⟨19, _⟩ => ⟨S32768x2048, .f32⟩
  | .hbm, ⟨20, _⟩ => ⟨S32768x2048, .f32⟩
  | .hbm, ⟨21, _⟩ => ⟨S32768x2048, .bf16⟩
  | .hbm, ⟨22, _⟩ => ⟨S32768x1024, .f32⟩
  | .hbm, ⟨23, _⟩ => ⟨S32768x1024, .bf16⟩
  | .hbm, ⟨24, _⟩ => ⟨S32768x1024, .f32⟩
  | .hbm, ⟨25, _⟩ => ⟨S32768x1024, .bf16⟩
  | .hbm, ⟨26, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S512x2048, .bf16⟩
  | .local _ .vmem, ⟨17, _⟩ => ⟨S512x2048, .bf16⟩
  | .local _ .vmem, ⟨18, _⟩ => ⟨S1024x2048, .f32⟩
  | .local _ .vmem, ⟨19, _⟩ => ⟨S1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c256_i32 : BitVec 32 := 256#32
  let v55 : BitVec 32 := Scalar.muli arg1 c256_i32
  v55
def k0_off1 (i : grid0.Coords) : Fin 2 → Nat :=
  let arg1 : BitVec 32 := BitVec.ofNat 32 (i 1).val
  let c256_i32 : BitVec 32 := 256#32
  let v55 : BitVec 32 := Scalar.muli arg1 c256_i32
  let v56 : BitVec 32 := v55
  let v57 : Index := Scalar.indexCast v56
  let c0_42 : Index := 0#32
  ![v57.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MergeReferenceIdeal.lean ====
abbrev S8x4096x2048 : Shape := ⟨3, ![8, 4096, 2048]⟩
abbrev S8x4096x8x128 : Shape := ⟨4, ![8, 4096, 8, 128]⟩
abbrev S1x2048x8512 : Shape := ⟨3, ![1, 2048, 8512]⟩
abbrev S1x1024x2048 : Shape := ⟨3, ![1, 1024, 2048]⟩
abbrev S1x2048x2048 : Shape := ⟨3, ![1, 2048, 2048]⟩
abbrev S2048x8512 : Shape := ⟨2, ![2048, 8512]⟩
abbrev S8x4096x8512 : Shape := ⟨3, ![8, 4096, 8512]⟩
abbrev S_ : Shape := ⟨0, ![]⟩
abbrev S1024x2048 : Shape := ⟨2, ![1024, 2048]⟩
abbrev S2048x2048 : Shape := ⟨2, ![2048, 2048]⟩
abbrev S8x4096x1024 : Shape := ⟨3, ![8, 4096, 1024]⟩
abbrev S32768x2048 : Shape := ⟨2, ![32768, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x4096x8x128, .f32⟩
  | .hbm, ⟨3, _⟩ => ⟨S8x4096x8x128, .f32⟩
  | .hbm, ⟨4, _⟩ => ⟨S1x2048x8512, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S2048x8512, .f32⟩
  | .hbm, ⟨9, _⟩ => ⟨S8x4096x8512, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S_, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x4096x2048, .f32⟩
  | .hbm, ⟨24, _⟩ => ⟨S8x4096x2048, .f32⟩
  | .hbm, ⟨25, _⟩ => ⟨S_, .f32⟩
  | .hbm, ⟨26, _⟩ => ⟨S8x4096x2048, .f32⟩
  | .hbm, ⟨27, _⟩ => ⟨S8x4096x2048, .f32⟩
  | .hbm, ⟨28, _⟩ => ⟨S1024x2048, .f32⟩
  | .hbm, ⟨29, _⟩ => ⟨S1024x2048, .f32⟩
  | .hbm, ⟨30, _⟩ => ⟨S2048x2048, .f32⟩
  | .hbm, ⟨31, _⟩ => ⟨S8x4096x1024, .f32⟩
  | .hbm, ⟨32, _⟩ => ⟨S8x4096x2048, .f32⟩
  | .hbm, ⟨33, _⟩ => ⟨S8x4096x2048, .f32⟩
  | .hbm, ⟨34, _⟩ => ⟨S8x4096x1024, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Ple.lean ====
abbrev S8x4096x2048 : Shape := ⟨3, ![8, 4096, 2048]⟩
abbrev S1x8x4096x256 : Shape := ⟨4, ![1, 8, 4096, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S32768x2048 : Shape := ⟨2, ![32768, 2048]⟩
abbrev S1x32768x256 : Shape := ⟨3, ![1, 32768, 256]⟩
abbrev S2048x2048 : Shape := ⟨2, ![2048, 2048]⟩
abbrev S256x2048 : Shape := ⟨2, ![256, 2048]⟩
abbrev S512x2048 : Shape := ⟨2, ![512, 2048]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 16
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S1x8x4096x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S1x2048, .f32⟩
  | .hbm, ⟨7, _⟩ => ⟨S32768x2048, .f32⟩
  | .hbm, ⟨8, _⟩ => ⟨S1x32768x256, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S8x4096x2048 : Shape := ⟨3, ![8, 4096, 2048]⟩
abbrev S1x8x4096x256 : Shape := ⟨4, ![1, 8, 4096, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x2048 : Shape := ⟨2, ![2048, 2048]⟩
abbrev S8x4096x256 : Shape := ⟨3, ![8, 4096, 256]⟩
abbrev S256x2048 : Shape := ⟨2, ![256, 2048]⟩
abbrev S32768x2048 : Shape := ⟨2, ![32768, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S1x8x4096x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S2048x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x4096x2048, .f32⟩
  | .hbm, ⟨29, _⟩ => ⟨S8x4096x2048, .f32⟩
  | .hbm, ⟨30, _⟩ => ⟨S_, .f32⟩
  | .hbm, ⟨31, _⟩ => ⟨S8x4096x2048, .f32⟩
  | .hbm, ⟨32, _⟩ => ⟨S8x4096x2048, .f32⟩
  | .hbm, ⟨33, _⟩ => ⟨S8x4096x256, .f32⟩
  | .hbm, ⟨34, _⟩ => ⟨S256x2048, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S8x4096x2048, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x2048, .f32⟩
  | .hbm, ⟨50, _⟩ => ⟨S8x4096x2048, .f32⟩
  | .hbm, ⟨51, _⟩ => ⟨S1x1x2048, .f32⟩
  | .hbm, ⟨52, _⟩ => ⟨S8x4096x2048, .f32⟩
  | .hbm, ⟨53, _⟩ => ⟨S8x4096x2048, .f32⟩
  | .hbm, ⟨54, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.IdealIn.lean ====
/- Region 0 of @main, the input projection: its body, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_inproj` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0
abbrev r0_2 : Rect S256x128 := Rect.unit (s := S256x128) ![0, 0] S256x128.size inb_S256x128_S256x128_0_0
abbrev r0_3 : Rect S2048x768 := Rect.unit (s := S2048x768) ![0, 0] S2048x768.size inb_S2048x768_S2048x768_0_0
abbrev r0_4 : Rect S1x768 := Rect.unit (s := S1x768) ![0, 0] S1x768.size inb_S1x768_S1x768_0_0
abbrev r0_5 : Rect S768x2048 := Rect.unit (s := S768x2048) ![0, 0] S768x1024.size inb_S768x2048_S768x1024_0_0
abbrev r0_6 : Rect S256x1024 := Rect.unit (s := S256x1024) ![0, 0] S256x1024.size inb_S256x1024_S256x1024_0_0
abbrev r0_7 : Rect S768x2048 := Rect.unit (s := S768x2048) ![0, 1024] S768x1024.size inb_S768x2048_S768x1024_0_1024
abbrev r0_8 : Rect S2048x640 := Rect.unit (s := S2048x640) ![0, 0] S2048x640.size inb_S2048x640_S2048x640_0_0
abbrev r0_9 : Rect S1x512 := Rect.unit (s := S1x512) ![0, 0] S1x512.size inb_S1x512_S1x512_0_0
abbrev r0_10 : Rect S256x512 := Rect.unit (s := S256x512) ![0, 0] S256x512.size inb_S256x512_S256x512_0_0
abbrev r0_11 : Rect S256x64 := Rect.unit (s := S256x64) ![0, 0] S256x64.size inb_S256x64_S256x64_0_0
abbrev r0_12 : Rect S512x2048 := Rect.unit (s := S512x2048) ![0, 0] S512x2048.size inb_S512x2048_S512x2048_0_0
abbrev r0_13 : Rect S2048x3072 := Rect.unit (s := S2048x3072) ![0, 0] S2048x1024.size inb_S2048x3072_S2048x1024_0_0
abbrev r0_14 : Rect S2048x3072 := Rect.unit (s := S2048x3072) ![0, 1024] S2048x1024.size inb_S2048x3072_S2048x1024_0_1024
abbrev r0_15 : Rect S2048x3072 := Rect.unit (s := S2048x3072) ![0, 2048] S2048x1024.size inb_S2048x3072_S2048x1024_0_2048

/-! ## What the body leaves in each output window's buffer -/

/-! ### Values of the body that the stores' payloads, spelt out, would write more than once

    Each is a vector the body binds (often a part call's result), stated over the input windows' blocks and
    numbered on from the skeleton's payload functions (`k0_pay20` …, after `k0_pay19`), so that
    `out0_W` and the values after it name it instead of spelling it out (`unfold_out out0_W` opens a canon
    with them, `unfold_payloads` opens them with the payloads); the comment after each is the printed function's
    name for the value (a count appended where that name is bound again). -/

def k0_pay20 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : FVec F S256x2048 .bf16 :=
  k0_pay4 (View.ld x0 r0_0) (View.ld x1 r0_1) -- `v15`
def k0_pay21 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : FVec F S256x128 .f32 :=
  k0_pay5 (View.ld x2 r0_2) -- `v18`
def k0_pay22 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : FVec F S256x768 .bf16 :=
  k0_pay6 (View.ld x0 r0_0) (View.ld x1 r0_1) (View.ld x4 r0_3) (View.ld x6 r0_4) -- `v35`
def k0_pay23 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : FVec F S256x512 .f32 :=
  k0_pay10 (k0_pay20 x0 x1 x2 x3 x4 x5 x6 x7 x8 x9) (View.ld x5 r0_8) (View.ld x7 r0_9) -- `v70`
def k0_pay24 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : FVec F S256x128 .f32 :=
  k0_pay11 (k0_pay20 x0 x1 x2 x3 x4 x5 x6 x7 x8 x9) (View.ld x5 r0_8) -- `v72`
def k0_pay25 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : FVec F S256x1024 .f32 :=
  k0_pay19 (k0_pay20 x0 x1 x2 x3 x4 x5 x6 x7 x8 x9) (View.ld x3 r0_14) -- `v104`

/-- Window 10's staging buffer after the body, from the input windows' blocks: its 1 store as pieces, LAST
    FIRST . -/
def out0_10 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .bf16 :=
  View.canon [⟨r0_6, k0_pay18 (k0_pay20 x0 x1 x2 x3 x4 x5 x6 x7 x8 x9) (View.ld x3 r0_13)⟩]

/-- Its stores tile the buffer (checked by evaluation), so they cover it. -/
theorem cover0_10 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 11's staging buffer after the body, from the input windows' blocks: its 1 store as pieces, LAST
    FIRST . -/
def out0_11 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .bf16 :=
  View.canon [⟨r0_6, k0_pay1 (k0_pay25 x0 x1 x2 x3 x4 x5 x6 x7 x8 x9)⟩]

/-- Its stores tile the buffer (checked by evaluation), so they cover it. -/
theorem cover0_11 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 12's staging buffer after the body, from the input windows' blocks: its 1 store as pieces, LAST
    FIRST . -/
def out0_12 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .bf16 :=
  View.canon [⟨r0_6, k0_pay3 (k0_pay20 x0 x1 x2 x3 x4 x5 x6 x7 x8 x9) (View.ld x3 r0_15)⟩]

/-- Its stores tile the buffer (checked by evaluation), so they cover it. -/
theorem cover0_12 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 13's staging buffer after the body, from the input windows' blocks: its 1 store as pieces, LAST
    FIRST . -/
def out0_13 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .bf16 :=
  View.canon [⟨r0_6, k0_pay7 (k0_pay22 x0 x1 x2 x3 x4 x5 x6 x7 x8 x9) (View.ld x8 r0_5)⟩]

/-- Its stores tile the buffer (checked by evaluation), so they cover it. -/
theorem cover0_13 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 14's staging buffer after the body, from the input windows' blocks: its 1 store as pieces, LAST
    FIRST . -/
def out0_14 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .bf16 :=
  View.canon [⟨r0_6, k0_pay8 (k0_pay21 x0 x1 x2 x3 x4 x5 x6 x7 x8 x9) (k0_pay22 x0 x1 x2 x3 x4 x5 x6 x7 x8 x9) (View.ld x8 r0_7)⟩]

/-- Its stores tile the buffer (checked by evaluation), so they cover it. -/
theorem cover0_14 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 15's staging buffer after the body, from the input windows' blocks: its 1 store as pieces, LAST
    FIRST . -/
def out0_15 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .bf16 :=
  View.canon [⟨r0_6, k0_pay16 (k0_pay23 x0 x1 x2 x3 x4 x5 x6 x7 x8 x9) (View.ld x9 r0_12)⟩]

/-- Its stores tile the buffer (checked by evaluation), so they cover it. -/
theorem cover0_15 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 16's staging buffer after the body, from the input windows' blocks: its 1 store as pieces, LAST
    FIRST . -/
def out0_16 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .bf16 :=
  View.canon [⟨r0_6, k0_pay17 (k0_pay23 x0 x1 x2 x3 x4 x5 x6 x7 x8 x9) (View.ld x9 r0_12)⟩]

/-- Its stores tile the buffer (checked by evaluation), so they cover it. -/
theorem cover0_16 (p0 : Vec F S256x1024 .bf16) (y : S256x1024.Idx) :
    ∃ pc ∈ ([⟨r0_6, p0⟩] : List (View.Piece (Elt F) S256x1024 .bf16)), y ∈ pc.1.set :=
  View.cover_of_tiled [⟨r0_6, p0⟩] S256x1024.size (by rfl) y

/-- Window 17's staging buffer after the body, from the input windows' blocks: its 1 store as pieces, LAST
    FIRST . -/
def out0_17 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x128 .bf16 :=
  View.canon [⟨r0_2, k0_pay13 (k0_pay21 x0 x1 x2 x3 x4 x5 x6 x7 x8 x9) (k0_pay24 x0 x1 x2 x3 x4 x5 x6 x7 x8 x9)⟩]

/-- Its stores tile the buffer (checked by evaluation), so they cover it. -/
theorem cover0_17 (p0 : Vec F S256x128 .bf16) (y : S256x128.Idx) :
    ∃ pc ∈ ([⟨r0_2, p0⟩] : List (View.Piece (Elt F) S256x128 .bf16)), y ∈ pc.1.set :=
  View.cover_of_tiled [⟨r0_2, p0⟩] S256x128.size (by rfl) y

/-- Window 18's staging buffer after the body, from the input windows' blocks: its 1 store as pieces, LAST
    FIRST . -/
def out0_18 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x512 .f32 :=
  View.canon [⟨r0_10, k0_pay10 (k0_pay20 x0 x1 x2 x3 x4 x5 x6 x7 x8 x9) (View.ld x5 r0_8) (View.ld x7 r0_9)⟩]

/-- Its stores tile the buffer (checked by evaluation), so they cover it. -/
theorem cover0_18 (p0 : Vec F S256x512 .f32) (y : S256x512.Idx) :
    ∃ pc ∈ ([⟨r0_10, p0⟩] : List (View.Piece (Elt F) S256x512 .f32)), y ∈ pc.1.set :=
  View.cover_of_tiled [⟨r0_10, p0⟩] S256x512.size (by rfl) y

/-- Window 19's staging buffer after the body, from the input windows' blocks: its 1 store as pieces, LAST
    FIRST . -/
def out0_19 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x64 .f32 :=
  View.canon [⟨r0_11, k0_pay14 (k0_pay21 x0 x1 x2 x3 x4 x5 x6 x7 x8 x9) (k0_pay24 x0 x1 x2 x3 x4 x5 x6 x7 x8 x9)⟩]

/-- Its stores tile the buffer (checked by evaluation), so they cover it. -/
theorem cover0_19 (p0 : Vec F S256x64 .f32) (y : S256x64.Idx) :
    ∃ pc ∈ ([⟨r0_11, p0⟩] : List (View.Piece (Elt F) S256x64 .f32)), y ∈ pc.1.set :=
  View.cover_of_tiled [⟨r0_11, p0⟩] S256x64.size (by rfl) y

/-- Window 20's staging buffer after the body, from the input windows' blocks: its 1 store as pieces, LAST
    FIRST . -/
def out0_20 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .f32 :=
  View.canon [⟨r0_6, k0_pay25 x0 x1 x2 x3 x4 x5 x6 x7 x8 x9⟩]

/-- Its stores tile the buffer (checked by evaluation), so they cover it. -/
theorem cover0_20 (p0 : Vec F S256x1024 .f32) (y : S256x1024.Idx) :
    ∃ pc ∈ ([⟨r0_6, p0⟩] : List (View.Piece (Elt F) S256x1024 .f32)), y ∈ pc.1.set :=
  View.cover_of_tiled [⟨r0_6, p0⟩] S256x1024.size (by rfl) y

/-- Window 21's staging buffer after the body, from the input windows' blocks: its 1 store as pieces, LAST
    FIRST . -/
def out0_21 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x1024 .f32 :=
  View.canon [⟨r0_6, k0_pay2 (k0_pay20 x0 x1 x2 x3 x4 x5 x6 x7 x8 x9) (View.ld x3 r0_15)⟩]

/-- Its stores tile the buffer (checked by evaluation), so they cover it. -/
theorem cover0_21 (p0 : Vec F S256x1024 .f32) (y : S256x1024.Idx) :
    ∃ pc ∈ ([⟨r0_6, p0⟩] : List (View.Piece (Elt F) S256x1024 .f32)), y ∈ pc.1.set :=
  View.cover_of_tiled [⟨r0_6, p0⟩] S256x1024.size (by rfl) y

/-- Window 22's staging buffer after the body, from the input windows' blocks: its 1 store as pieces, LAST
    FIRST . -/
def out0_22 (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) : Vec F S256x2048 .bf16 :=
  View.canon [⟨r0_0, k0_pay4 (View.ld x0 r0_0) (View.ld x1 r0_1)⟩]

/-- Its stores tile the buffer (checked by evaluation), so they cover it. -/
theorem cover0_22 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel0 (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S256x128 .f32) (harg3 : arg3.IsWhole) (arg4 : Memref sig .tc .vmem S2048x3072 .bf16) (harg4 : arg4.IsWhole) (arg5 : Memref sig .tc .vmem S2048x768 .bf16) (harg5 : arg5.IsWhole) (arg6 : Memref sig .tc .vmem S2048x640 .bf16) (harg6 : arg6.IsWhole) (arg7 : Memref sig .tc .vmem S1x768 .f32) (harg7 : arg7.IsWhole) (arg8 : Memref sig .tc .vmem S1x512 .f32) (harg8 : arg8.IsWhole) (arg9 : Memref sig .tc .vmem S768x2048 .bf16) (harg9 : arg9.IsWhole) (arg10 : Memref sig .tc .vmem S512x2048 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x128 .bf16) (harg18 : arg18.IsWhole) (arg19 : Memref sig .tc .vmem S256x512 .f32) (harg19 : arg19.IsWhole) (arg20 : Memref sig .tc .vmem S256x64 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole)
    (x0 : Vec F S256x2048 .f32) (x1 : Vec F S1x2048 .f32) (x2 : Vec F S256x128 .f32) (x3 : Vec F S2048x3072 .bf16) (x4 : Vec F S2048x768 .bf16) (x5 : Vec F S2048x640 .bf16) (x6 : Vec F S1x768 .f32) (x7 : Vec F S1x512 .f32) (x8 : Vec F S768x2048 .bf16) (x9 : Vec F S512x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9) ∗ owns (c : Thread nD τ) arg14 fullShare (out0_13 x0 x1 x2 x3 x4 x5 x6 x7 x8 x9) ∗ owns (c : Thread nD τ) arg15 fullShare (out0_14 x0 x1 x2 x3 x4 x5 x6 x7 x8 x9) ∗ owns (c : Thread nD τ) arg16 fullShare (out0_15 x0 x1 x2 x3 x4 x5 x6 x7 x8 x9) ∗ owns (c : Thread nD τ) arg17 fullShare (out0_16 x0 x1 x2 x3 x4 x5 x6 x7 x8 x9) ∗ owns (c : Thread nD τ) arg18 fullShare (out0_17 x0 x1 x2 x3 x4 x5 x6 x7 x8 x9) ∗ owns (c : Thread nD τ) arg19 fullShare (out0_18 x0 x1 x2 x3 x4 x5 x6 x7 x8 x9) ∗ owns (c : Thread nD τ) arg20 fullShare (out0_19 x0 x1 x2 x3 x4 x5 x6 x7 x8 x9) ∗ owns (c : Thread nD τ) arg21 fullShare (out0_20 x0 x1 x2 x3 x4 x5 x6 x7 x8 x9) ∗ owns (c : Thread nD τ) arg22 fullShare (out0_21 x0 x1 x2 x3 x4 x5 x6 x7 x8 x9) ∗ owns (c : Thread nD τ) arg23 fullShare (out0_22 x0 x1 x2 x3 x4 x5 x6 x7 x8 x9)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_inproj_eq_skeleton]; unfold cc0_inproj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of pipeline 0 on core `c`: the arrays as the region finds them (`V`); after the body at
    point `t` each input's buffer at its block and each output's at `out0_W` of the input blocks; the invariant the
    class's ; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨_ + 23, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The windows' buffers before the body, one conjunct each, are what the body's triple takes. -/
theorem bodyPre0_of (c : Dev nD) (t : Fin cfg0.N) :
    iprop((dat0 (F := F) V c).Φ t.castSucc ∗ (dat0 V c).owesAt () t.castSucc
      ∗ bigSep Finset.univ fun w : Fin cfg0.W =>
          iprop(∃ d, owns (c : Thread nD τ) ((cfg0.win w).stage (cfg0.slots t w)) fullShare ((dat0 V c).before w t d)))
    ⊢ bodyPre0 V c t := by
  rw [bigSep_W0]; exact .rfl

/-- What the body's triple leaves is the windows' buffers after it, one conjunct each. -/
theorem bodyPost0_to (c : Dev nD) (t : Fin cfg0.N) :
    bodyPost0 V c t ⊢ iprop((dat0 (F := F) V c).Φ t.succ ∗ (dat0 V c).owesAt () t.succ
      ∗ bigSep Finset.univ fun w : Fin cfg0.W =>
          owns (c : Thread nD τ) ((cfg0.win w).stage (cfg0.slots t w)) fullShare ((dat0 V c).after w t)) := by
  rw [bigSep_W0]; exact .rfl

/-- The body obligation at every point, its two sides restated apart (twenty-three windows). -/
theorem body_obligation0 (c : Dev nD) : BodyObligation (dat0 (F := F) V c) (defs₀ (F := F)) Variants.none () Set.univ := fun t => by
  rw [defs₀_row0]
  exact triple_restated (sound_body0 V c t) rfl (bodyPre0_of V c t) fun _ => bodyPost0_to V c t

end Cert.KernelIdeal.Whole

end
-- ==== Proof.IdealMla.lean ====
/- Region 1 of @main, the latent attention: its body, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_mla_prompt` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 5, through which its contents are stated (`View.read_writes_of_cover`: the
    choice does not matter). -/
abbrev VO1_5 : View sig .tc .vmem S1x4096x128 .bf16 := (Memref.whole cc1_stg5_0 : Memref sig .tc .vmem S1x4096x128 .bf16).view
/-- Each window's current staging memref at point `t`, spelled as the pipeline passes it (`bodyAt1`), and its wholeness. -/
abbrev ms1_0 (t : Fin cfg1.N) : Memref sig .tc .vmem S1x4096x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096x128 .bf16 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S512x1024 .f32 := Memref.whole cc1_scratch0
abbrev scM1_1 : Memref sig .tc .vmem S512x1024 .f32 := Memref.whole cc1_scratch1

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ Pipeline.scopedRestBut spec1 c [cc1_scratch0, cc1_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Pipeline.scopedRestBut spec1 c [cc1_scratch0, cc1_scratch1]) ∗ (∃ r, prngReg c r)) := by
  unfold Pipeline.ΦA; rw [scopedRest1_flat]; simp only [scM1_0, scM1_1, owns_whole]; try rfl

-- (the run's proof term is large: the definition's epilogue — `abstractNestedProofs` — walks it past the default budget)
set_option maxHeartbeats 1108000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs ; the pieces are
    the witness that run finds (assigned when `iexact` hands the buffer to the continuation). -/
noncomputable def kernelRun1_A (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 : Vec F S1x4096x128 .bf16) (x1 : Vec F S1x4096x128 .bf16) (x2 : Vec F S1x4096x128 .bf16) (x3 : Vec F S1x4096x128 .bf16) (x4 : Vec F S1x4096x128 .bf16) :
    Σ' (L5 : List (View.Piece (Elt F) S1x4096x128 .bf16)), Σ' (LT0 : List (View.Piece (Elt F) S512x1024 .f32)), { LT1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc1_mla_prompt i arg2 harg2 arg3 harg3 arg4 harg4 arg5 harg5 arg6 harg6 arg7 harg7 arg8 harg8 arg9 harg9) K } := by
  refine ⟨?_, ?_, ?_, fun E K => ?run⟩
  case run =>
    simp only [cc1_mla_prompt_eq_skeleton]; unfold cc1_mla_prompt_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

/-- The run's pieces for output 5 tile its block (8 stores of `S1x512x128`, checked by the kernel's evaluation: Lib/Ring.lean `Piece.tiledL`, linear in the pieces, through a loop's `@[irreducible]` trip theorem too), so they cover it. -/
theorem cover1_A_5 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 : Vec F S1x4096x128 .bf16) (x1 : Vec F S1x4096x128 .bf16) (x2 : Vec F S1x4096x128 .bf16) (x3 : Vec F S1x4096x128 .bf16) (x4 : Vec F S1x4096x128 .bf16) (y : S1x4096x128.Idx) :
    ∃ pc ∈ (kernelRun1_A c i arg2 harg2 arg3 harg3 arg4 harg4 arg5 harg5 arg6 harg6 arg7 harg7 arg8 harg8 arg9 harg9 x0 x1 x2 x3 x4).1, y ∈ pc.1.set :=
  View.cover_of_tiledL (kernelRun1_A c i arg2 harg2 arg3 harg3 arg4 harg4 arg5 harg5 arg6 harg6 arg7 harg7 arg8 harg8 arg9 harg9 x0 x1 x2 x3 x4).1 S1x512x128.size (by sl_kernel_rfl) y

/-- What the run leaves in output 5's staging buffer: its pieces read back over junk. -/
def out1_A_5 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 : Vec F S1x4096x128 .bf16) (x1 : Vec F S1x4096x128 .bf16) (x2 : Vec F S1x4096x128 .bf16) (x3 : Vec F S1x4096x128 .bf16) (x4 : Vec F S1x4096x128 .bf16) : Vec F S1x4096x128 .bf16 :=
  VO1_5.read (Elt F) (VO1_5.writes (Elt F) VO1_5.junk (kernelRun1_A c i arg2 harg2 arg3 harg3 arg4 harg4 arg5 harg5 arg6 harg6 arg7 harg7 arg8 harg8 arg9 harg9 x0 x1 x2 x3 x4).1)

/-! ## What the outputs hold after each point -/

/-- What the outputs' staging buffers hold after the body at point `t`: the run's contents at
    the point's memrefs and input blocks. -/
def outsAt1 (c : Dev nD) (t : Fin cfg1.N) : Vec F S1x4096x128 .bf16 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (iblk1 V c 0 t) (iblk1 V c 1 t) (iblk1 V c 2 t) (iblk1 V c 3 t) (iblk1 V c 4 t)

/-! ## The pipeline's proof data -/

/-- The proof data of pipeline 1 on core `c`: the arrays as the region finds them (`V`); after the body at
    point `t` each input's buffer at its block and the outputs' at `outsAt1`; the invariant the class's
    ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  unfold out1_A_5
  iintro ⟨⟨⟨HS0, HS1, HR2⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, ⟨%fT0, HS0⟩, ⟨%fT1, HS1⟩⟩
  isplitl [HS0 HS1 HR2 Hg]
  · isplitl [HS0 HS1 HR2]
    · isplitl [HS0]
      · iexists _; unfold owns; iexists _; isplitr
        swap; · iexact HS0
        ipureintro; rfl
      isplitl [HS1]
      · iexists _; unfold owns; iexists _; isplitr
        swap; · iexact HS1
        ipureintro; rfl
      iexact HR2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_A_5 c _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.IdealRun.lean ====
/- The launch: @main as its segments, the fold of the buffer contents through them, and the run. -/
module

public import proofs.«01_k».proof.Proof.IdealIn
public import proofs.«01_k».proof.Proof.IdealMla
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_cst_0, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v50, main_v51, main_v52, main_v53, main_v54]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered . -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered . -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution terminates without a fault, with every
    unscoped buffer at the contents the fold through @main gives it and every semaphore counter at zero. -/
theorem run : θ_run defs (onTc (τ := τ) (main (F := F))) ⟨m, fun _ => 0, ρ⟩ (fun r =>
      (∀ c : Dev nD, ∀ b ∈ Pipeline.ucRefs τ sig, r.2.mem (c, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

/-- The argument arrays end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c),
       (h.1 c _ (mem_uc main_arg7 (by decide))).trans (W4_main_arg7 m ρ c)⟩, h.2⟩) (run m ρ)

end Cert.KernelIdeal.Whole

end
-- ==== Proof.MergeIdealRun.lean ====
/- The branch merge's runs at its grid points after the first of a row block, what the result's buffer holds after each point, and
   the run of the whole program. -/
module

public import proofs.«01_k».proof.Proof.Gen.MergeIdeal.Frame.RunA
public import Idealize.ShloMosaic.Lib.Claim

@[expose] public section

set_option maxRecDepth 16384

noncomputable section

namespace Cert.MergeIdeal.Whole

open Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- What the body's stores leave in each output's staging memref, as pieces (last first) IN CASE B (`scf.if` 0 not taken: points 1, 2, … 127: 96 of 128), WITH the
    proof that on whole staging memrefs — the inputs' at their contents, the outputs it reads before covering (9) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x2048 .bf16) (harg10 : arg10.IsWhole) (arg11 : Memref sig .tc .vmem S1024x2048 .f32) (harg11 : arg11.IsWhole) (hc0 : ¬cond0_0 i)
    (x0 : Vec F S256x2048 .f32) (x1 : Vec F S1024x2048 .bf16) (x2 : Vec F S1024x1024 .bf16) (x3 : Vec F S1024x1024 .bf16) (x4 : Vec F S2048x512 .bf16) (x5 : Vec F S2048x512 .bf16) (x6 : Vec F S1024x512 .bf16) (x7 : Vec F S1024x512 .bf16) (x8 : Vec F S512x2048 .bf16) (xo9 : Vec F S1024x2048 .f32) :
    { L9 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ ((∃ f, arg11.view.loc (c : Thread nD τ) ↦[arg11.view.set]{fullShare} arg11.view.writes (Elt F) f L9))) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11) K } := by
  refine ⟨?_, fun E K => ?run⟩
  case run =>
    simp only [cc0_merge_eq_skeleton]; unfold cc0_merge_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

/-- Case A's pieces for output 9 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_9 (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x2048 .bf16) (harg10 : arg10.IsWhole) (arg11 : Memref sig .tc .vmem S1024x2048 .f32) (harg11 : arg11.IsWhole) (hc0 : cond0_0 i)
    (x0 : Vec F S256x2048 .f32) (x1 : Vec F S1024x2048 .bf16) (x2 : Vec F S1024x1024 .bf16) (x3 : Vec F S1024x1024 .bf16) (x4 : Vec F S2048x512 .bf16) (x5 : Vec F S2048x512 .bf16) (x6 : Vec F S1024x512 .bf16) (x7 : Vec F S1024x512 .bf16) (x8 : Vec F S512x2048 .bf16) (y : S1024x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_wholeMem (kernelRun0_A c i arg2 harg2 arg3 harg3 arg4 harg4 arg5 harg5 arg6 harg6 arg7 harg7 arg8 harg8 arg9 harg9 arg10 harg10 arg11 harg11 hc0 x0 x1 x2 x3 x4 x5 x6 x7 x8).1 (by sl_whole_mem) y

/-- What case A leaves in output 9's staging buffer: its pieces read back over junk. -/
def out0_A_9 (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x2048 .bf16) (harg10 : arg10.IsWhole) (arg11 : Memref sig .tc .vmem S1024x2048 .f32) (harg11 : arg11.IsWhole) (hc0 : cond0_0 i)
    (x0 : Vec F S256x2048 .f32) (x1 : Vec F S1024x2048 .bf16) (x2 : Vec F S1024x1024 .bf16) (x3 : Vec F S1024x1024 .bf16) (x4 : Vec F S2048x512 .bf16) (x5 : Vec F S2048x512 .bf16) (x6 : Vec F S1024x512 .bf16) (x7 : Vec F S1024x512 .bf16) (x8 : Vec F S512x2048 .bf16) : Vec F S1024x2048 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 x7 x8).1)

/-- Case B's four column stores cover output 9's block. -/
theorem cover0_B_9 (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x2048 .bf16) (harg10 : arg10.IsWhole) (arg11 : Memref sig .tc .vmem S1024x2048 .f32) (harg11 : arg11.IsWhole) (hc0 : ¬cond0_0 i)
    (x0 : Vec F S256x2048 .f32) (x1 : Vec F S1024x2048 .bf16) (x2 : Vec F S1024x1024 .bf16) (x3 : Vec F S1024x1024 .bf16) (x4 : Vec F S2048x512 .bf16) (x5 : Vec F S2048x512 .bf16) (x6 : Vec F S1024x512 .bf16) (x7 : Vec F S1024x512 .bf16) (x8 : Vec F S512x2048 .bf16) (xo9 : Vec F S1024x2048 .f32) (y : S1024x2048.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1, y ∈ pc.1.set := by
  obtain ⟨pc, hm, hy⟩ := View.cover_of_tiled (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1.tail S1024x512.size (by rfl) y
  exact ⟨pc, List.mem_of_mem_tail hm, hy⟩

/-- What case B leaves in output 9's staging buffer: its pieces read back over junk. -/
def out0_B_9 (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x2048 .bf16) (harg10 : arg10.IsWhole) (arg11 : Memref sig .tc .vmem S1024x2048 .f32) (harg11 : arg11.IsWhole) (hc0 : ¬cond0_0 i)
    (x0 : Vec F S256x2048 .f32) (x1 : Vec F S1024x2048 .bf16) (x2 : Vec F S1024x1024 .bf16) (x3 : Vec F S1024x1024 .bf16) (x4 : Vec F S2048x512 .bf16) (x5 : Vec F S2048x512 .bf16) (x6 : Vec F S1024x512 .bf16) (x7 : Vec F S1024x512 .bf16) (x8 : Vec F S512x2048 .bf16) (xo9 : Vec F S1024x2048 .f32) : Vec F S1024x2048 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2048 .f32
  | 0, hn => out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)
  | n + 1, hn =>
    if h0 : (n + 1) % 4 = 0 then
      out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
    else
      out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 m c t.val t.isLt = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 4 = 0) (d) :
    (dats m 0 c).before 9 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 128 := lt_of_lt_of_eq t.isLt (show cfg0.N = 128 from N_0)
  by_cases h0 : t.val % 4 = 0
  · rw [outsAt0_A m c t h0]
    unfold out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outsAt0_B m c t h0]
    simp only [before0_9_B m c t h0]
    unfold out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_MergeIdeal`'s statement (Defs.lean) at any `F` — Proof.lean cites it at `Bits`:
    `theorem claim : Cert.Claim := ⟨Cert.MergeIdeal.Gen.facts, fun m ρ _ => Cert.MergeIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.MergeIdeal.Whole

end
-- ==== Proof.FfnValue.lean ====
module
public import proofs.«01_k».proof.Proof.Gen.FfnIdeal.Value
public import Idealize.ShloMosaic.Lib.Pipeline.ValueKit
public import Idealize.ShloMosaic.Lib.WholeRead
public import Idealize.ShloMosaic.Lib.Pipeline.ReadBack
@[expose] public section
set_option maxRecDepth 16384
noncomputable section
/-! What the half feed-forward's result array holds, entry by entry. -/
namespace Cert.FfnIdeal.Whole
open Cert.FfnIdeal Cert.FfnIdeal.Gen
open Idealize.ShloMosaic Idealize.ShloMosaic.TcCoe Idealize.ShloMosaic.Tactic Finset

/-- A rank-two array holds the function `f` of the two coordinates. -/
def Ar {a b : ℕ} (X : (⟨2, ![a, b]⟩ : Shape).Idx → EReal) (f : ℕ → ℕ → EReal) : Prop := ∀ (i : Fin a) (j : Fin b), X (ix2 i j) = f i j

/-! ## The values -/
/-- The normalised row. -/
def fu (X : ℕ → ℕ → EReal) (G : ℕ → ℕ → EReal) (r k : ℕ) : EReal :=
  X r k * Ideal.rsqrt (Ideal.div (∑ x : Fin 2048, X r x * X r x) (Ideal.ofBits FTy.f32 1157627904#32) + Ideal.ofBits FTy.f32 897988541#32) * G 0 k
/-- One hidden unit, with the half. -/
def fh (U A B : ℕ → ℕ → EReal) (r f : ℕ) : EReal :=
  (∑ x : Fin 2048, U r x * A x f) * Ideal.logistic (∑ x : Fin 2048, U r x * A x f) * (Ideal.ofBits FTy.f32 1056964608#32 * ∑ x : Fin 2048, U r x * B x f)

/-! ## The payloads -/
section
variable {u : Vec Ideal S1024x2048 .bf16} {wg wu : Vec Ideal S2048x512 .bf16} {U A B : ℕ → ℕ → EReal}
theorem pay4_at {x : Vec Ideal S1024x2048 .f32} {g : Vec Ideal S1x2048 .f32} {X G : ℕ → ℕ → EReal} (hx : Ar (a := 1024) (b := 2048) x X) (hg : Ar (a := 1) (b := 2048) g G) :
    Ar (a := 1024) (b := 2048) (k0_pay4 x g) (fu X G) := fun i e => by
  pointwise [k0_pay4, k0_pay3]
  have h0 : g (ix2 0 e) = G 0 e := hg 0 e
  have h1 : ∀ j, x (ix2 i j) = X i j := fun j => hx i j
  simp only [h0, h1]; rfl
theorem pay5_at (hu : Ar (a := 1024) (b := 2048) u U) (hg : Ar (a := 2048) (b := 512) wg A) (hw : Ar (a := 2048) (b := 512) wu B) :
    Ar (a := 1024) (b := 512) (k0_pay5 u wg wu) (fh U A B) := fun i e => by
  pointwise [k0_pay5]
  have h0 : ∀ j, u (ix2 i j) = U i j := fun j => hu i j
  have h1 : ∀ j, wg (ix2 j e) = A j e := fun j => hg j e
  have h2 : ∀ j, wu (ix2 j e) = B j e := fun j => hw j e
  simp only [h0, h1, h2]; rfl
variable {h : FVec Ideal S1024x512 .bf16} {o : Vec Ideal S1024x512 .f32} {w : Vec Ideal S512x512 .bf16} {H O W : ℕ → ℕ → EReal}
theorem pay1_at (hh : Ar (a := 1024) (b := 512) h H) (ho : Ar (a := 1024) (b := 512) o O) (hw : Ar (a := 512) (b := 512) w W) :
    Ar (a := 1024) (b := 512) (k0_pay1 h o w) fun i e => O i e + ∑ x : Fin 512, H i x * W x e := fun i e => by
  pointwise [k0_pay1]
  have h0 : ∀ j, h (ix2 i j) = H i j := fun j => hh i j
  have h1 : ∀ j, w (ix2 j e) = W j e := fun j => hw j e
  have h2 : o (ix2 i e) = O i e := ho i e
  simp only [h0, h1, h2]
theorem pay2_at (hh : Ar (a := 1024) (b := 512) h H) (ho : Ar (a := 1024) (b := 512) o O) (hw : Ar (a := 512) (b := 512) w W) :
    Ar (a := 1024) (b := 512) (k0_pay2 h o w) fun i e => O i e + ∑ x : Fin 512, H i x * W x e := pay1_at hh ho hw
theorem pay6_at (hh : Ar (a := 1024) (b := 512) (k0_pay5 u wg wu) H) (ho : Ar (a := 1024) (b := 512) o O) (hw : Ar (a := 512) (b := 512) w W) :
    Ar (a := 1024) (b := 512) (k0_pay6 u wg wu o w) fun i e => O i e + ∑ x : Fin 512, H i x * W x e := pay1_at hh ho hw
theorem pay7_at (hh : Ar (a := 1024) (b := 512) (k0_pay5 u wg wu) H) (ho : Ar (a := 1024) (b := 512) o O) (hw : Ar (a := 512) (b := 512) w W) :
    Ar (a := 1024) (b := 512) (k0_pay7 u wg wu o w) fun i e => O i e + ∑ x : Fin 512, H i x * W x e := pay1_at hh ho hw
end

/-! ## Columns of a block -/
section
variable (o : ℕ) (inb : ∀ a, (![0, o] : Fin 2 → ℕ) a + S1024x512.size a ≤ S1024x2048.size a)
theorem emb_col (i : Fin 1024) (e : Fin 512) (h : o + e < 2048) :
    (Rect.unit (s := S1024x2048) ![0, o] S1024x512.size inb).emb (ix2 i e) = ix2 i ⟨o + e, h⟩ := by
  refine funext fun a => ?_
  fin_cases a
  · exact Fin.ext (by show 0 + 1 * (i : ℕ) = i; omega)
  · exact Fin.ext (by show o + 1 * (e : ℕ) = o + e; omega)
theorem canon_miss (w : S1024x512.Idx → EReal) (L : List (View.Piece (Elt Ideal) S1024x2048 .f32)) (i : Fin 1024) (e : Fin 2048) (h : ¬ (o ≤ (e : ℕ) ∧ (e : ℕ) < o + 512)) :
    View.canon (⟨Rect.unit (s := S1024x2048) ![0, o] S1024x512.size inb, w⟩ :: L) (ix2 i e) = View.canon L (ix2 i e) := by
  refine View.canon_cons_of_not_mem _ _ fun hm => h ?_
  obtain ⟨x, hx⟩ := LoadRect.exists_idx_of_mem _ hm
  have h1 := congrArg (fun z : S1024x2048.Idx => ((z 1 : Fin 2048) : ℕ)) hx
  have h2 : ((x 1 : Fin 512) : ℕ) < 512 := (x 1).isLt
  have h3 : o + 1 * ((x 1 : Fin 512) : ℕ) = e := h1
  omega
/-- A store into 512 columns, read at an entry: of the store inside, of what was there outside. -/
theorem canon_col (w : S1024x512.Idx → EReal) (L : List (View.Piece (Elt Ideal) S1024x2048 .f32)) {F P : ℕ → ℕ → EReal}
    (hw : Ar (a := 1024) (b := 512) w fun i e => F i (o + e)) (i : Fin 1024) (e : Fin 2048) (hL : ¬ (o ≤ e ∧ e < o + 512) → View.canon L (ix2 i e) = P i e) :
    View.canon (⟨Rect.unit (s := S1024x2048) ![0, o] S1024x512.size inb, w⟩ :: L) (ix2 i e) = if o ≤ (e : ℕ) ∧ (e : ℕ) < o + 512 then F i e else P i e := by
  split_ifs with h
  · have h2048 : o + 512 ≤ 2048 := inb 1
    obtain ⟨e', he⟩ : ∃ e' : Fin 512, e = ⟨o + e', by omega⟩ := ⟨⟨(e : ℕ) - o, by omega⟩, Fin.ext (by show (e : ℕ) = o + ((e : ℕ) - o); omega)⟩
    rw [he]
    rw [← emb_col o inb i e']
    exact (View.canon_cons_emb (Val := Elt Ideal) (e := .f32) (Rect.unit (s := S1024x2048) ![0, o] S1024x512.size inb) w L (ix2 i e')).trans (hw i e')
  · exact (canon_miss o inb w L i e h).trans (hL h)
theorem ld_col {X : Vec Ideal S1024x2048 .f32} {F : ℕ → ℕ → EReal} (hX : Ar (a := 1024) (b := 2048) X F) :
    Ar (a := 1024) (b := 512) (View.ld X (Rect.unit (s := S1024x2048) ![0, o] S1024x512.size inb)) fun i e => F i (o + e) := fun i e => by
  have h2048 : o + 512 ≤ 2048 := inb 1
  exact (congrArg X (emb_col o inb i e (by omega))).trans (hX _ _)
theorem cov_col (v : View sig .tc .vmem S1024x2048 .f32) {L : List (View.Piece (Elt Ideal) S1024x2048 .f32)} {F : ℕ → ℕ → EReal}
    (hL : ∀ (i : Fin 1024) (e : Fin 2048), o ≤ (e : ℕ) → (e : ℕ) < o + 512 → View.canon L (ix2 i e) = F i e) :
    Ar (a := 1024) (b := 512) (v.readCov L (Rect.unit (s := S1024x2048) ![0, o] S1024x512.size inb).toLoadRect) fun i e => F i (o + e) := fun i e => by
  have h2048 : o + 512 ≤ 2048 := inb 1
  rw [View.readCov_eq_canon']
  exact (congrArg (View.canon L) (emb_col o inb i e (by omega))).trans (hL _ _ (Nat.le_add_right _ _) (by show o + (e : ℕ) < o + 512; omega))
theorem emb_wcol (inb' : ∀ a, (![0, o] : Fin 2 → ℕ) a + S512x512.size a ≤ S512x2048.size a) (i : Fin 512) (e : Fin 512) (h : o + e < 2048) :
    (Rect.unit (s := S512x2048) ![0, o] S512x512.size inb').emb (ix2 i e) = ix2 i ⟨o + e, h⟩ := by
  refine funext fun a => ?_
  fin_cases a
  · exact Fin.ext (by show 0 + 1 * (i : ℕ) = i; omega)
  · exact Fin.ext (by show o + 1 * (e : ℕ) = o + e; omega)
theorem ld_wcol (inb' : ∀ a, (![0, o] : Fin 2 → ℕ) a + S512x512.size a ≤ S512x2048.size a) {X : Vec Ideal S512x2048 .bf16} {F : ℕ → ℕ → EReal} (hX : Ar (a := 512) (b := 2048) X F) :
    Ar (a := 512) (b := 512) (View.ld X (Rect.unit (s := S512x2048) ![0, o] S512x512.size inb')) fun i e => F i (o + e) := fun i e => by
  have h2048 : o + 512 ≤ 2048 := inb' 1
  exact (congrArg X (emb_wcol o inb' i e (by omega))).trans (hX _ _)
end

/-- The four column stores of a point, one after the other. -/
theorem canon4 (i0 : ∀ a, (![0, 0] : Fin 2 → ℕ) a + S1024x512.size a ≤ S1024x2048.size a) (i1 : ∀ a, (![0, 512] : Fin 2 → ℕ) a + S1024x512.size a ≤ S1024x2048.size a)
    (i2 : ∀ a, (![0, 1024] : Fin 2 → ℕ) a + S1024x512.size a ≤ S1024x2048.size a) (i3 : ∀ a, (![0, 1536] : Fin 2 → ℕ) a + S1024x512.size a ≤ S1024x2048.size a)
    (w0 w1 w2 w3 : S1024x512.Idx → EReal) (L : List (View.Piece (Elt Ideal) S1024x2048 .f32)) {F : ℕ → ℕ → EReal}
    (h0 : Ar (a := 1024) (b := 512) w0 fun i e => F i (0 + e)) (h1 : Ar (a := 1024) (b := 512) w1 fun i e => F i (512 + e))
    (h2 : Ar (a := 1024) (b := 512) w2 fun i e => F i (1024 + e)) (h3 : Ar (a := 1024) (b := 512) w3 fun i e => F i (1536 + e)) (i : Fin 1024) (e : Fin 2048) :
    View.canon (⟨Rect.unit (s := S1024x2048) ![0, 1536] S1024x512.size i3, w3⟩ :: ⟨Rect.unit (s := S1024x2048) ![0, 1024] S1024x512.size i2, w2⟩
      :: ⟨Rect.unit (s := S1024x2048) ![0, 512] S1024x512.size i1, w1⟩ :: ⟨Rect.unit (s := S1024x2048) ![0, 0] S1024x512.size i0, w0⟩ :: L) (ix2 i e) = F i e := by
  have key : ∀ (o : ℕ) (inb : ∀ a, (![0, o] : Fin 2 → ℕ) a + S1024x512.size a ≤ S1024x2048.size a) (w : S1024x512.Idx → EReal) (L : List (View.Piece (Elt Ideal) S1024x2048 .f32)),
      Ar (a := 1024) (b := 512) w (fun i e => F i (o + e)) → (¬ (o ≤ (e : ℕ) ∧ (e : ℕ) < o + 512) → View.canon L (ix2 i e) = F i e) →
      View.canon (⟨Rect.unit (s := S1024x2048) ![0, o] S1024x512.size inb, w⟩ :: L) (ix2 i e) = F i e := fun o inb w L hw hL =>
    (canon_col o inb w L (F := F) (P := F) hw i e hL).trans (ite_self _)
  exact key 1536 i3 w3 _ h3 fun n3 => key 1024 i2 w2 _ h2 fun n2 => key 512 i1 w1 _ h1 fun n1 => key 0 i0 w0 _ h0 fun n0 => by omega
theorem canon_all (inb : ∀ a, (![0, 0] : Fin 2 → ℕ) a + S1024x2048.size a ≤ S1024x2048.size a) (x : Vec Ideal S1024x2048 .f32) {X : ℕ → ℕ → EReal}
    (hx : Ar (a := 1024) (b := 2048) x X) (i : Fin 1024) (e : Fin 2048) :
    View.canon (Val := Elt Ideal) (s := S1024x2048) (e := .f32) [⟨Rect.unit (s := S1024x2048) ![0, 0] S1024x2048.size inb, k0_pay3 (F := Ideal) x⟩] (ix2 i e) = X i e := by
  rw [View.canon_cons_unit_lit (h := by decide)]
  pointwise [k0_pay3]; exact hx i e

/-! ## One point -/
variable (m : (ℓ : Loc nD τ sig) → Buf (Elt Ideal) ℓ) (c : Dev nD)
section
variable {X G A B D H : ℕ → ℕ → EReal} (t : Fin cfg0.N)
theorem b_at (h : ¬ t.val % 11 = 0) {U O : ℕ → ℕ → EReal}
    (h2 : Ar (a := 2048) (b := 512) (iblk m c 2 t) A) (h3 : Ar (a := 2048) (b := 512) (iblk m c 3 t) B) (h4 : Ar (a := 512) (b := 2048) (iblk m c 4 t) D)
    (hu : Ar (a := 1024) (b := 2048) (outsAt0 m c (t.val - 1) (Nat.lt_of_le_of_lt (Nat.sub_le _ _) t.isLt)).2 U)
    (ho : Ar (a := 1024) (b := 2048) (outsAt0 m c (t.val - 1) (Nat.lt_of_le_of_lt (Nat.sub_le _ _) t.isLt)).1 O) :
    Ar (a := 1024) (b := 2048) (outsAt0 m c t.val t.isLt).1 fun i e => O i e + ∑ x : Fin 512, fh U A B i x * D x e := fun i e => by
  rw [outsAt0_B m c t h]; dsimp only
  frame_out
  rw [Idealize.ShloMosaic.read_unread_whole]
  exact canon4 _ _ _ _ _ _ _ _ _ (F := fun i e => O i e + ∑ x : Fin 512, fh U A B i x * D x e)
    (pay6_at (pay5_at hu h2 h3) (ld_col 0 _ ho) (ld_wcol 0 _ h4)) (pay7_at (pay5_at hu h2 h3) (ld_col 512 _ ho) (ld_wcol 512 _ h4))
    (pay1_at (pay5_at hu h2 h3) (ld_col 1024 _ ho) (ld_wcol 1024 _ h4)) (pay2_at (pay5_at hu h2 h3) (ld_col 1536 _ ho) (ld_wcol 1536 _ h4)) i e
theorem s_at (h : t.val % 11 = 0) (h0 : Ar (a := 1024) (b := 2048) (iblk m c 0 t) X) (h1 : Ar (a := 1) (b := 2048) (iblk m c 1 t) G) :
    Ar (a := 1024) (b := 2048) (outsAt0 m c t.val t.isLt).2 (fu X G) := fun i e => by
  rw [outsAt0_A m c t h]; dsimp only
  frame_out
  exact pay4_at h0 h1 i e
theorem s_keep (h : ¬ t.val % 11 = 0) : (outsAt0 m c t.val t.isLt).2 = (outsAt0 m c (t.val - 1) (Nat.lt_of_le_of_lt (Nat.sub_le _ _) t.isLt)).2 := by
  rw [outsAt0_B m c t h]; dsimp only [sout0_B_0]
theorem a_at (h : t.val % 11 = 0) (h0 : Ar (a := 1024) (b := 2048) (iblk m c 0 t) X) (h1 : Ar (a := 1) (b := 2048) (iblk m c 1 t) G)
    (h2 : Ar (a := 2048) (b := 512) (iblk m c 2 t) A) (h3 : Ar (a := 2048) (b := 512) (iblk m c 3 t) B) (h4 : Ar (a := 512) (b := 2048) (iblk m c 4 t) D) :
    Ar (a := 1024) (b := 2048) (outsAt0 m c t.val t.isLt).1 fun i e => X i e + ∑ x : Fin 512, fh (fu X G) A B i x * D x e := fun i e => by
  rw [outsAt0_A m c t h]; dsimp only
  frame_out
  have hu := pay5_at (pay4_at h0 h1) h2 h3
  exact canon4 _ _ _ _ _ _ _ _ _ (F := fun i e => X i e + ∑ x : Fin 512, fh (fu X G) A B i x * D x e)
    (pay6_at hu (cov_col 0 _ _ fun i e l r => canon_all _ _ h0 i e) (ld_wcol 0 _ h4))
    (pay7_at hu (cov_col 512 _ _ fun i e l r => (canon_miss 0 _ _ _ i e (by omega)).trans (canon_all _ _ h0 i e)) (ld_wcol 512 _ h4))
    (pay1_at hu (cov_col 1024 _ _ fun i e l r => (canon_miss 512 _ _ _ i e (by omega)).trans ((canon_miss 0 _ _ _ i e (by omega)).trans (canon_all _ _ h0 i e))) (ld_wcol 1024 _ h4))
    (pay2_at hu (cov_col 1536 _ _ fun i e l r => (canon_miss 1024 _ _ _ i e (by omega)).trans ((canon_miss 512 _ _ _ i e (by omega)).trans ((canon_miss 0 _ _ _ i e (by omega)).trans (canon_all _ _ h0 i e)))) (ld_wcol 1536 _ h4))
    i e
end

/-! ## The blocks -/
theorem idx0 : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ t.val / 11 < 32 :=
  (by decide +kernel : ∀ t : Fin grid0.N, _)
section
variable {X G A B D : ℕ → ℕ → EReal} (t : Fin cfg0.N)
theorem blk_0 (h : Ar (a := 32768) (b := 2048) (V m c main_v0) X) : Ar (a := 1024) (b := 2048) (iblk m c 0 t) fun i => X (t.val / 11 * 1024 + i) := fun i e => by
  have ht : t.val / 11 < 32 := by have := idx0 t; tauto
  refine Eq.trans ?_ (h ⟨t.val / 11 * 1024 + i, by omega⟩ e)
  blk_ext [iblk, idx0 t]
theorem blk_1 (h : Ar (a := 1) (b := 2048) (V m c main_v8) G) : Ar (a := 1) (b := 2048) (iblk m c 1 t) G := fun i e => by
  refine Eq.trans ?_ (h i e)
  blk_ext [iblk, idx0 t]
theorem blk_2 (h : Ar (a := 2048) (b := 5632) (V m c main_v2) A) : Ar (a := 2048) (b := 512) (iblk m c 2 t) fun i e => A i (t.val % 11 * 512 + e) := fun i e => by
  refine Eq.trans ?_ (h i ⟨t.val % 11 * 512 + e, by omega⟩)
  blk_ext [iblk, idx0 t]
theorem blk_3 (h : Ar (a := 2048) (b := 5632) (V m c main_v4) B) : Ar (a := 2048) (b := 512) (iblk m c 3 t) fun i e => B i (t.val % 11 * 512 + e) := fun i e => by
  refine Eq.trans ?_ (h i ⟨t.val % 11 * 512 + e, by omega⟩)
  blk_ext [iblk, idx0 t]
theorem blk_4 (h : Ar (a := 5632) (b := 2048) (V m c main_v6) D) : Ar (a := 512) (b := 2048) (iblk m c 4 t) fun i e => D (t.val % 11 * 512 + i) e := fun i e => by
  refine Eq.trans ?_ (h ⟨t.val % 11 * 512 + i, by omega⟩ e)
  blk_ext [iblk, idx0 t]
end

/-! ## The row block after each of its points -/
/-- The entry after `n` of the hidden dimension's blocks. -/
def acc (X G A B D : ℕ → ℕ → EReal) (r e n : ℕ) : EReal :=
  X r e + ∑ s ∈ range n, ∑ x : Fin 512, fh (fu X G) A B r (s * 512 + x) * D (s * 512 + x) e
section
variable {X G A B D : ℕ → ℕ → EReal} (h0 : Ar (a := 32768) (b := 2048) (V m c main_v0) X) (h1 : Ar (a := 1) (b := 2048) (V m c main_v8) G)
  (h2 : Ar (a := 2048) (b := 5632) (V m c main_v2) A) (h3 : Ar (a := 2048) (b := 5632) (V m c main_v4) B) (h4 : Ar (a := 5632) (b := 2048) (V m c main_v6) D)
include h0 h1 h2 h3 h4 in
theorem outs_at (b : ℕ) : ∀ (j : ℕ) (hj : j < 11) (hn : 11 * b + j < cfg0.N),
    Ar (a := 1024) (b := 2048) (outsAt0 m c (11 * b + j) hn).2 (fun i => fu X G (b * 1024 + i))
    ∧ Ar (a := 1024) (b := 2048) (outsAt0 m c (11 * b + j) hn).1 fun i e => acc X G A B D (b * 1024 + i) e (j + 1)
  | 0, hj, hn => by
    have ed : (11 * b + 0) / 11 = b := by omega
    have em : (11 * b + 0) % 11 = 0 := by omega
    have k0 := blk_0 m c ⟨11 * b + 0, hn⟩ h0
    have k2 := blk_2 m c ⟨11 * b + 0, hn⟩ h2
    have k3 := blk_3 m c ⟨11 * b + 0, hn⟩ h3
    have k4 := blk_4 m c ⟨11 * b + 0, hn⟩ h4
    simp only [ed, em] at k0 k2 k3 k4
    refine ⟨s_at m c ⟨11 * b + 0, hn⟩ em k0 (blk_1 m c _ h1), fun i e => (a_at m c ⟨11 * b + 0, hn⟩ em k0 (blk_1 m c _ h1) k2 k3 k4 i e).trans ?_⟩
    show _ = acc X G A B D (b * 1024 + i) e (0 + 1)
    rw [acc, Finset.sum_range_one]; simp only [Nat.zero_mul]; rfl
  | j + 1, hj, hn => by
    have ed : (11 * b + (j + 1)) / 11 = b := by omega
    have em : (11 * b + (j + 1)) % 11 = j + 1 := by omega
    have en : ¬ (11 * b + (j + 1)) % 11 = 0 := by omega
    have k2 := blk_2 m c ⟨11 * b + (j + 1), hn⟩ h2
    have k3 := blk_3 m c ⟨11 * b + (j + 1), hn⟩ h3
    have k4 := blk_4 m c ⟨11 * b + (j + 1), hn⟩ h4
    simp only [em] at k2 k3 k4
    have ih := outs_at b j (by omega) (by omega)
    refine ⟨?_, fun i e => (b_at m c ⟨11 * b + (j + 1), hn⟩ en k2 k3 k4 ih.1 ih.2 i e).trans ?_⟩
    · rw [s_keep m c ⟨11 * b + (j + 1), hn⟩ en]; exact ih.1
    · show acc X G A B D (b * 1024 + i) e (j + 1) + _ = acc X G A B D (b * 1024 + i) e (j + 1 + 1)
      rw [acc, acc, Finset.sum_range_succ _ (j + 1), ← add_assoc]; rfl
include h0 h1 h2 h3 h4 in
/-- The result array. -/
theorem result_at : Ar (a := 32768) (b := 2048) (Value.G5 m c) fun r e => acc X G A B D r e 11 := fun r e => by
  have hp : Value.pt5Of (ix2 r e) = 11 * (r.val / 1024) + 10 := by
    show 11 * (1 * ((r : ℕ) / 1024 - 0) + 1 * ((e : ℕ) / 2048 - 0)) + 10 = _
    omega
  have hN : cfg0.N = 352 := N_0
  have hl : 11 * ((r : ℕ) / 1024) + 10 < cfg0.N := by omega
  have key := (outs_at m c h0 h1 h2 h3 h4 (r.val / 1024) 10 (by omega) hl).2 ⟨(r : ℕ) % 1024, Nat.mod_lt _ (by omega)⟩ e
  have hr : (r : ℕ) / 1024 * 1024 + (r : ℕ) % 1024 = r := by omega
  show Value.G5 m c (ix2 r e) = acc X G A B D r e 11
  rw [Value.G5, dif_pos (by rw [hp]; exact hl), Value.fold0_congr m c _ _ _ (by rw [Nat.zero_add]; exact hl) hp, ← Value.outsAt0_sweep m c _ hl]
  refine Eq.trans (congrArg _ ?_) (key.trans ?_)
  · refine funext fun a => ?_
    fin_cases a
    · rfl
    · exact Fin.ext (by show (e : ℕ) % 2048 = e; omega)
  · show acc X G A B D ((r : ℕ) / 1024 * 1024 + (r : ℕ) % 1024) e (10 + 1) = _
    rw [hr]
end
end Cert.FfnIdeal.Whole
end
-- ==== Proof.FfnFinal.lean ====
module
public import proofs.«01_k».proof.Proof.FfnValue
public import proofs.«01_k».proof.Proof.Gen.FfnReferenceIdeal.Read
@[expose] public section
set_option maxRecDepth 16384
noncomputable section
/-! The half feed-forward's result array against the reference's. -/
namespace Cert.FfnIdeal.Whole
open Cert.FfnIdeal Cert.FfnIdeal.Gen
open Idealize.ShloMosaic Idealize.ShloMosaic.TcCoe Idealize.ShloMosaic.Tactic Finset

/-! ## The arguments as functions of two numbers -/
def cX (x : FVec Ideal S8x4096x2048 .f32) (r e : ℕ) : EReal := x (ix3 ⟨r / 4096 % 8, Nat.mod_lt _ (by omega)⟩ ⟨r % 4096, Nat.mod_lt _ (by omega)⟩ ⟨e % 2048, Nat.mod_lt _ (by omega)⟩)
def cG (x : FVec Ideal S1x2048 .f32) (_ e : ℕ) : EReal := x (ix2 0 ⟨e % 2048, Nat.mod_lt _ (by omega)⟩)
def cA (x : FVec Ideal S1x2048x5632 .f32) (k f : ℕ) : EReal := x (ix3 0 ⟨k % 2048, Nat.mod_lt _ (by omega)⟩ ⟨f % 5632, Nat.mod_lt _ (by omega)⟩)
def cD (x : FVec Ideal S1x5632x2048 .f32) (f e : ℕ) : EReal := x (ix3 0 ⟨f % 5632, Nat.mod_lt _ (by omega)⟩ ⟨e % 2048, Nat.mod_lt _ (by omega)⟩)

variable (m : (ℓ : Loc nD τ sig) → Buf (Elt Ideal) ℓ) (c : Dev nD)
theorem v0_at : Ar (a := 32768) (b := 2048) (V m c main_v0) (cX (m ((c : Thread nD τ).loc main_arg0))) := fun i e => by
  entry_read
  pointwise
  unfold cX
  blk_ext
theorem v8_at : Ar (a := 1) (b := 2048) (V m c main_v8) (cG (m ((c : Thread nD τ).loc main_arg1))) := fun i e => by
  entry_read
  pointwise
  unfold cG
  blk_ext
theorem v2_at : Ar (a := 2048) (b := 5632) (V m c main_v2) (cA (m ((c : Thread nD τ).loc main_arg2))) := fun i e => by
  entry_read
  pointwise
  unfold cA
  blk_ext
theorem v4_at : Ar (a := 2048) (b := 5632) (V m c main_v4) (cA (m ((c : Thread nD τ).loc main_arg3))) := fun i e => by
  entry_read
  pointwise
  unfold cA
  blk_ext
theorem v6_at : Ar (a := 5632) (b := 2048) (V m c main_v6) (cD (m ((c : Thread nD τ).loc main_arg4))) := fun i e => by
  entry_read
  pointwise
  unfold cD
  blk_ext

/-! ## The two orders of the sums -/
theorem half_nonneg : 0 ≤ Ideal.ofBits FTy.f32 1056964608#32 ∧ Ideal.ofBits FTy.f32 1056964608#32 ≠ ⊤ := by
  have e : Ideal.ofBits FTy.f32 1056964608#32 = (((1 / 2 : ℝ)) : EReal) := by
    simp [Ideal.ofBits, Ideal.ieee, ← EReal.coe_mul]; norm_num
  rw [e]
  exact ⟨EReal.coe_nonneg.mpr (by norm_num), EReal.coe_ne_top _⟩
theorem mul_sum_of_nonneg {a : EReal} (h0 : 0 ≤ a) (h1 : a ≠ ⊤) {ι : Type} (s : Finset ι) (f : ι → EReal) : a * ∑ i ∈ s, f i = ∑ i ∈ s, a * f i := by
  classical
  induction s using Finset.induction_on with
  | empty => simp
  | insert i s hi ih => rw [sum_insert hi, sum_insert hi, EReal.left_distrib_of_nonneg_of_ne_top h0 h1, ih]
theorem sum_blocks (g : ℕ → EReal) : ∀ n, ∑ f ∈ range (n * 512), g f = ∑ s ∈ range n, ∑ x : Fin 512, g (s * 512 + x)
  | 0 => by simp
  | n + 1 => by rw [Nat.add_mul, Nat.one_mul, sum_range_add, sum_blocks g n, sum_range_succ _ n, Fin.sum_univ_eq_sum_range (fun x => g (n * 512 + x)) 512]

/-- One hidden unit, without the half. -/
def fg (U A B : ℕ → ℕ → EReal) (r f : ℕ) : EReal :=
  (∑ x : Fin 2048, U r x * A x f) * Ideal.logistic (∑ x : Fin 2048, U r x * A x f) * ∑ x : Fin 2048, U r x * B x f
theorem acc_eq (X G A B D : ℕ → ℕ → EReal) (r e : ℕ) :
    acc X G A B D r e 11 = X r e + Ideal.ofBits FTy.f32 1056964608#32 * ∑ f : Fin 5632, fg (fu X G) A B r f * D f e := by
  have h : ∀ f, fh (fu X G) A B r f * D f e = Ideal.ofBits FTy.f32 1056964608#32 * (fg (fu X G) A B r f * D f e) := fun f => by
    rw [fh, fg, mul_left_comm, mul_assoc]
  rw [acc, mul_sum_of_nonneg half_nonneg.1 half_nonneg.2, Fin.sum_univ_eq_sum_range (fun f => Ideal.ofBits FTy.f32 1056964608#32 * (fg (fu X G) A B r f * D f e)) 5632,
    show 5632 = 11 * 512 from rfl, sum_blocks]
  simp only [h]

open Cert.FfnReferenceIdeal.Read in
/-- The reference's result. -/
theorem ref_at (x0 : FVec Ideal S8x4096x2048 .f32) (x1 : FVec Ideal S1x2048 .f32) (x2 x3 : FVec Ideal S1x2048x5632 .f32) (x4 : FVec Ideal S1x5632x2048 .f32) :
    Ar (a := 32768) (b := 2048) (val_main_v25 (F := Ideal) x0 x1 x2 x3 x4) fun r e => acc (cX x0) (cG x1) (cA x2) (cA x3) (cD x4) r e 11 := fun r e => by
  have h0 : ∀ e : Fin 2048, x0 (ix3 (⟨(r : ℕ) / 4096, by omega⟩ : Fin 8) (⟨(r : ℕ) % 4096, by omega⟩ : Fin 4096) e) = cX x0 r e := fun e => by unfold cX; blk_ext
  have h1 : ∀ e : Fin 2048, x1 (ix2 0 e) = cG x1 0 e := fun e => by unfold cG; blk_ext
  have h2 : ∀ (k : Fin 2048) (f : Fin 5632), x2 (ix3 0 k f) = cA x2 k f := fun k f => by unfold cA; blk_ext
  have h3 : ∀ (k : Fin 2048) (f : Fin 5632), x3 (ix3 0 k f) = cA x3 k f := fun k f => by unfold cA; blk_ext
  have h4 : ∀ (f : Fin 5632) (e : Fin 2048), x4 (ix3 0 f e) = cD x4 f e := fun f e => by unfold cD; blk_ext
  refine Eq.trans ?_ (acc_eq _ _ _ _ _ _ _).symm
  rw [← val_main_v25_eq]
  pointwise
  simp only [h0, h1, h2, h3, h4]
  rfl

open Cert.FfnReferenceIdeal.Read in
/-- The reference's result is the kernel's. -/
theorem same : val_main_v25 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) = Value.G5 m c := by
  refine funext fun i => ?_
  rw [eq_ix2 i]
  exact (ref_at _ _ _ _ _ _ _).trans (result_at m c (v0_at m c) (v8_at m c) (v2_at m c) (v4_at m c) (v6_at m c) _ _).symm
end Cert.FfnIdeal.Whole
end
-- ==== Proof.MergeValue.lean ====
module
public import proofs.«01_k».proof.Proof.FfnFinal
public import proofs.«01_k».proof.Proof.MergeIdealRun
public import proofs.«01_k».proof.Proof.Gen.MergeReferenceIdeal.Read
@[expose] public section
set_option maxRecDepth 16384
noncomputable section
/-! What the merge's result array holds, entry by entry, against the reference's. -/
namespace Cert.MergeIdeal.Whole
open Cert.MergeIdeal Cert.MergeIdeal.Gen
open Idealize.ShloMosaic Idealize.ShloMosaic.TcCoe Idealize.ShloMosaic.Tactic Finset
open Cert.FfnIdeal.Whole (Ar cX canon_miss canon_col canon4 ld_col ld_wcol emb_col sum_blocks)

/-! ## The values -/
/-- One entry of the gated sum of the two branches. -/
def fm (U GA GB OA OB WA WB : ℕ → ℕ → EReal) (r f : ℕ) : EReal :=
  Ideal.logistic (∑ x : Fin 2048, U r x * GA x f) * (∑ x : Fin 1024, OA r x * WA x f) + Ideal.logistic (∑ x : Fin 2048, U r x * GB x f) * (∑ x : Fin 1024, OB r x * WB x f)

/-! ## The payloads -/
section
variable {u : Vec Ideal S1024x2048 .bf16} {ga gb : Vec Ideal S2048x512 .bf16} {oa ob : Vec Ideal S1024x1024 .bf16} {wa wb : Vec Ideal S1024x512 .bf16} {U GA GB OA OB WA WB : ℕ → ℕ → EReal}
theorem pay3_at (hu : Ar (a := 1024) (b := 2048) u U) (hga : Ar (a := 2048) (b := 512) ga GA) (hgb : Ar (a := 2048) (b := 512) gb GB)
    (hoa : Ar (a := 1024) (b := 1024) oa OA) (hob : Ar (a := 1024) (b := 1024) ob OB) (hwa : Ar (a := 1024) (b := 512) wa WA) (hwb : Ar (a := 1024) (b := 512) wb WB) :
    Ar (a := 1024) (b := 512) (k0_pay3 u ga oa wa gb ob wb) (fm U GA GB OA OB WA WB) := fun i e => by
  pointwise [k0_pay3]
  have h0 : ∀ j, u (ix2 i j) = U i j := fun j => hu i j
  have h1 : ∀ j, ga (ix2 j e) = GA j e := fun j => hga j e
  have h2 : ∀ j, gb (ix2 j e) = GB j e := fun j => hgb j e
  have h3 : ∀ j, oa (ix2 i j) = OA i j := fun j => hoa i j
  have h4 : ∀ j, ob (ix2 i j) = OB i j := fun j => hob i j
  have h5 : ∀ j, wa (ix2 j e) = WA j e := fun j => hwa j e
  have h6 : ∀ j, wb (ix2 j e) = WB j e := fun j => hwb j e
  simp only [h0, h1, h2, h3, h4, h5, h6]; rfl
variable {h : FVec Ideal S1024x512 .bf16} {o : Vec Ideal S1024x512 .f32} {w : Vec Ideal S512x512 .bf16} {H O W : ℕ → ℕ → EReal}
theorem pay7_at (hh : Ar (a := 1024) (b := 512) h H) (ho : Ar (a := 1024) (b := 512) o O) (hw : Ar (a := 512) (b := 512) w W) :
    Ar (a := 1024) (b := 512) (k0_pay7 h o w) fun i e => O i e + ∑ x : Fin 512, H i x * W x e := fun i e => by
  pointwise [k0_pay7]
  have h0 : ∀ j, h (ix2 i j) = H i j := fun j => hh i j
  have h1 : ∀ j, w (ix2 j e) = W j e := fun j => hw j e
  have h2 : o (ix2 i e) = O i e := ho i e
  simp only [h0, h1, h2]
theorem pay8_at (hh : Ar (a := 1024) (b := 512) h H) (ho : Ar (a := 1024) (b := 512) o O) (hw : Ar (a := 512) (b := 512) w W) :
    Ar (a := 1024) (b := 512) (k0_pay8 h o w) fun i e => O i e + ∑ x : Fin 512, H i x * W x e := pay7_at hh ho hw
theorem pay9_at (hh : Ar (a := 1024) (b := 512) h H) (ho : Ar (a := 1024) (b := 512) o O) (hw : Ar (a := 512) (b := 512) w W) :
    Ar (a := 1024) (b := 512) (k0_pay9 h o w) fun i e => O i e + ∑ x : Fin 512, H i x * W x e := pay7_at hh ho hw
theorem pay6_at (hh : Ar (a := 1024) (b := 512) (k0_pay3 u ga oa wa gb ob wb) H) (ho : Ar (a := 1024) (b := 512) o O) (hw : Ar (a := 512) (b := 512) w W) :
    Ar (a := 1024) (b := 512) (k0_pay6 (k0_pay4 o) (k0_pay5 u ga oa wa gb ob wb w)) fun i e => O i e + ∑ x : Fin 512, H i x * W x e := pay7_at hh ho hw
end
theorem pay2_at : Ar (a := 1024) (b := 2048) (k0_pay2 (F := Ideal)) fun _ _ => 0 := fun i e => by
  pointwise [k0_pay2]

/-! ## The row slab of a block -/
section
variable (o : ℕ) (off : Fin 2 → ℕ) (inb : ∀ a, off a + S256x2048.size a ≤ S1024x2048.size a) (ho : off = ![o, 0])
include ho in
theorem emb_row (i : Fin 256) (e : Fin 2048) (h : o + i < 1024) : (Rect.unit (s := S1024x2048) off S256x2048.size inb).emb (ix2 i e) = ix2 ⟨o + i, h⟩ e := by
  subst ho
  refine funext fun a => ?_
  fin_cases a
  · exact Fin.ext (by show o + 1 * (i : ℕ) = o + i; omega)
  · exact Fin.ext (by show 0 + 1 * (e : ℕ) = e; omega)
include inb ho in
theorem le_row : o + 256 ≤ 1024 := by subst ho; exact inb 0
include ho in
theorem ld_row {X : Vec Ideal S1024x2048 .f32} {F : ℕ → ℕ → EReal} (hX : Ar (a := 1024) (b := 2048) X F) :
    Ar (a := 256) (b := 2048) (View.ld X (Rect.unit (s := S1024x2048) off S256x2048.size inb)) fun i e => F (o + i) e := fun i e => by
  have hl := le_row o off inb ho
  exact (congrArg X (emb_row o off inb ho i e (by omega))).trans (hX _ _)
include inb ho in
theorem ld_canon {L : List (View.Piece (Elt Ideal) S1024x2048 .f32)} (F : ℕ → ℕ → EReal) (hX : ∀ (i : Fin 1024) (e : Fin 2048), View.canon L (ix2 i e) = F i e) :
    Ar (a := 256) (b := 2048) (View.ld (View.canon L : Vec Ideal S1024x2048 .f32) (Rect.unit (s := S1024x2048) off S256x2048.size inb)) fun i e => F (o + i) e := ld_row o off inb ho hX
include ho in
/-- A store into 256 rows that adds `X` to what was there, read at an entry. -/
theorem canon_row (a b : Vec Ideal S256x2048 .f32) (L : List (View.Piece (Elt Ideal) S1024x2048 .f32)) {F X : ℕ → ℕ → EReal}
    (ha : Ar (a := 256) (b := 2048) a fun i e => F (o + i) e) (hb : Ar (a := 256) (b := 2048) b fun i e => X (o + i) e)
    (i : Fin 1024) (e : Fin 2048) (hL : View.canon L (ix2 i e) = F i e) :
    View.canon (⟨Rect.unit (s := S1024x2048) off S256x2048.size inb, k0_pay1 (k0_pay10 a) b⟩ :: L) (ix2 i e) = F i e + if o ≤ (i : ℕ) ∧ (i : ℕ) < o + 256 then X i e else 0 := by
  have hl := le_row o off inb ho
  split_ifs with h
  · obtain ⟨i', hi⟩ : ∃ i' : Fin 256, i = ⟨o + i', by omega⟩ := ⟨⟨(i : ℕ) - o, by omega⟩, Fin.ext (by show (i : ℕ) = o + ((i : ℕ) - o); omega)⟩
    rw [hi]
    rw [← emb_row o off inb ho i' e]
    refine (View.canon_cons_emb (Val := Elt Ideal) (e := .f32) (Rect.unit (s := S1024x2048) off S256x2048.size inb) _ L (ix2 i' e)).trans ?_
    pointwise [k0_pay1, k0_pay10]
    exact congrArg₂ (· + ·) (ha i' e) (hb i' e)
  · rw [add_zero]
    refine (View.canon_cons_of_not_mem _ _ fun hm => h ?_).trans hL
    obtain ⟨x, hx⟩ := LoadRect.exists_idx_of_mem _ hm
    subst ho
    have h1 := congrArg (fun z : S1024x2048.Idx => ((z 0 : Fin 1024) : ℕ)) hx
    have h2 : ((x 0 : Fin 256) : ℕ) < 256 := (x 0).isLt
    have h3 : o + 1 * ((x 0 : Fin 256) : ℕ) = i := h1
    omega
end
section
variable (o : ℕ) (inb : ∀ a, (![0, o] : Fin 2 → ℕ) a + S1024x512.size a ≤ S1024x2048.size a)
theorem cov_col (v : View sig .tc .vmem S1024x2048 .f32) {L : List (View.Piece (Elt Ideal) S1024x2048 .f32)} {F : ℕ → ℕ → EReal}
    (hL : ∀ (i : Fin 1024) (e : Fin 2048), o ≤ (e : ℕ) → (e : ℕ) < o + 512 → View.canon L (ix2 i e) = F i e) :
    Ar (a := 1024) (b := 512) (v.readCov L (Rect.unit (s := S1024x2048) ![0, o] S1024x512.size inb).toLoadRect) fun i e => F i (o + e) := fun i e => by
  have h2048 : o + 512 ≤ 2048 := inb 1
  rw [View.readCov_eq_canon']
  exact (congrArg (View.canon L) (emb_col o inb i e (by omega))).trans (hL _ _ (Nat.le_add_right _ _) (by show o + (e : ℕ) < o + 512; omega))
end
/-- Past the columns written, a block still holds the zeros. -/
theorem canon_cut (o : ℕ) (inb : ∀ a, (![0, o] : Fin 2 → ℕ) a + S1024x512.size a ≤ S1024x2048.size a) (w : S1024x512.Idx → EReal) (L : List (View.Piece (Elt Ideal) S1024x2048 .f32)) {P : ℕ → ℕ → EReal}
    (_ : Ar (a := 1024) (b := 512) w P) (hL : ∀ (i : Fin 1024) (e : Fin 2048), o ≤ (e : ℕ) → View.canon L (ix2 i e) = 0) (i : Fin 1024) (e : Fin 2048) (h : o + 512 ≤ (e : ℕ)) :
    View.canon (⟨Rect.unit (s := S1024x2048) ![0, o] S1024x512.size inb, w⟩ :: L) (ix2 i e) = 0 :=
  (canon_miss o inb w L i e (by omega)).trans (hL i e (by omega))
theorem canon_all (inb : ∀ a, (![0, 0] : Fin 2 → ℕ) a + S1024x2048.size a ≤ S1024x2048.size a) (i : Fin 1024) (e : Fin 2048) :
    View.canon (Val := Elt Ideal) (s := S1024x2048) (e := .f32) [⟨Rect.unit (s := S1024x2048) ![0, 0] S1024x2048.size inb, k0_pay2 (F := Ideal)⟩] (ix2 i e) = 0 := by
  rw [View.canon_cons_unit_lit (h := by decide)]
  exact pay2_at i e

/-! ## One point -/
theorem coord1 : ∀ t : Fin cfg0.N, (grid0.coords t 1).val = t.val % 4 := (by decide +kernel : ∀ t : Fin grid0.N, _)
variable (m : (ℓ : Loc nD τ sig) → Buf (Elt Ideal) ℓ) (c : Dev nD)
section
variable {X U GA GB OA OB WA WB D : ℕ → ℕ → EReal} (t : Fin cfg0.N)
set_option maxHeartbeats 2000000 in
theorem b_at (h : ¬ t.val % 4 = 0) {O : ℕ → ℕ → EReal} (h0 : Ar (a := 256) (b := 2048) (iblk m c 0 t) fun i e => X (256 * (t.val % 4) + i) e)
    (h1 : Ar (a := 1024) (b := 2048) (iblk m c 1 t) U) (h2 : Ar (a := 1024) (b := 1024) (iblk m c 2 t) OA) (h3 : Ar (a := 1024) (b := 1024) (iblk m c 3 t) OB)
    (h4 : Ar (a := 2048) (b := 512) (iblk m c 4 t) GA) (h5 : Ar (a := 2048) (b := 512) (iblk m c 5 t) GB)
    (h6 : Ar (a := 1024) (b := 512) (iblk m c 6 t) WA) (h7 : Ar (a := 1024) (b := 512) (iblk m c 7 t) WB) (h8 : Ar (a := 512) (b := 2048) (iblk m c 8 t) D)
    (ho : Ar (a := 1024) (b := 2048) (outsAt0 m c (t.val - 1) (Nat.lt_of_le_of_lt (Nat.sub_le _ _) t.isLt)) O) :
    Ar (a := 1024) (b := 2048) (outsAt0 m c t.val t.isLt) fun i e => (O i e + ∑ x : Fin 512, fm U GA GB OA OB WA WB i x * D x e)
      + if 256 * (t.val % 4) ≤ i ∧ i < 256 * (t.val % 4) + 256 then X i e else 0 := fun i e => by
  rw [outsAt0_B m c t h]
  frame_out
  have hm := pay3_at h1 h4 h5 h2 h3 h6 h7
  have p0 := pay6_at hm (ld_col 0 inb_S1024x2048_S1024x512_0_0 ho) (ld_wcol 0 inb_S512x2048_S512x512_0_0 h8)
  have p1 := pay7_at hm (ld_col 512 inb_S1024x2048_S1024x512_0_512 ho) (ld_wcol 512 inb_S512x2048_S512x512_0_512 h8)
  have p2 := pay8_at hm (ld_col 1024 inb_S1024x2048_S1024x512_0_1024 ho) (ld_wcol 1024 inb_S512x2048_S512x512_0_1024 h8)
  have p3 := pay9_at hm (ld_col 1536 inb_S1024x2048_S1024x512_0_1536 ho) (ld_wcol 1536 inb_S512x2048_S512x512_0_1536 h8)
  have hc := canon4 inb_S1024x2048_S1024x512_0_0 inb_S1024x2048_S1024x512_0_512 inb_S1024x2048_S1024x512_0_1024 inb_S1024x2048_S1024x512_0_1536 _ _ _ _ [] (F := fun i e => O i e + ∑ x : Fin 512, fm U GA GB OA OB WA WB i x * D x e) p0 p1 p2 p3
  have hof : k0_off1 (grid0.coords t) = ![256 * (t.val % 4), 0] := by rw [k0_off1_eq, coord1]
  refine canon_row (256 * (t.val % 4)) (k0_off1 (grid0.coords t)) (k0_off1_inb (grid0.coords t)) hof _ _ _ (F := fun i e => O i e + ∑ x : Fin 512, fm U GA GB OA OB WA WB i x * D x e) (X := X) ?_ h0 i e ?_
  · exact ld_canon (256 * (t.val % 4)) (k0_off1 (grid0.coords t)) (k0_off1_inb (grid0.coords t)) hof (fun i e => O i e + ∑ x : Fin 512, fm U GA GB OA OB WA WB i x * D x e) hc
  · exact hc i e
set_option maxHeartbeats 4000000 in
theorem a_at (h : t.val % 4 = 0) (h0 : Ar (a := 256) (b := 2048) (iblk m c 0 t) fun i e => X (256 * (t.val % 4) + i) e)
    (h1 : Ar (a := 1024) (b := 2048) (iblk m c 1 t) U) (h2 : Ar (a := 1024) (b := 1024) (iblk m c 2 t) OA) (h3 : Ar (a := 1024) (b := 1024) (iblk m c 3 t) OB)
    (h4 : Ar (a := 2048) (b := 512) (iblk m c 4 t) GA) (h5 : Ar (a := 2048) (b := 512) (iblk m c 5 t) GB)
    (h6 : Ar (a := 1024) (b := 512) (iblk m c 6 t) WA) (h7 : Ar (a := 1024) (b := 512) (iblk m c 7 t) WB) (h8 : Ar (a := 512) (b := 2048) (iblk m c 8 t) D) :
    Ar (a := 1024) (b := 2048) (outsAt0 m c t.val t.isLt) fun i e => (0 + ∑ x : Fin 512, fm U GA GB OA OB WA WB i x * D x e)
      + if 256 * (t.val % 4) ≤ i ∧ i < 256 * (t.val % 4) + 256 then X i e else 0 := fun i e => by
  rw [outsAt0_A m c t h]
  frame_out
  have hm := pay3_at h1 h4 h5 h2 h3 h6 h7
  have hz := canon_all inb_S1024x2048_S1024x2048_0_0
  have ho : k0_off1 (grid0.coords t) = ![256 * (t.val % 4), 0] := by rw [k0_off1_eq, coord1]
  have q0 := cov_col 0 inb_S1024x2048_S1024x512_0_0 (ms0_9 t).view (F := fun _ _ => 0) fun i e _ _ => hz i e
  have p0 := pay6_at hm q0 (ld_wcol 0 inb_S512x2048_S512x512_0_0 h8)
  have z1 := canon_cut 0 inb_S1024x2048_S1024x512_0_0 _ _ p0 (fun i e _ => hz i e)
  have q1 := cov_col 512 inb_S1024x2048_S1024x512_0_512 (ms0_9 t).view (F := fun _ _ => 0) fun i e l _ => z1 i e l
  have p1 := pay7_at hm q1 (ld_wcol 512 inb_S512x2048_S512x512_0_512 h8)
  have z2 := canon_cut 512 inb_S1024x2048_S1024x512_0_512 _ _ p1 z1
  have q2 := cov_col 1024 inb_S1024x2048_S1024x512_0_1024 (ms0_9 t).view (F := fun _ _ => 0) fun i e l _ => z2 i e l
  have p2 := pay8_at hm q2 (ld_wcol 1024 inb_S512x2048_S512x512_0_1024 h8)
  have z3 := canon_cut 1024 inb_S1024x2048_S1024x512_0_1024 _ _ p2 z2
  have q3 := cov_col 1536 inb_S1024x2048_S1024x512_0_1536 (ms0_9 t).view (F := fun _ _ => 0) fun i e l _ => z3 i e l
  have p3 := pay9_at hm q3 (ld_wcol 1536 inb_S512x2048_S512x512_0_1536 h8)
  have hc := canon4 inb_S1024x2048_S1024x512_0_0 inb_S1024x2048_S1024x512_0_512 inb_S1024x2048_S1024x512_0_1024 inb_S1024x2048_S1024x512_0_1536 _ _ _ _ [⟨Rect.unit (s := S1024x2048) ![0, 0] S1024x2048.size inb_S1024x2048_S1024x2048_0_0, k0_pay2 (F := Ideal)⟩] (F := fun i e => 0 + ∑ x : Fin 512, fm U GA GB OA OB WA WB i x * D x e) p0 p1 p2 p3
  refine canon_row (256 * (t.val % 4)) (k0_off1 (grid0.coords t)) (k0_off1_inb (grid0.coords t)) ho _ _ _ (F := fun i e => 0 + ∑ x : Fin 512, fm U GA GB OA OB WA WB i x * D x e) (X := X) ?_ h0 i e ?_
  · exact ld_canon (256 * (t.val % 4)) (k0_off1 (grid0.coords t)) (k0_off1_inb (grid0.coords t)) ho (fun i e => 0 + ∑ x : Fin 512, fm U GA GB OA OB WA WB i x * D x e) hc
  · exact hc i e
end

/-! ## The blocks -/
theorem idx0 : ∀ t : Fin cfg0.N, win0_0.index t = ![t.val, 0] ∧ win0_1.index t = ![t.val / 4, 0] ∧ win0_2.index t = ![t.val / 4, 0] ∧ win0_3.index t = ![t.val / 4, 0]
    ∧ win0_4.index t = ![0, t.val % 4] ∧ win0_5.index t = ![0, t.val % 4] ∧ win0_6.index t = ![0, t.val % 4] ∧ win0_7.index t = ![0, t.val % 4] ∧ win0_8.index t = ![t.val % 4, 0]
    ∧ win0_9.index t = ![t.val / 4, 0] ∧ t.val < 128 :=
  (by decide +kernel : ∀ t : Fin grid0.N, _)
section
variable {X U GA OA WA D : ℕ → ℕ → EReal} (t : Fin cfg0.N)
theorem blk_0 (h : Ar (a := 32768) (b := 2048) (V m c main_v11) X) : Ar (a := 256) (b := 2048) (iblk m c 0 t) fun i => X (t.val * 256 + i) := fun i e => by
  have ht : t.val < 128 := by have := idx0 t; tauto
  refine Eq.trans ?_ (h ⟨t.val * 256 + i, by omega⟩ e)
  blk_ext [iblk, idx0 t]
theorem blk_1 (h : Ar (a := 32768) (b := 2048) (V m c main_v13) U) : Ar (a := 1024) (b := 2048) (iblk m c 1 t) fun i => U (t.val / 4 * 1024 + i) := fun i e => by
  have ht : t.val < 128 := by have := idx0 t; tauto
  refine Eq.trans ?_ (h ⟨t.val / 4 * 1024 + i, by omega⟩ e)
  blk_ext [iblk, idx0 t]
theorem blk_2 (h : Ar (a := 32768) (b := 1024) (V m c main_v15) OA) : Ar (a := 1024) (b := 1024) (iblk m c 2 t) fun i => OA (t.val / 4 * 1024 + i) := fun i e => by
  have ht : t.val < 128 := by have := idx0 t; tauto
  refine Eq.trans ?_ (h ⟨t.val / 4 * 1024 + i, by omega⟩ e)
  blk_ext [iblk, idx0 t]
theorem blk_3 (h : Ar (a := 32768) (b := 1024) (V m c main_v17) OA) : Ar (a := 1024) (b := 1024) (iblk m c 3 t) fun i => OA (t.val / 4 * 1024 + i) := fun i e => by
  have ht : t.val < 128 := by have := idx0 t; tauto
  refine Eq.trans ?_ (h ⟨t.val / 4 * 1024 + i, by omega⟩ e)
  blk_ext [iblk, idx0 t]
theorem blk_4 (h : Ar (a := 2048) (b := 2048) (V m c main_v2) GA) : Ar (a := 2048) (b := 512) (iblk m c 4 t) fun i e => GA i (t.val % 4 * 512 + e) := fun i e => by
  refine Eq.trans ?_ (h i ⟨t.val % 4 * 512 + e, by omega⟩)
  blk_ext [iblk, idx0 t]
theorem blk_5 (h : Ar (a := 2048) (b := 2048) (V m c main_v4) GA) : Ar (a := 2048) (b := 512) (iblk m c 5 t) fun i e => GA i (t.val % 4 * 512 + e) := fun i e => by
  refine Eq.trans ?_ (h i ⟨t.val % 4 * 512 + e, by omega⟩)
  blk_ext [iblk, idx0 t]
theorem blk_6 (h : Ar (a := 1024) (b := 2048) (V m c main_v6) WA) : Ar (a := 1024) (b := 512) (iblk m c 6 t) fun i e => WA i (t.val % 4 * 512 + e) := fun i e => by
  refine Eq.trans ?_ (h i ⟨t.val % 4 * 512 + e, by omega⟩)
  blk_ext [iblk, idx0 t]
theorem blk_7 (h : Ar (a := 1024) (b := 2048) (V m c main_v8) WA) : Ar (a := 1024) (b := 512) (iblk m c 7 t) fun i e => WA i (t.val % 4 * 512 + e) := fun i e => by
  refine Eq.trans ?_ (h i ⟨t.val % 4 * 512 + e, by omega⟩)
  blk_ext [iblk, idx0 t]
theorem blk_8 (h : Ar (a := 2048) (b := 2048) (V m c main_v10) D) : Ar (a := 512) (b := 2048) (iblk m c 8 t) fun i e => D (t.val % 4 * 512 + i) e := fun i e => by
  refine Eq.trans ?_ (h ⟨t.val % 4 * 512 + i, by omega⟩ e)
  blk_ext [iblk, idx0 t]
end

/-! ## The row block after each of its points -/
/-- The entry's sum over the first `n` blocks of the inner dimension. -/
def acc (U GA GB OA OB WA WB D : ℕ → ℕ → EReal) (r e n : ℕ) : EReal :=
  ∑ s ∈ range n, ∑ x : Fin 512, fm U GA GB OA OB WA WB r (s * 512 + x) * D (s * 512 + x) e
theorem step (a b x : EReal) (i n : ℕ) : (a + (if i < 256 * n then x else 0) + b) + (if 256 * n ≤ i ∧ i < 256 * n + 256 then x else 0) = a + b + if i < 256 * (n + 1) then x else 0 := by
  rw [add_right_comm a, add_assoc (a + b)]
  refine congrArg (a + b + ·) ?_
  rcases Nat.lt_or_ge i (256 * n) with h | h
  · rw [if_pos h, if_neg (by omega), if_pos (by omega), add_zero]
  · rcases Nat.lt_or_ge i (256 * n + 256) with h' | h'
    · rw [if_neg (by omega), if_pos (by omega), if_pos (by omega), zero_add]
    · rw [if_neg (by omega), if_neg (by omega), if_neg (by omega), zero_add]
section
variable {X U GA GB OA OB WA WB D : ℕ → ℕ → EReal} (h0 : Ar (a := 32768) (b := 2048) (V m c main_v11) X) (h1 : Ar (a := 32768) (b := 2048) (V m c main_v13) U)
  (h2 : Ar (a := 32768) (b := 1024) (V m c main_v15) OA) (h3 : Ar (a := 32768) (b := 1024) (V m c main_v17) OB)
  (h4 : Ar (a := 2048) (b := 2048) (V m c main_v2) GA) (h5 : Ar (a := 2048) (b := 2048) (V m c main_v4) GB)
  (h6 : Ar (a := 1024) (b := 2048) (V m c main_v6) WA) (h7 : Ar (a := 1024) (b := 2048) (V m c main_v8) WB) (h8 : Ar (a := 2048) (b := 2048) (V m c main_v10) D)
include h0 in
theorem slab_at (t : Fin cfg0.N) : Ar (a := 256) (b := 2048) (iblk m c 0 t) fun i e => (fun i e => X (t.val / 4 * 1024 + i) e) (256 * (t.val % 4) + i) e := fun i e => by
  refine (blk_0 m c t h0 i e).trans (congrArg (fun r => X r e) ?_)
  omega
include h0 h1 h2 h3 h4 h5 h6 h7 h8 in
theorem outs_at (b : ℕ) : ∀ (j : ℕ) (_ : j < 4) (hn : 4 * b + j < cfg0.N), Ar (a := 1024) (b := 2048) (outsAt0 m c (4 * b + j) hn) fun i e =>
    acc U GA GB OA OB WA WB D (b * 1024 + i) e (j + 1) + if i < 256 * (j + 1) then X (b * 1024 + i) e else 0
  | 0, hj, hn => fun i e => by
    have ed : (4 * b + 0) / 4 = b := by omega
    have em : (4 * b + 0) % 4 = 0 := by omega
    have key := a_at m c (X := fun i e => X ((⟨4 * b + 0, hn⟩ : Fin cfg0.N).val / 4 * 1024 + i) e) ⟨4 * b + 0, hn⟩ em (slab_at m c h0 _) (blk_1 m c _ h1) (blk_2 m c _ h2) (blk_3 m c _ h3) (blk_4 m c _ h4) (blk_5 m c _ h5) (blk_6 m c _ h6) (blk_7 m c _ h7) (blk_8 m c _ h8) i e
    simp only [ed, em] at key
    refine key.trans ?_
    have hs := step 0 (acc U GA GB OA OB WA WB D (b * 1024 + i) e 1) (X (b * 1024 + i) e) i 0
    rw [if_neg (by omega), add_zero, zero_add] at hs
    refine Eq.trans ?_ hs
    rw [acc, Finset.sum_range_one, zero_add]; rfl
  | j + 1, hj, hn => fun i e => by
    have ed : (4 * b + (j + 1)) / 4 = b := by omega
    have em : (4 * b + (j + 1)) % 4 = j + 1 := by omega
    have en : ¬ (4 * b + (j + 1)) % 4 = 0 := by omega
    have ih := outs_at b j (by omega) (by omega)
    have key := b_at m c (X := fun i e => X ((⟨4 * b + (j + 1), hn⟩ : Fin cfg0.N).val / 4 * 1024 + i) e) ⟨4 * b + (j + 1), hn⟩ en (slab_at m c h0 _) (blk_1 m c _ h1) (blk_2 m c _ h2) (blk_3 m c _ h3) (blk_4 m c _ h4) (blk_5 m c _ h5) (blk_6 m c _ h6) (blk_7 m c _ h7) (blk_8 m c _ h8) ih i e
    simp only [ed, em] at key
    refine key.trans ?_
    refine (step (acc U GA GB OA OB WA WB D (b * 1024 + i) e (j + 1)) _ (X (b * 1024 + i) e) i (j + 1)).trans ?_
    refine congrArg (· + _) ?_
    rw [acc, acc, Finset.sum_range_succ _ (j + 1)]; rfl
include h0 h1 h2 h3 h4 h5 h6 h7 h8 in
/-- The result array. -/
theorem final : (dats m 0 c).arrAt 9 cfg0.N = fun y : S32768x2048.Idx => X (y 0 : ℕ) (y 1 : ℕ) + ∑ f : Fin 2048, fm U GA GB OA OB WA WB (y 0 : ℕ) f * D f (y 1 : ℕ) := by
  have hfl : ∀ t : Fin cfg0.N, (cfg0.win 9).flush t = true → t.val % 4 = 3 := (by decide +kernel : ∀ t : Fin grid0.N, _)
  refine (dats m 0 c).arrAt_eq_of_covers 9 _ (by decide +kernel) fun t hf y => ?_
  have h3' := hfl t hf
  blk_simp
  rw [after0_9]
  have key := outs_at m c h0 h1 h2 h3 h4 h5 h6 h7 h8 (t.val / 4) 3 (by omega) (by have := t.isLt; omega) (y 0) (y 1)
  have et : 4 * (t.val / 4) + 3 = t.val := by omega
  simp only [et] at key
  have hs : ∀ r e, acc U GA GB OA OB WA WB D r e 4 = ∑ f : Fin 2048, fm U GA GB OA OB WA WB r f * D f e := fun r e => by
    rw [acc, Fin.sum_univ_eq_sum_range (fun f => fm U GA GB OA OB WA WB r f * D f e) 2048, show 2048 = 4 * 512 from rfl, sum_blocks]
  have hy : ((y 0 : Fin 1024) : ℕ) < 256 * (3 + 1) := (y 0).isLt
  rw [if_pos hy, show 3 + 1 = 4 from rfl, hs] at key
  refine Eq.trans ?_ ((key.trans (add_comm _ _)).trans ?_)
  · exact congrArg (outsAt0 m c t.val t.isLt) (eq_ix2 y)
  · simp only [idx0 t]
    show X _ _ + _ = X (t.val / 4 * 1024 + (y 0 : ℕ)) (0 * 2048 + (y 1 : ℕ)) + ∑ f : Fin 2048, fm U GA GB OA OB WA WB (t.val / 4 * 1024 + (y 0 : ℕ)) f * D f (0 * 2048 + (y 1 : ℕ))
    rw [Nat.zero_mul, Nat.zero_add]
end

/-! ## The arguments as functions of two numbers -/
def cO (x : FVec Ideal S8x4096x8x128 .f32) (r k : ℕ) : EReal :=
  x (ix4 ⟨r / 4096 % 8, Nat.mod_lt _ (by omega)⟩ ⟨r % 4096, Nat.mod_lt _ (by omega)⟩ ⟨k / 128 % 8, Nat.mod_lt _ (by omega)⟩ ⟨k % 128, Nat.mod_lt _ (by omega)⟩)
def cI (x : FVec Ideal S1x2048x8512 .f32) (o k f : ℕ) : EReal := x (ix3 0 ⟨k % 2048, Nat.mod_lt _ (by omega)⟩ ⟨(o + f) % 8512, Nat.mod_lt _ (by omega)⟩)
def cW (x : FVec Ideal S1x1024x2048 .f32) (k f : ℕ) : EReal := x (ix3 0 ⟨k % 1024, Nat.mod_lt _ (by omega)⟩ ⟨f % 2048, Nat.mod_lt _ (by omega)⟩)
def cD (x : FVec Ideal S1x2048x2048 .f32) (k f : ℕ) : EReal := x (ix3 0 ⟨k % 2048, Nat.mod_lt _ (by omega)⟩ ⟨f % 2048, Nat.mod_lt _ (by omega)⟩)

theorem v11_at : Ar (a := 32768) (b := 2048) (V m c main_v11) (cX (m ((c : Thread nD τ).loc main_arg0))) := fun i e => by
  entry_read
  pointwise
  unfold cX
  blk_ext
theorem v13_at : Ar (a := 32768) (b := 2048) (V m c main_v13) (cX (m ((c : Thread nD τ).loc main_arg1))) := fun i e => by
  entry_read
  pointwise
  unfold cX
  blk_ext
theorem v15_at : Ar (a := 32768) (b := 1024) (V m c main_v15) (cO (m ((c : Thread nD τ).loc main_arg2))) := fun i e => by
  entry_read
  pointwise
  unfold cO
  blk_ext
theorem v17_at : Ar (a := 32768) (b := 1024) (V m c main_v17) (cO (m ((c : Thread nD τ).loc main_arg3))) := fun i e => by
  entry_read
  pointwise
  unfold cO
  blk_ext
theorem v2_at : Ar (a := 2048) (b := 2048) (V m c main_v2) (cI (m ((c : Thread nD τ).loc main_arg4)) 4416) := fun i e => by
  entry_read
  pointwise
  unfold cI
  blk_ext
theorem v4_at : Ar (a := 2048) (b := 2048) (V m c main_v4) (cI (m ((c : Thread nD τ).loc main_arg4)) 6464) := fun i e => by
  entry_read
  pointwise
  unfold cI
  blk_ext
theorem v6_at : Ar (a := 1024) (b := 2048) (V m c main_v6) (cW (m ((c : Thread nD τ).loc main_arg5))) := fun i e => by
  entry_read
  pointwise
  unfold cW
  blk_ext
theorem v8_at : Ar (a := 1024) (b := 2048) (V m c main_v8) (cW (m ((c : Thread nD τ).loc main_arg6))) := fun i e => by
  entry_read
  pointwise
  unfold cW
  blk_ext
theorem v10_at : Ar (a := 2048) (b := 2048) (V m c main_v10) (cD (m ((c : Thread nD τ).loc main_arg7))) := fun i e => by
  entry_read
  pointwise
  unfold cD
  blk_ext

open Cert.MergeReferenceIdeal.Read in
/-- The reference's result. -/
theorem ref_at (x0 x1 : FVec Ideal S8x4096x2048 .f32) (x2 x3 : FVec Ideal S8x4096x8x128 .f32) (x4 : FVec Ideal S1x2048x8512 .f32) (x5 x6 : FVec Ideal S1x1024x2048 .f32) (x7 : FVec Ideal S1x2048x2048 .f32) :
    Ar (a := 32768) (b := 2048) (val_main_v28 (F := Ideal) x0 x1 x2 x3 x4 x5 x6 x7) fun r e =>
      cX x0 r e + ∑ f : Fin 2048, fm (cX x1) (cI x4 4416) (cI x4 6464) (cO x2) (cO x3) (cW x5) (cW x6) r f * cD x7 f e := fun r e => by
  have h0 : ∀ e : Fin 2048, x0 (ix3 (⟨(r : ℕ) / 4096, by omega⟩ : Fin 8) (⟨(r : ℕ) % 4096, by omega⟩ : Fin 4096) e) = cX x0 r e := fun e => by unfold cX; blk_ext
  have h1 : ∀ e : Fin 2048, x1 (ix3 (⟨(r : ℕ) / 4096, by omega⟩ : Fin 8) (⟨(r : ℕ) % 4096, by omega⟩ : Fin 4096) e) = cX x1 r e := fun e => by unfold cX; blk_ext
  have h2 : ∀ k : Fin 1024, x2 (ix4 (⟨(r : ℕ) / 4096, by omega⟩ : Fin 8) (⟨(r : ℕ) % 4096, by omega⟩ : Fin 4096) (⟨(k : ℕ) / 128, by omega⟩ : Fin 8) (⟨(k : ℕ) % 128, by omega⟩ : Fin 128)) = cO x2 r k := fun k => by unfold cO; blk_ext
  have h3 : ∀ k : Fin 1024, x3 (ix4 (⟨(r : ℕ) / 4096, by omega⟩ : Fin 8) (⟨(r : ℕ) % 4096, by omega⟩ : Fin 4096) (⟨(k : ℕ) / 128, by omega⟩ : Fin 8) (⟨(k : ℕ) % 128, by omega⟩ : Fin 128)) = cO x3 r k := fun k => by unfold cO; blk_ext
  have h4 : ∀ (k f : Fin 2048), x4 (ix3 0 k (⟨4416 + (f : ℕ), by omega⟩ : Fin 8512)) = cI x4 4416 k f := fun k f => by unfold cI; blk_ext
  have h4' : ∀ (k f : Fin 2048), x4 (ix3 0 k (⟨6464 + (f : ℕ), by omega⟩ : Fin 8512)) = cI x4 6464 k f := fun k f => by unfold cI; blk_ext
  have h5 : ∀ (k : Fin 1024) (f : Fin 2048), x5 (ix3 0 k f) = cW x5 k f := fun k f => by unfold cW; blk_ext
  have h6 : ∀ (k : Fin 1024) (f : Fin 2048), x6 (ix3 0 k f) = cW x6 k f := fun k f => by unfold cW; blk_ext
  have h7 : ∀ (k f : Fin 2048), x7 (ix3 0 k f) = cD x7 k f := fun k f => by unfold cD; blk_ext
  rw [← val_main_v28_eq]
  pointwise
  simp only [h0, h1, h2, h3, h4, h4', h5, h6, h7]
  rfl

open Cert.MergeReferenceIdeal.Read in
/-- The reference's result is the kernel's. -/
theorem same : val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 9 cfg0.N := by
  rw [final m c (v11_at m c) (v13_at m c) (v15_at m c) (v17_at m c) (v2_at m c) (v4_at m c) (v6_at m c) (v8_at m c) (v10_at m c)]
  refine funext fun i => ?_
  rw [eq_ix2 i]
  exact ref_at _ _ _ _ _ _ _ _ _ _

open Idealize.SL.Sem in
/-- The run leaves the result array as computed and the arguments as they were. -/
theorem run_blocks (ρ : Dev nD → PrngReg) : θ_run defs (onTc (τ := τ) (main (F := Ideal))) ⟨m, fun _ => 0, ρ⟩ (fun r => ∀ c : Dev nD,
      r.2.mem ((c : Thread nD τ).loc main_v18) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨(h c).1 9,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)
end Cert.MergeIdeal.Whole
end
-- ==== Proof.PleValue.lean ====
module
public import proofs.«01_k».proof.Proof.FfnFinal
public import proofs.«01_k».proof.Proof.Gen.PleIdeal.Value
public import proofs.«01_k».proof.Proof.Gen.PleReferenceIdeal.Read
@[expose] public section
set_option maxRecDepth 16384
noncomputable section
/-! The per-layer embedding and the last norm: the result array, entry by entry, against the reference's. -/
namespace Cert.PleIdeal.Whole
open Cert.PleIdeal Cert.PleIdeal.Gen
open Idealize.ShloMosaic Idealize.ShloMosaic.TcCoe Idealize.ShloMosaic.Tactic Finset
open Cert.FfnIdeal.Whole (Ar fu cX cG)

/-! ## The values -/
/-- The residual stream after the gated embedding. -/
def fy (X G A P B : ℕ → ℕ → EReal) (r e : ℕ) : EReal :=
  X r e + Ideal.logistic (∑ x : Fin 2048, fu X G r x * A x e) * ∑ x : Fin 256, P r x * B x e

/-! ## The body -/
section
variable {x : Vec Ideal S512x2048 .f32} {g gf : Vec Ideal S1x2048 .f32} {w : Vec Ideal S2048x2048 .bf16} {p : Vec Ideal S1x512x256 .f32} {v : Vec Ideal S256x2048 .bf16}
  {X G A P B H : ℕ → ℕ → EReal}
theorem pay2_at (hx : Ar (a := 512) (b := 2048) x X) (hg : Ar (a := 1) (b := 2048) g G) (hw : Ar (a := 2048) (b := 2048) w A)
    (hp : ∀ (i : Fin 512) (j : Fin 256), p (ix3 0 i j) = P i j) (hv : Ar (a := 256) (b := 2048) v B) :
    Ar (a := 512) (b := 2048) (k0_pay2 x g w p v) (fy X G A P B) := fun i e => by
  pointwise [k0_pay2]
  have h0 : ∀ j, g (ix2 0 j) = G 0 j := fun j => hg 0 j
  have h1 : ∀ j, x (ix2 i j) = X i j := fun j => hx i j
  have h2 : ∀ j, w (ix2 j e) = A j e := fun j => hw j e
  have h3 : ∀ j, v (ix2 j e) = B j e := fun j => hv j e
  simp only [h0, h1, h2, h3, hp]; rfl
theorem pay1_at (hx : Ar (a := 512) (b := 2048) (k0_pay2 x g w p v) X) (hg : Ar (a := 1) (b := 2048) gf G) :
    Ar (a := 512) (b := 2048) (k0_pay1 (k0_pay2 x g w p v) (k0_pay3 gf) (k0_pay4 x g w p v)) (fu X G) := fun i e => by
  have h0 : gf (ix2 0 e) = G 0 e := hg 0 e
  have h1 : ∀ j, k0_pay2 x g w p v (ix2 i j) = X i j := fun j => hx i j
  unfold k0_pay4
  generalize k0_pay2 x g w p v = y at h1 ⊢
  pointwise [k0_pay1, k0_pay3]
  simp only [h0, h1]; rfl
end

/-! ## The blocks -/
variable (m : (ℓ : Loc nD τ sig) → Buf (Elt Ideal) ℓ) (c : Dev nD)
theorem idx0 : ∀ t : Fin cfg0.N, win0_0.index t = ![t.val, 0] ∧ win0_1.index t = ![0, t.val, 0] ∧ win0_2.index t = ![0, 0]
    ∧ win0_3.index t = ![0, 0] ∧ win0_4.index t = ![0, 0] ∧ win0_5.index t = ![0, 0] ∧ win0_6.index t = ![t.val, 0] ∧ t.val < 64 :=
  (by decide +kernel : ∀ t : Fin grid0.N, _)
section
variable {X G A P B : ℕ → ℕ → EReal} (t : Fin cfg0.N)
theorem blk_0 (h : Ar (a := 32768) (b := 2048) (V m c main_v1) X) : Ar (a := 512) (b := 2048) (iblk m c 0 t) fun i => X (t.val * 512 + i) := fun i e => by
  have ht : t.val < 64 := by have := idx0 t; tauto
  refine Eq.trans ?_ (h ⟨t.val * 512 + i, by omega⟩ e)
  blk_ext [iblk, idx0 t]
theorem blk_1 (h : ∀ (i : Fin 32768) (j : Fin 256), V m c main_v2 (ix3 0 i j) = P i j) (i : Fin 512) (j : Fin 256) : iblk m c 1 t (ix3 0 i j) = P (t.val * 512 + i) j := by
  have ht : t.val < 64 := by have := idx0 t; tauto
  refine Eq.trans ?_ (h ⟨t.val * 512 + i, by omega⟩ j)
  blk_ext [iblk, idx0 t]
theorem blk_2 (h : Ar (a := 1) (b := 2048) (V m c main_v4) G) : Ar (a := 1) (b := 2048) (iblk m c 2 t) G := fun i e => by
  refine Eq.trans ?_ (h i e)
  blk_ext [iblk, idx0 t]
theorem blk_3 (h : Ar (a := 2048) (b := 2048) (V m c main_v6) A) : Ar (a := 2048) (b := 2048) (iblk m c 3 t) A := fun i e => by
  refine Eq.trans ?_ (h i e)
  blk_ext [iblk, idx0 t]
theorem blk_4 (h : Ar (a := 256) (b := 2048) (V m c main_v8) B) : Ar (a := 256) (b := 2048) (iblk m c 4 t) B := fun i e => by
  refine Eq.trans ?_ (h i e)
  blk_ext [iblk, idx0 t]
theorem blk_5 (h : Ar (a := 1) (b := 2048) (V m c main_v0) G) : Ar (a := 1) (b := 2048) (iblk m c 5 t) G := fun i e => by
  refine Eq.trans ?_ (h i e)
  blk_ext [iblk, idx0 t]
end

/-! ## The arguments as functions of two numbers -/
def cP (x : FVec Ideal S1x8x4096x256 .f32) (r k : ℕ) : EReal :=
  x (ix4 0 ⟨r / 4096 % 8, Nat.mod_lt _ (by omega)⟩ ⟨r % 4096, Nat.mod_lt _ (by omega)⟩ ⟨k % 256, Nat.mod_lt _ (by omega)⟩)
def cW (x : FVec Ideal S1x2048x2048 .f32) (k e : ℕ) : EReal := x (ix3 0 ⟨k % 2048, Nat.mod_lt _ (by omega)⟩ ⟨e % 2048, Nat.mod_lt _ (by omega)⟩)
def cB (x : FVec Ideal S1x256x2048 .f32) (k e : ℕ) : EReal := x (ix3 0 ⟨k % 256, Nat.mod_lt _ (by omega)⟩ ⟨e % 2048, Nat.mod_lt _ (by omega)⟩)
def cF (x : FVec Ideal S2048 .f32) (_ e : ℕ) : EReal := x (ix1 ⟨e % 2048, Nat.mod_lt _ (by omega)⟩)
theorem v1_at : Ar (a := 32768) (b := 2048) (V m c main_v1) (cX (m ((c : Thread nD τ).loc main_arg0))) := fun i e => by
  entry_read
  pointwise
  unfold cX
  blk_ext
theorem v2_at (i : Fin 32768) (j : Fin 256) : V m c main_v2 (ix3 0 i j) = cP (m ((c : Thread nD τ).loc main_arg1)) i j := by
  entry_read
  pointwise
  unfold cP
  blk_ext
theorem v4_at : Ar (a := 1) (b := 2048) (V m c main_v4) (cG (m ((c : Thread nD τ).loc main_arg2))) := fun i e => by
  entry_read
  pointwise
  unfold cG
  blk_ext
theorem v6_at : Ar (a := 2048) (b := 2048) (V m c main_v6) (cW (m ((c : Thread nD τ).loc main_arg3))) := fun i e => by
  entry_read
  pointwise
  unfold cW
  blk_ext
theorem v8_at : Ar (a := 256) (b := 2048) (V m c main_v8) (cB (m ((c : Thread nD τ).loc main_arg4))) := fun i e => by
  entry_read
  pointwise
  unfold cB
  blk_ext
theorem v0_at : Ar (a := 1) (b := 2048) (V m c main_v0) (cF (m ((c : Thread nD τ).loc main_arg5))) := fun i e => by
  entry_read
  pointwise
  unfold cF
  blk_ext

/-! ## The result array -/
/-- The result's entry. -/
def fz (X P G A B F : ℕ → ℕ → EReal) (r e : ℕ) : EReal := fu (fy X G A P B) F r e
theorem o_at (t : Fin cfg0.N) : Ar (a := 512) (b := 2048) (out0_6 (iblk m c 0 t) (iblk m c 1 t) (iblk m c 2 t) (iblk m c 3 t) (iblk m c 4 t) (iblk m c 5 t)) fun i e =>
    fz (cX (m ((c : Thread nD τ).loc main_arg0))) (cP (m ((c : Thread nD τ).loc main_arg1))) (cG (m ((c : Thread nD τ).loc main_arg2))) (cW (m ((c : Thread nD τ).loc main_arg3)))
      (cB (m ((c : Thread nD τ).loc main_arg4))) (cF (m ((c : Thread nD τ).loc main_arg5))) (t.val * 512 + i) e := fun i e => by
  frame_out
  refine Eq.trans (pay1_at (pay2_at (P := fun i => cP (m ((c : Thread nD τ).loc main_arg1)) (t.val * 512 + i)) (blk_0 m c t (v1_at m c)) (blk_2 m c t (v4_at m c)) (blk_3 m c t (v6_at m c)) (blk_1 m c t (v2_at m c)) (blk_4 m c t (v8_at m c))) (blk_5 m c t (v0_at m c)) i e) ?_
  rfl
theorem final : (dats m 0 c).arrAt 6 cfg0.N = fun y : S32768x2048.Idx =>
    fz (cX (m ((c : Thread nD τ).loc main_arg0))) (cP (m ((c : Thread nD τ).loc main_arg1))) (cG (m ((c : Thread nD τ).loc main_arg2))) (cW (m ((c : Thread nD τ).loc main_arg3)))
      (cB (m ((c : Thread nD τ).loc main_arg4))) (cF (m ((c : Thread nD τ).loc main_arg5))) (y 0 : ℕ) (y 1 : ℕ) := by
  refine (dats m 0 c).arrAt_eq_of_covers 6 _ (by decide +kernel) fun t _ y => ?_
  blk_simp
  rw [after0_6]
  refine Eq.trans ?_ ((o_at m c t (y 0) (y 1)).trans ?_)
  · rw [← eq_ix2 y]
  · simp only [idx0 t]
    show fz _ _ _ _ _ _ _ _ = fz _ _ _ _ _ _ (t.val * 512 + (y 0 : ℕ)) (0 * 2048 + (y 1 : ℕ))
    rw [Nat.zero_mul, Nat.zero_add]

open Cert.PleReferenceIdeal.Read in
/-- The reference's residual stream before the last norm. -/
theorem ref_y (x0 : FVec Ideal S8x4096x2048 .f32) (x1 : FVec Ideal S1x8x4096x256 .f32) (x2 : FVec Ideal S1x2048 .f32) (x3 : FVec Ideal S1x2048x2048 .f32) (x4 : FVec Ideal S1x256x2048 .f32)
    (r : Fin 32768) (e : Fin 2048) :
    val_main_v26 (F := Ideal) x0 x1 x2 x3 x4 (ix3 (⟨(r : ℕ) / 4096, by omega⟩ : Fin 8) (⟨(r : ℕ) % 4096, by omega⟩ : Fin 4096) e) = fy (cX x0) (cG x2) (cW x3) (cP x1) (cB x4) r e := by
  have h0 : ∀ e : Fin 2048, x0 (ix3 (⟨(r : ℕ) / 4096, by omega⟩ : Fin 8) (⟨(r : ℕ) % 4096, by omega⟩ : Fin 4096) e) = cX x0 r e := fun e => by unfold cX; blk_ext
  have h1 : ∀ e : Fin 256, x1 (ix4 0 (⟨(r : ℕ) / 4096, by omega⟩ : Fin 8) (⟨(r : ℕ) % 4096, by omega⟩ : Fin 4096) e) = cP x1 r e := fun e => by unfold cP; blk_ext
  have h2 : ∀ e : Fin 2048, x2 (ix2 0 e) = cG x2 0 e := fun e => by unfold cG; blk_ext
  have h3 : ∀ (k e : Fin 2048), x3 (ix3 0 k e) = cW x3 k e := fun k e => by unfold cW; blk_ext
  have h4 : ∀ (k : Fin 256) (e : Fin 2048), x4 (ix3 0 k e) = cB x4 k e := fun k e => by unfold cB; blk_ext
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3
  pointwise
  simp only [h0, h1, h2, h3, h4]
  rfl

open Cert.PleReferenceIdeal.Read in
/-- The reference's result. -/
theorem ref_at (x0 : FVec Ideal S8x4096x2048 .f32) (x1 : FVec Ideal S1x8x4096x256 .f32) (x2 : FVec Ideal S1x2048 .f32) (x3 : FVec Ideal S1x2048x2048 .f32) (x4 : FVec Ideal S1x256x2048 .f32)
    (x5 : FVec Ideal S2048 .f32) :
    Ar (a := 32768) (b := 2048) (val_main_v40 (F := Ideal) x0 x1 x2 x3 x4 x5) (fz (cX x0) (cP x1) (cG x2) (cW x3) (cB x4) (cF x5)) := fun r e => by
  have h5 : ∀ e : Fin 2048, x5 (ix1 e) = cF x5 0 e := fun e => by unfold cF; blk_ext
  have h6 := ref_y x0 x1 x2 x3 x4 r
  unfold val_main_v40 val_main_v39 val_main_v38 val_main_v37 val_main_v36 val_main_v35 val_main_v34 val_main_v33 val_main_v32 val_main_v31 val_main_v30 val_main_v29 val_main_v28 val_main_v27 val_main_cst_4 val_main_cst_5 val_main_cst_6
  generalize val_main_v26 (F := Ideal) x0 x1 x2 x3 x4 = y at h6 ⊢
  pointwise
  simp only [h5, h6]
  rfl

open Cert.PleReferenceIdeal.Read in
/-- The reference's result is the kernel's. -/
theorem same : val_main_v40 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) = (dats m 0 c).arrAt 6 cfg0.N := by
  rw [final]
  refine funext fun i => ?_
  rw [eq_ix2 i]
  exact ref_at _ _ _ _ _ _ _ _
end Cert.PleIdeal.Whole
end
-- ==== Proof.Kit.lean ====
module
public import Idealize.ShloMosaic.Lib.Pointwise
@[expose] public section
set_option maxRecDepth 16384
noncomputable section
/-! Extended reals that are coerced reals: sums, products, and one online-softmax step. -/
namespace Cert.Kit
open Idealize.ShloMosaic Finset

/-- A finite sum of coerced reals is the coerced sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over `Fin n` whose terms are reals indexed by the natural numbers. -/
theorem sum_fin_coe (n : ℕ) (F : Fin n → EReal) (f : ℕ → ℝ) (h : ∀ i, F i = (f i : ℝ)) :
    ∑ i, F i = ((∑ i ∈ range n, f i : ℝ) : EReal) := by
  rw [← Fin.sum_univ_eq_sum_range, coe_sum]; exact sum_congr rfl fun i _ => h i

/-- The quotient of two reals. -/
theorem div_real (x : ℝ) {y : ℝ} (h : y ≠ 0) : Ideal.div (x : EReal) (y : EReal) = ((x / y : ℝ) : EReal) := by
  rw [Ideal.div_coe h, ← EReal.coe_mul, mul_one_div]

/-- A maximum of values none of which is `⊤` and one of which is a real, is a real. -/
theorem fold_max_real (n : ℕ) (m b : EReal) (F : Fin n → EReal) (hm : m ≠ ⊤) (hb : b ≠ ⊤) (hF : ∀ j, F j ≠ ⊤)
    (j : Fin n) (hj : F j ≠ ⊥) : ∃ M : ℝ, max m (univ.fold max b F) = (M : EReal) := by
  have h1 : univ.fold max b F < ⊤ :=
    (fold_max_lt ⊤).2 ⟨lt_top_iff_ne_top.2 hb, fun k _ => lt_top_iff_ne_top.2 (hF k)⟩
  have h2 : F j ≤ univ.fold max b F := (le_fold_max _).2 (Or.inr ⟨j, mem_univ _, le_rfl⟩)
  have h3 : max m (univ.fold max b F) ≠ ⊤ := (max_lt (lt_top_iff_ne_top.2 hm) h1).ne
  have h4 : max m (univ.fold max b F) ≠ ⊥ := fun h => hj (le_bot_iff.1 ((h2.trans (le_max_right _ _)).trans h.le))
  exact ⟨_, (EReal.coe_toReal h3 h4).symm⟩

/-- The weight of key `k` at running maximum `M`: `2 ^ (S k - M)` where the key is seen, else zero. -/
def wt (A : ℕ → Prop) [DecidablePred A] (S : ℕ → ℝ) (M : ℝ) (k : ℕ) : ℝ := if A k then Real.rpow 2 (S k - M) else 0

theorem wt_shift (A : ℕ → Prop) [DecidablePred A] (S : ℕ → ℝ) (M M' : ℝ) (k : ℕ) :
    Real.rpow 2 (M - M') * wt A S M k = wt A S M' k := by
  unfold wt
  split
  · show (2:ℝ) ^ (M - M') * (2:ℝ) ^ (S k - M) = (2:ℝ) ^ (S k - M')
    rw [← Real.rpow_add two_pos]; congr 1; ring
  · simp

/-- The running state of one row after `n` keys: the maximum `m` is real (or nothing was seen yet), and the
accumulator holds the weighted sums of the values at that maximum. -/
def Inv (A : ℕ → Prop) [DecidablePred A] (S : ℕ → ℝ) (V : ℕ → ℕ → ℝ) (n : ℕ) (m : EReal) (acc : Fin 256 → EReal) : Prop :=
  (m = ⊥ ∧ n = 0 ∧ ∀ c, acc c = 0) ∨
    ∃ M : ℝ, m = (M : EReal) ∧ ∀ c : Fin 256, acc c = ((∑ k ∈ range n, wt A S M k * V k c : ℝ) : EReal)

/-- One block of `W` keys: the new maximum, and the rescaled accumulator plus the block's weighted values. -/
theorem Inv.step {A : ℕ → Prop} [DecidablePred A] {S : ℕ → ℝ} {V : ℕ → ℕ → ℝ} {n : ℕ} {m : EReal} {acc : Fin 256 → EReal}
    (h : Inv A S V n m acc) (W : ℕ) (b : EReal) (hb : b = ⊥) (s : Fin W → EReal) (v : Fin W → Fin 256 → EReal)
    (hs : ∀ j : Fin W, s j = if A (n + j) then ((S (n + j) : ℝ) : EReal) else ⊥)
    (hv : ∀ (j : Fin W) (c : Fin 256), v j c = ((V (n + j) c : ℝ) : EReal)) (j0 : Fin W) (hj : A (n + j0)) (m' : EReal)
    (hm' : m' = max m (univ.fold max b s)) (acc' : Fin 256 → EReal)
    (hacc : ∀ c, acc' c = Ideal.exp2 (m - m') * acc c + ∑ j, Ideal.exp2 (s j - m') * v j c) :
    Inv A S V (n + W) m' acc' := by
  right
  have hmt : m ≠ ⊤ := by
    rcases h with ⟨h, -, -⟩ | ⟨M, h, -⟩ <;> rw [h] <;> simp
  obtain ⟨M', hM'⟩ := fold_max_real W m b s hmt (by rw [hb]; simp)
    (fun j => by rw [hs]; split <;> simp) j0 (by rw [hs, if_pos hj]; simp)
  rw [← hm'] at hM'
  refine ⟨M', hM', fun c => ?_⟩
  have e2 : ∑ j, Ideal.exp2 (s j - m') * v j c = ((∑ j ∈ range W, wt A S M' (n + j) * V (n + j) c : ℝ) : EReal) :=
    sum_fin_coe W _ (fun j => wt A S M' (n + j) * V (n + j) c) fun j => by
      rw [hv, hs, hM', wt]
      split
      · rw [← EReal.coe_sub, Ideal.exp2_coe, EReal.coe_mul]
      · simp
  have e1 : Ideal.exp2 (m - m') * acc c = ((∑ k ∈ range n, wt A S M' k * V k c : ℝ) : EReal) := by
    rcases h with ⟨h, h0, ha⟩ | ⟨M, h, ha⟩
    · subst h0; rw [ha]; simp
    · rw [ha, h, hM', ← EReal.coe_sub, Ideal.exp2_coe, ← EReal.coe_mul, mul_sum]
      refine congrArg _ (sum_congr rfl fun k _ => ?_)
      rw [← mul_assoc, wt_shift]
  rw [hacc, e1, e2, ← EReal.coe_add, sum_range_add]

/-- The quotient of the weighted values by the weights, when the columns from 128 on hold ones. -/
theorem Inv.fin {A : ℕ → Prop} [DecidablePred A] {S : ℕ → ℝ} {V : ℕ → ℕ → ℝ} {n : ℕ} {m : EReal} {acc : Fin 256 → EReal}
    (h : Inv A S V n m acc) (hn : n ≠ 0) (c : ℕ) (hc : c < 128) (hone : ∀ k, V k (128 + c) = 1) (k0 : ℕ) (hk0 : k0 < n) (hA : A k0) :
    Ideal.div (acc ⟨c, by omega⟩) (acc ⟨128 + c, by omega⟩)
      = (((∑ k ∈ range n, (if A k then Real.rpow 2 (S k) else 0) * V k c) / ∑ k ∈ range n, (if A k then Real.rpow 2 (S k) else 0) : ℝ) : EReal) := by
  rcases h with ⟨-, h, -⟩ | ⟨M, -, ha⟩
  · exact absurd h hn
  rw [ha, ha]
  have hw : ∀ k, wt A S M k = Real.rpow 2 (-M) * (if A k then Real.rpow 2 (S k) else 0) := fun k => by
    unfold wt; split
    · show (2:ℝ) ^ (S k - M) = (2:ℝ) ^ (-M) * (2:ℝ) ^ (S k)
      rw [← Real.rpow_add two_pos]; congr 1; ring
    · simp
  have hp : (0:ℝ) < Real.rpow 2 (-M) := Real.rpow_pos_of_pos two_pos _
  have hsum : (0:ℝ) < ∑ k ∈ range n, (if A k then Real.rpow 2 (S k) else 0) := by
    refine sum_pos' (fun k _ => ?_) ⟨k0, mem_range.2 hk0, ?_⟩
    · split
      · exact (Real.rpow_pos_of_pos two_pos _).le
      · exact le_rfl
    · rw [if_pos hA]; exact Real.rpow_pos_of_pos two_pos _
  simp only [hone, mul_one, hw, mul_assoc, ← mul_sum]
  have hd : (Real.rpow 2 (-M) * ∑ k ∈ range n, (if A k then Real.rpow 2 (S k) else 0)) ≠ 0 := (mul_pos hp hsum).ne'
  rw [div_real _ hd]
  exact congrArg _ (mul_div_mul_left _ _ hp.ne')
end Cert.Kit
end
-- ==== Proof.Model.lean ====
module
public import proofs.«01_k».proof.Proof.Kit
public import Idealize.ShloMosaic.Lib.IdealHost
@[expose] public section
set_option maxRecDepth 16384
noncomputable section
/-! The real functions the programs compute, up to the attention, and the float literals as reals. -/
namespace Cert.Kit
open Idealize.ShloMosaic Finset

/-- A rank-two array holds the real function `f`. -/
def Is2 {a b : ℕ} (X : (⟨2, ![a, b]⟩ : Shape).Idx → EReal) (f : ℕ → ℕ → ℝ) : Prop :=
  ∀ (i : Fin a) (j : Fin b), X (ix2 i j) = ((f i j : ℝ) : EReal)
/-- A rank-three array holds the real function `f`. -/
def Is3 {a b c : ℕ} (X : (⟨3, ![a, b, c]⟩ : Shape).Idx → EReal) (f : ℕ → ℕ → ℕ → ℝ) : Prop :=
  ∀ (i : Fin a) (j : Fin b) (k : Fin c), X (ix3 i j k) = ((f i j k : ℝ) : EReal)

/-- A rank-four array holds the real function `f`. -/
def Is4 {a b c d : ℕ} (X : (⟨4, ![a, b, c, d]⟩ : Shape).Idx → EReal) (f : ℕ → ℕ → ℕ → ℕ → ℝ) : Prop :=
  ∀ (i : Fin a) (j : Fin b) (k : Fin c) (l : Fin d), X (ix4 i j k l) = ((f i j k l : ℝ) : EReal)

/-- The `1e-6` of the normalisations, as its float word has it. -/
def eps : ℝ := 8796093 / 2 ^ 43
theorem eps_pos : 0 < eps := by unfold eps; positivity
theorem lit_eps : Ideal.ofBits .f32 0x358637BD#32 = ((eps : ℝ) : EReal) := by
  simp [Ideal.ofBits, Ideal.ieee, eps, ← EReal.coe_mul]; norm_num
theorem lit_2048 : Ideal.ofBits .f32 0x45000000#32 = ((2048 : ℝ) : EReal) := by
  simp [Ideal.ofBits, Ideal.ieee, ← EReal.coe_mul]; norm_num
theorem lit_768 : Ideal.ofBits .f32 0x44400000#32 = ((768 : ℝ) : EReal) := by
  simp [Ideal.ofBits, Ideal.ieee, ← EReal.coe_mul]; norm_num
theorem lit_512 : Ideal.ofBits .f32 0x44000000#32 = ((512 : ℝ) : EReal) := by
  simp [Ideal.ofBits, Ideal.ieee, ← EReal.coe_mul]; norm_num
theorem lit_32 : Ideal.ofBits .f32 0x42000000#32 = ((32 : ℝ) : EReal) := by
  simp [Ideal.ofBits, Ideal.ieee, ← EReal.coe_mul]; norm_num
theorem lit_192 : Ideal.ofBits .f32 0x43400000#32 = ((192 : ℝ) : EReal) := by
  simp [Ideal.ofBits, Ideal.ieee, ← EReal.coe_mul]; norm_num
theorem lit_128 : Ideal.ofBits .f32 0x43000000#32 = ((128 : ℝ) : EReal) := by
  simp [Ideal.ofBits, Ideal.ieee, ← EReal.coe_mul]; norm_num
theorem lit_2 : Ideal.ofBits .f32 0x40000000#32 = ((2 : ℝ) : EReal) := by
  simp [Ideal.ofBits, Ideal.ieee, ← EReal.coe_mul]; norm_num
theorem lit_1e4 : Ideal.ofBits .f32 0x461C4000#32 = ((10000 : ℝ) : EReal) := by
  simp [Ideal.ofBits, Ideal.ieee, ← EReal.coe_mul]; norm_num

/-- The root-mean-square normalisation of the row `f` of length `n`, with gain `g`. -/
def rmsn (n : ℕ) (f g : ℕ → ℝ) (k : ℕ) : ℝ := f k * (Real.sqrt ((∑ j ∈ range n, f j * f j) / n + eps))⁻¹ * g k

theorem rsqrt_pos {r : ℝ} (h : 0 < r) : Ideal.rsqrt (r : EReal) = (((Real.sqrt r)⁻¹ : ℝ) : EReal) := by
  rw [Ideal.rsqrt_coe, if_neg (not_lt.2 h.le), if_neg h.ne']

/-- A normalised element, as the programs compute it. -/
theorem rmsn_coe (n : ℕ) [NeZero n] {f g : ℕ → ℝ} {F : Fin n → EReal} (hF : ∀ i, F i = (f i : ℝ)) {G N : EReal} {k : ℕ} {x : EReal}
    (hx : x = (f k : ℝ)) (hG : G = (g k : ℝ)) (hN : N = ((n : ℝ) : EReal)) :
    x * Ideal.rsqrt (Ideal.div (∑ i, F i * F i) N + Ideal.ofBits .f32 0x358637BD#32) * G = ((rmsn n f g k : ℝ) : EReal) := by
  have hn : (n : ℝ) ≠ 0 := Nat.cast_ne_zero.2 (NeZero.ne n)
  rw [sum_fin_coe n (fun i => F i * F i) (fun i => f i * f i) fun i => by rw [hF, EReal.coe_mul], hN, div_real _ hn, lit_eps,
    ← EReal.coe_add, rsqrt_pos, hx, hG, ← EReal.coe_mul, ← EReal.coe_mul, rmsn]
  exact add_pos_of_nonneg_of_pos (div_nonneg (sum_nonneg fun i _ => mul_self_nonneg _) (Nat.cast_nonneg n)) eps_pos

/-- A product of matrices over the reals. -/
def mm (n : ℕ) (a b : ℕ → ℕ → ℝ) (i j : ℕ) : ℝ := ∑ k ∈ range n, a i k * b k j
theorem mm_coe {n : ℕ} {a b : ℕ → ℕ → ℝ} {i j : ℕ} {A B : Fin n → EReal} (hA : ∀ k, A k = (a i k : ℝ)) (hB : ∀ k, B k = (b k j : ℝ)) :
    ∑ k, A k * B k = ((mm n a b i j : ℝ) : EReal) :=
  sum_fin_coe n _ (fun k => a i k * b k j) fun k => by rw [hA, hB, EReal.coe_mul]

/-- The score scale in base-two units: `1 / (√192 · log 2)`. -/
def S2 : ℝ := (Real.sqrt 192)⁻¹ * (Real.log 2)⁻¹
/-- The band attention's score scale in base-two units: `1 / (√128 · log 2)`. -/
def S3 : ℝ := (Real.sqrt 128)⁻¹ * (Real.log 2)⁻¹

/-- The rotary angle of position `i` and frequency `j` of 32. -/
def ang (i j : ℕ) : ℝ := (i : ℝ) * Real.rpow 10000 (-(j : ℝ) / 32)
theorem int_coe (i : ℕ) (h : i < 4096) : (FloatOps.sitofp (F := Ideal) .f32 (BitVec.ofNat 32 i)) = ((i : ℝ) : EReal) := by
  show ((((BitVec.ofNat 32 i).toInt : ℤ) : ℝ) : EReal) = _
  have e : (BitVec.ofNat 32 i).toInt = (i : ℤ) := by
    rw [BitVec.toInt_eq_toNat_of_lt (by simp only [BitVec.toNat_ofNat]; omega), BitVec.toNat_ofNat]; omega
  rw [e]; rfl
theorem ang_coe (i j : ℕ) (hi : i < 4096) (hj : j < 32) : FloatOps.sitofp (F := Ideal) FTy.f32 (BitVec.ofNat 32 i) *
    Ideal.pow (Ideal.ofBits FTy.f32 1176256512#32) (Ideal.div (-FloatOps.sitofp (F := Ideal) FTy.f32 (BitVec.ofNat 32 j)) (Ideal.ofBits FTy.f32 1107296256#32))
    = ((ang i j : ℝ) : EReal) := by
  rw [int_coe i hi, int_coe j (by omega), lit_1e4, lit_32, ← EReal.coe_neg, div_real _ (by norm_num)]
  show (i : EReal) * ((Real.rpow 10000 (-(j : ℝ) / 32) : ℝ) : EReal) = _
  rw [ang, EReal.coe_mul]; rfl
/-- Four pieces of 32 lanes side by side, read at lane `l`. -/
theorem cat4 {P0 P1 P2 P3 : Fin 32 → EReal} (f0 f1 f2 f3 : ℕ → ℝ) (h0 : ∀ l, P0 l = (f0 l : ℝ)) (h1 : ∀ l, P1 l = (f1 l : ℝ)) (h2 : ∀ l, P2 l = (f2 l : ℝ))
    (h3 : ∀ l, P3 l = (f3 l : ℝ)) (l : ℕ) (hl : l < 128) :
    (if h : l < 32 then P0 ⟨l, h⟩ else if h : l - 32 < 32 then P1 ⟨l - 32, h⟩ else if h : l - 32 - 32 < 32 then P2 ⟨l - 32 - 32, h⟩
      else P3 ⟨l - 32 - 32 - 32, by omega⟩)
    = (((if l < 32 then f0 l else if l < 64 then f1 (l - 32) else if l < 96 then f2 (l - 64) else f3 (l - 96)) : ℝ) : EReal) := by
  by_cases a : l < 32
  · rw [dif_pos a, if_pos a, h0]
  by_cases b : l < 64
  · rw [dif_neg a, if_neg a, dif_pos (by omega), if_pos b, h1]
  by_cases c : l < 96
  · rw [dif_neg a, if_neg a, dif_neg (by omega), if_neg b, dif_pos (by omega), if_pos c, h2]
    exact congrArg (fun k => ((f2 k : ℝ) : EReal)) (by show l - 32 - 32 = l - 64; omega)
  · rw [dif_neg a, if_neg a, dif_neg (by omega), if_neg b, dif_neg (by omega), if_neg c, h3]
    exact congrArg (fun k => ((f3 k : ℝ) : EReal)) (by show l - 32 - 32 - 32 = l - 96; omega)

/-- The kernel's rotary table: cosines twice, then the sines with the first copy negated. -/
def rtab (i l : ℕ) : ℝ := if l < 32 then Real.cos (ang i l) else if l < 64 then Real.cos (ang i (l - 32))
  else if l < 96 then -Real.sin (ang i (l - 64)) else Real.sin (ang i (l - 96))
/-- The column of 64 that lane `l` of 128 copies. -/
def rcol (l : ℕ) : ℕ := if l < 64 then l else if l < 96 then l - 32 else l - 96
theorem rcol_eq (f : ℕ → ℝ) (l : ℕ) (hl : l < 128) : (if l < 32 then f l else if l < 64 then f (32 + (l - 32)) else if l < 96 then f (32 + (l - 64)) else f (l - 96))
    = f (rcol l) := by
  unfold rcol
  repeat' split
  all_goals first
    | rfl
    | exact congrArg f (by omega)
    | (exfalso; omega)
end Cert.Kit
end
-- ==== Proof.InStep.lean ====
module
public import proofs.«01_k».proof.Proof.Model
public import proofs.«01_k».proof.Proof.IdealIn
@[expose] public section
set_option maxRecDepth 16384
noncomputable section
/-! The in-projection body's values over real blocks. -/
namespace Cert.KernelIdeal.Whole
open Cert.KernelIdeal Cert.KernelIdeal.Gen Cert.Kit
open Idealize.ShloMosaic Idealize.ShloMosaic.TcCoe Idealize.ShloMosaic.Tactic Finset

/-- The named constant `mla_scale_log2e`. -/
theorem scale_coe : (Named.named κ "mla_scale_log2e" 0x3DD53B95#32 : Ideal .f32) = ((S2 : ℝ) : EReal) :=
  IdealRules.named_const.ideal_named_scalar _ _ _ _ rfl
theorem scale3_coe : (Named.named κ "a_scale_log2e" 0x3E0293EE#32 : Ideal .f32) = ((S3 : ℝ) : EReal) :=
  IdealRules.named_const.ideal_named_scalar _ _ _ _ rfl

section
variable {x g rot cq ck gcq gckv : ℕ → ℕ → ℝ} {w : ℕ → ℕ → ℝ}
/-- The row's projection, turned lane by lane and folded with itself 64 lanes further (of `n`). -/
def fold64 (n : ℕ) (t : ℕ → ℝ) (e : ℕ) : ℝ := t e + t ((e + n - 64) % n)

theorem pay4_at {x0 : Vec Ideal S256x2048 .f32} {x1 : Vec Ideal S1x2048 .f32} (h0 : Is2 (a := 256) (b := 2048) x0 x) (h1 : Is2 (a := 1) (b := 2048) x1 g) :
    Is2 (a := 256) (b := 2048) (k0_pay4 x0 x1) fun i => rmsn 2048 (x i) (g 0) := fun i j => by
  pointwise [k0_pay4]
  exact rmsn_coe 2048 (fun k => h0 i k) (h0 i j) (h1 0 j) lit_2048
theorem pay6_at {x0 : Vec Ideal S256x2048 .f32} {x1 : Vec Ideal S1x2048 .f32} {x4 : Vec Ideal S2048x768 .bf16} {x6 : Vec Ideal S1x768 .f32}
    (h0 : Is2 (a := 256) (b := 2048) (k0_pay4 x0 x1) x) (h4 : Is2 (a := 2048) (b := 768) x4 w) (h6 : Is2 (a := 1) (b := 768) x6 g) :
    Is2 (a := 256) (b := 768) (k0_pay6 x0 x1 x4 x6) fun i => rmsn 768 (mm 2048 x w i) (g 0) := fun i j => by
  have e : ∀ k : Fin 768, ∑ d : Fin 2048, k0_pay4 x0 x1 (ix2 i d) * x4 (ix2 d k) = ((mm 2048 x w i k : ℝ) : EReal) :=
    fun k => mm_coe (fun d => h0 i d) (fun d => h4 d k)
  pointwise [k0_pay6]
  exact rmsn_coe 768 e (e j) (h6 0 j) lit_768
theorem pay7_at {u : FVec Ideal S256x768 .bf16} {x8 : Vec Ideal S768x1024 .bf16} (h0 : Is2 (a := 256) (b := 768) u x) (h8 : Is2 (a := 768) (b := 1024) x8 w) :
    Is2 (a := 256) (b := 1024) (k0_pay7 u x8) fun i e => mm 768 x w i e * S2 := fun i j => by
  pointwise [k0_pay7]
  rw [scale_coe, mm_coe (fun k => h0 i k) (fun k => h8 k j), ← EReal.coe_mul]
/-- Eight copies of a table of 128 lanes side by side, read at lane `e`. -/
theorem cat8 (R : Fin 128 → EReal) (f : ℕ → ℝ) (h : ∀ l, R l = (f l : ℝ)) (e : ℕ) (he : e < 1024) :
    (if h : e < 128 then R ⟨e, h⟩ else if h : e - 128 < 128 then R ⟨e - 128, h⟩ else if h : e - 128 - 128 < 128 then R ⟨e - 128 - 128, h⟩
      else if h : e - 128 - 128 - 128 < 128 then R ⟨e - 128 - 128 - 128, h⟩ else if h : e - 128 - 128 - 128 - 128 < 128 then R ⟨e - 128 - 128 - 128 - 128, h⟩
      else if h : e - 128 - 128 - 128 - 128 - 128 < 128 then R ⟨e - 128 - 128 - 128 - 128 - 128, h⟩
      else if h : e - 128 - 128 - 128 - 128 - 128 - 128 < 128 then R ⟨e - 128 - 128 - 128 - 128 - 128 - 128, h⟩
      else R ⟨e - 128 - 128 - 128 - 128 - 128 - 128 - 128, by omega⟩) = ((f (e % 128) : ℝ) : EReal) := by
  repeat' split
  all_goals
    rw [h]
    exact congrArg (fun k => ((f k : ℝ) : EReal)) (by show _ = e % 128; dsimp only; omega)
theorem pay8_at {r : FVec Ideal S256x128 .f32} {u : FVec Ideal S256x768 .bf16} {x8 : Vec Ideal S768x1024 .bf16} (hr : Is2 (a := 256) (b := 128) r rot)
    (h0 : Is2 (a := 256) (b := 768) u x) (h8 : Is2 (a := 768) (b := 1024) x8 w) :
    Is2 (a := 256) (b := 1024) (k0_pay8 r u x8) fun i e => fold64 1024 (fun e => mm 768 x w i e * rot i (e % 128)) e * S2 := fun i j => by
  pointwise [k0_pay8]
  refine (congrArg₂ (fun a b : EReal => a * b) (congrArg₂ (fun a b : EReal => a + b) (congrArg₂ (fun a b : EReal => a * b) (mm_coe (fun k => h0 i k) (fun k => h8 k _))
    (cat8 (fun l => r (ix2 i l)) _ (fun l => hr i l) _ j.2)) (congrArg₂ (fun a b : EReal => a * b) (mm_coe (fun k => h0 i k) (fun k => h8 k _))
    (cat8 (fun l => r (ix2 i l)) _ (fun l => hr i l) _ (by omega)))) scale_coe).trans ?_
  simp only [fold64, EReal.coe_mul, EReal.coe_add]
theorem pay9_at {u : FVec Ideal S256x2048 .bf16} {x5 : Vec Ideal S2048x640 .bf16} (h0 : Is2 (a := 256) (b := 2048) u x) (h5 : Is2 (a := 2048) (b := 640) x5 w) :
    Is2 (a := 256) (b := 640) (k0_pay9 u x5) (mm 2048 x w) := fun i j => by
  pointwise [k0_pay9]
  exact mm_coe (fun k => h0 i k) (fun k => h5 k j)
theorem pay10_at {u : FVec Ideal S256x2048 .bf16} {x5 : Vec Ideal S2048x640 .bf16} {x7 : Vec Ideal S1x512 .f32} (h : Is2 (a := 256) (b := 640) (k0_pay9 u x5) x)
    (h7 : Is2 (a := 1) (b := 512) x7 g) :
    Is2 (a := 256) (b := 512) (k0_pay10 u x5 x7) fun i => rmsn 512 (x i) (g 0) := fun i j => by
  pointwise [k0_pay10]
  exact rmsn_coe 512 (fun k => h i ⟨k, by omega⟩) (h i ⟨j, by omega⟩) (h7 0 j) lit_512
theorem pay11_at {u : FVec Ideal S256x2048 .bf16} {x5 : Vec Ideal S2048x640 .bf16} (h : Is2 (a := 256) (b := 640) (k0_pay9 u x5) x) :
    Is2 (a := 256) (b := 128) (k0_pay11 u x5) fun i l => x i (512 + l) := fun i j => by
  pointwise [k0_pay11]
  exact h i _
theorem pay12_at {r t : FVec Ideal S256x128 .f32} (hr : Is2 (a := 256) (b := 128) r rot) (ht : Is2 (a := 256) (b := 128) t x) :
    Is2 (a := 256) (b := 128) (k0_pay12 r t) fun i => fold64 128 fun l => x i l * rot i l := fun i j => by
  pointwise [k0_pay12]
  rw [ht, hr, ht, hr]
  simp only [fold64, EReal.coe_mul, EReal.coe_add]
theorem pay13_at {r t : FVec Ideal S256x128 .f32} (h : Is2 (a := 256) (b := 128) (k0_pay12 r t) x) :
    Is2 (a := 256) (b := 128) (k0_pay13 r t) fun i l => if 64 ≤ l then x i l else 0 := fun i j => by
  pointwise [k0_pay13]
  simp (disch := omega) only [hlo_ix]
  by_cases hj : 64 ≤ (j : ℕ)
  · simp [hj, Scalar.select, h i j]
  · simp [hj, Scalar.select]
theorem pay14_at {r t : FVec Ideal S256x128 .f32} (h : Is2 (a := 256) (b := 128) (k0_pay12 r t) x) :
    Is2 (a := 256) (b := 64) (k0_pay14 r t) x := fun i j => by
  pointwise [k0_pay14]
  exact h i _
theorem pay16_at {c : FVec Ideal S256x512 .f32} {x9 : Vec Ideal S512x2048 .bf16} (h : Is2 (a := 256) (b := 512) c x) (h9 : Is2 (a := 512) (b := 2048) x9 w) :
    Is2 (a := 256) (b := 1024) (k0_pay16 c x9) (mm 512 x w) := fun i j => by
  pointwise [k0_pay16, k0_pay15]
  exact mm_coe (fun k => h i k) (fun k => h9 k _)
theorem pay17_at {c : FVec Ideal S256x512 .f32} {x9 : Vec Ideal S512x2048 .bf16} (h : Is2 (a := 256) (b := 512) c x) (h9 : Is2 (a := 512) (b := 2048) x9 w) :
    Is2 (a := 256) (b := 1024) (k0_pay17 c x9) fun i e => mm 512 x w i (1024 + e) := fun i j => by
  pointwise [k0_pay17, k0_pay15]
  exact mm_coe (fun k => h i k) (fun k => h9 k _)
theorem pay19_at {u : FVec Ideal S256x2048 .bf16} {x3 : Vec Ideal S2048x1024 .bf16} (h : Is2 (a := 256) (b := 2048) u x) (h3 : Is2 (a := 2048) (b := 1024) x3 w) :
    Is2 (a := 256) (b := 1024) (k0_pay19 u x3) (mm 2048 x w) := fun i j => by
  pointwise [k0_pay19]
  exact mm_coe (fun k => h i k) (fun k => h3 k j)
theorem pay2_at {u : FVec Ideal S256x2048 .bf16} {x3 : Vec Ideal S2048x1024 .bf16} (h : Is2 (a := 256) (b := 2048) u x) (h3 : Is2 (a := 2048) (b := 1024) x3 w) :
    Is2 (a := 256) (b := 1024) (k0_pay2 u x3) (mm 2048 x w) := fun i j => by
  pointwise [k0_pay2]
  exact mm_coe (fun k => h i k) (fun k => h3 k j)
theorem pay3_at {u : FVec Ideal S256x2048 .bf16} {x3 : Vec Ideal S2048x1024 .bf16} (h : Is2 (a := 256) (b := 2048) u x) (h3 : Is2 (a := 2048) (b := 1024) x3 w) :
    Is2 (a := 256) (b := 1024) (k0_pay3 u x3) (mm 2048 x w) := fun i j => by
  pointwise [k0_pay3, k0_pay2]
  exact mm_coe (fun k => h i k) (fun k => h3 k j)
theorem pay18_at {u : FVec Ideal S256x2048 .bf16} {x3 : Vec Ideal S2048x1024 .bf16} (h : Is2 (a := 256) (b := 2048) u x) (h3 : Is2 (a := 2048) (b := 1024) x3 w) :
    Is2 (a := 256) (b := 1024) (k0_pay18 u x3) fun i e => mm 2048 x w i e * S3 := fun i j => by
  pointwise [k0_pay18]
  rw [scale3_coe, mm_coe (fun k => h i k) (fun k => h3 k j), ← EReal.coe_mul]
theorem pay1_at {z : FVec Ideal S256x1024 .f32} (h : Is2 (a := 256) (b := 1024) z x) : Is2 (a := 256) (b := 1024) (k0_pay1 z) x := fun i j => by
  pointwise [k0_pay1]
  exact h i j
end
end Cert.KernelIdeal.Whole
end
-- ==== Proof.InValue.lean ====
module
public import proofs.«01_k».proof.Proof.InStep
public import Idealize.ShloMosaic.Lib.Pipeline.ValueKit.Acc
public import Idealize.ShloMosaic.Lib.Pipeline.ValueKit.Geometry
@[expose] public section
set_option maxRecDepth 16384
noncomputable section
/-! The in-projection region's result arrays over real inputs. -/
namespace Cert.KernelIdeal.Whole
open Cert.KernelIdeal Cert.KernelIdeal.Gen Cert.Kit
open Idealize.ShloMosaic Idealize.ShloMosaic.TcCoe Idealize.ShloMosaic.Tactic Finset
open Idealize.ShloMosaic.Pipeline (Dat Cfg Window BodyObligation cellOf)

/-! ## The rows' values -/
section
variable (X G R WA WC WK GQ GK WU WV : ℕ → ℕ → ℝ)
/-- The normalised row. -/
def fu (r : ℕ) : ℕ → ℝ := rmsn 2048 (X r) (G 0)
/-- The normalised query latent. -/
def fcq (r : ℕ) : ℕ → ℝ := rmsn 768 (mm 2048 (fu X G) WC r) (GQ 0)
/-- The key-value latent before its normalisation, and the rotary key's columns. -/
def fzk : ℕ → ℕ → ℝ := mm 2048 (fu X G) WK
/-- The normalised key-value latent. -/
def fck (r : ℕ) : ℕ → ℝ := rmsn 512 (fzk X G WK r) (GK 0)
def fqn (r e : ℕ) : ℝ := mm 768 (fcq X G WC GQ) WU r e * S2
def fqr (r e : ℕ) : ℝ := fold64 1024 (fun e => mm 768 (fcq X G WC GQ) (fun k e => WU k (1024 + e)) r e * R (r % 4096) (e % 128)) e * S2
def fk2 (r : ℕ) : ℕ → ℝ := fold64 128 fun l => fzk X G WK r (512 + l) * R (r % 4096) l
def fkrp (r l : ℕ) : ℝ := if 64 ≤ l then fk2 X G R WK r l else 0
def fkn : ℕ → ℕ → ℝ := mm 512 (fck X G WK GK) WV
def fvm (r e : ℕ) : ℝ := mm 512 (fck X G WK GK) WV r (1024 + e)
def fqa (r e : ℕ) : ℝ := mm 2048 (fu X G) WA r e * S3
def fka : ℕ → ℕ → ℝ := mm 2048 (fu X G) fun k e => WA k (1024 + e)
def fva : ℕ → ℕ → ℝ := mm 2048 (fu X G) fun k e => WA k (2048 + e)
end

/-! ## One grid point -/
section
variable {x0 : Vec Ideal S256x2048 .f32} {x1 : Vec Ideal S1x2048 .f32} {x2 : Vec Ideal S256x128 .f32} {x3 : Vec Ideal S2048x3072 .bf16}
  {x4 : Vec Ideal S2048x768 .bf16} {x5 : Vec Ideal S2048x640 .bf16} {x6 : Vec Ideal S1x768 .f32} {x7 : Vec Ideal S1x512 .f32}
  {x8 : Vec Ideal S768x2048 .bf16} {x9 : Vec Ideal S512x2048 .bf16} {X G R WA WC WK GQ GK WU WV : ℕ → ℕ → ℝ} {o : ℕ}
  (h0 : Is2 (a := 256) (b := 2048) x0 fun i => X (o + i)) (h1 : Is2 (a := 1) (b := 2048) x1 G)
  (h2 : Is2 (a := 256) (b := 128) x2 fun i => R ((o + i) % 4096)) (h3 : Is2 (a := 2048) (b := 3072) x3 WA)
  (h4 : Is2 (a := 2048) (b := 768) x4 WC) (h5 : Is2 (a := 2048) (b := 640) x5 WK) (h6 : Is2 (a := 1) (b := 768) x6 GQ)
  (h7 : Is2 (a := 1) (b := 512) x7 GK) (h8 : Is2 (a := 768) (b := 2048) x8 WU) (h9 : Is2 (a := 512) (b := 2048) x9 WV)
include h0 h1
theorem u_at : Is2 (a := 256) (b := 2048) (k0_pay20 x0 x1 x2 x3 x4 x5 x6 x7 x8 x9) fun i => fu X G (o + i) :=
  pay4_at (x := fun i => X (o + i)) (g := G) (fun i j => by pointwise; exact h0 i j) (fun i j => by obtain rfl : i = 0 := Subsingleton.elim _ _; pointwise; exact h1 0 j)
include h4 h6 in
theorem cq_at : Is2 (a := 256) (b := 768) (k0_pay22 x0 x1 x2 x3 x4 x5 x6 x7 x8 x9) fun i => fcq X G WC GQ (o + i) :=
  pay6_at (x := fun i => fu X G (o + i)) (w := WC) (g := GQ)
    (pay4_at (x := fun i => X (o + i)) (g := G) (fun i j => by pointwise; exact h0 i j) (fun i j => by obtain rfl : i = 0 := Subsingleton.elim _ _; pointwise; exact h1 0 j))
    (fun i j => by pointwise; exact h4 i j) (fun i j => by obtain rfl : i = 0 := Subsingleton.elim _ _; pointwise; exact h6 0 j)
omit h0 h1 in
include h2 in
theorem rot_at : Is2 (a := 256) (b := 128) (k0_pay21 x0 x1 x2 x3 x4 x5 x6 x7 x8 x9) fun i => R ((o + i) % 4096) := fun i j => by
  pointwise [k0_pay21, k0_pay5]; exact h2 i j
include h4 h6 h8 in
theorem o13_at : Is2 (a := 256) (b := 1024) (out0_13 x0 x1 x2 x3 x4 x5 x6 x7 x8 x9) fun i e => fqn X G WC GQ WU (o + i) e := fun i e => by
  unfold out0_13; frame_out
  exact pay7_at (x := fun i => fcq X G WC GQ (o + i)) (w := WU) (cq_at h0 h1 h4 h6) (fun i j => by pointwise; exact h8 i _) i e
include h2 h4 h6 h8 in
theorem o14_at : Is2 (a := 256) (b := 1024) (out0_14 x0 x1 x2 x3 x4 x5 x6 x7 x8 x9) fun i e => fqr X G R WC GQ WU (o + i) e := fun i e => by
  unfold out0_14; frame_out
  exact pay8_at (x := fun i => fcq X G WC GQ (o + i)) (w := fun k e => WU k (1024 + e)) (rot := fun i => R ((o + i) % 4096)) (rot_at h2) (cq_at h0 h1 h4 h6)
    (fun i j => by pointwise; exact h8 i _) i e
include h5 in
theorem zk_at : Is2 (a := 256) (b := 640) (k0_pay9 (k0_pay20 x0 x1 x2 x3 x4 x5 x6 x7 x8 x9) (View.ld x5 r0_8)) fun i => fzk X G WK (o + i) :=
  pay9_at (x := fun i => fu X G (o + i)) (w := WK) (u_at h0 h1) (fun i j => by pointwise; exact h5 i j)
include h5 h7 in
theorem ck_at : Is2 (a := 256) (b := 512) (k0_pay23 x0 x1 x2 x3 x4 x5 x6 x7 x8 x9) fun i => fck X G WK GK (o + i) :=
  pay10_at (x := fun i => fzk X G WK (o + i)) (g := GK) (zk_at h0 h1 h5) (fun i j => by obtain rfl : i = 0 := Subsingleton.elim _ _; pointwise; exact h7 0 j)
include h5 h7 h9 in
theorem o15_at : Is2 (a := 256) (b := 1024) (out0_15 x0 x1 x2 x3 x4 x5 x6 x7 x8 x9) fun i e => fkn X G WK GK WV (o + i) e := fun i e => by
  unfold out0_15; frame_out
  exact pay16_at (x := fun i => fck X G WK GK (o + i)) (w := WV) (ck_at h0 h1 h5 h7) (fun i j => by pointwise; exact h9 i j) i e
include h5 h7 h9 in
theorem o16_at : Is2 (a := 256) (b := 1024) (out0_16 x0 x1 x2 x3 x4 x5 x6 x7 x8 x9) fun i e => fvm X G WK GK WV (o + i) e := fun i e => by
  unfold out0_16; frame_out
  exact pay17_at (x := fun i => fck X G WK GK (o + i)) (w := WV) (ck_at h0 h1 h5 h7) (fun i j => by pointwise; exact h9 i j) i e
include h2 h5 in
theorem k2_at : Is2 (a := 256) (b := 128) (k0_pay12 (k0_pay21 x0 x1 x2 x3 x4 x5 x6 x7 x8 x9) (k0_pay24 x0 x1 x2 x3 x4 x5 x6 x7 x8 x9)) fun i => fk2 X G R WK (o + i) :=
  pay12_at (rot := fun i => R ((o + i) % 4096)) (x := fun i l => fzk X G WK (o + i) (512 + l)) (rot_at h2) (pay11_at (x := fun i => fzk X G WK (o + i)) (zk_at h0 h1 h5))
include h2 h5 in
theorem o17_at : Is2 (a := 256) (b := 128) (out0_17 x0 x1 x2 x3 x4 x5 x6 x7 x8 x9) fun i e => fkrp X G R WK (o + i) e := fun i e => by
  unfold out0_17; frame_out
  exact pay13_at (x := fun i => fk2 X G R WK (o + i)) (k2_at h0 h1 h2 h5) i e
include h5 h7 in
theorem o18_at : Is2 (a := 256) (b := 512) (out0_18 x0 x1 x2 x3 x4 x5 x6 x7 x8 x9) fun i e => fck X G WK GK (o + i) e := fun i e => by
  unfold out0_18; frame_out
  exact pay10_at (x := fun i => fzk X G WK (o + i)) (g := GK) (pay9_at (x := fun i => fu X G (o + i)) (w := WK) (u_at h0 h1) h5) h7 i e
include h2 h5 in
theorem o19_at : Is2 (a := 256) (b := 64) (out0_19 x0 x1 x2 x3 x4 x5 x6 x7 x8 x9) fun i e => fk2 X G R WK (o + i) e := fun i e => by
  unfold out0_19; frame_out
  exact pay14_at (x := fun i => fk2 X G R WK (o + i)) (k2_at h0 h1 h2 h5) i e
include h3 in
theorem o20_at : Is2 (a := 256) (b := 1024) (out0_20 x0 x1 x2 x3 x4 x5 x6 x7 x8 x9) fun i e => fka X G WA (o + i) e := fun i e => by
  unfold out0_20; frame_out
  exact pay19_at (x := fun i => fu X G (o + i)) (w := fun k e => WA k (1024 + e)) (u_at h0 h1) (fun i j => by pointwise; exact h3 i _) i e
include h3 in
theorem o21_at : Is2 (a := 256) (b := 1024) (out0_21 x0 x1 x2 x3 x4 x5 x6 x7 x8 x9) fun i e => fva X G WA (o + i) e := fun i e => by
  unfold out0_21; frame_out
  exact pay2_at (x := fun i => fu X G (o + i)) (w := fun k e => WA k (2048 + e)) (u_at h0 h1) (fun i j => by pointwise; exact h3 i _) i e
include h3 in
theorem o10_at : Is2 (a := 256) (b := 1024) (out0_10 x0 x1 x2 x3 x4 x5 x6 x7 x8 x9) fun i e => fqa X G WA (o + i) e := fun i e => by
  unfold out0_10; frame_out
  exact pay18_at (x := fun i => fu X G (o + i)) (w := WA) (u_at h0 h1) (fun i j => by pointwise; exact h3 i _) i e
include h3 in
theorem o11_at : Is2 (a := 256) (b := 1024) (out0_11 x0 x1 x2 x3 x4 x5 x6 x7 x8 x9) fun i e => fka X G WA (o + i) e := fun i e => by
  unfold out0_11; frame_out
  exact pay1_at (x := fun i => fka X G WA (o + i))
    (pay19_at (x := fun i => fu X G (o + i)) (w := fun k e => WA k (1024 + e)) (u_at h0 h1) (fun i j => by pointwise; exact h3 i _)) i e
include h3 in
theorem o12_at : Is2 (a := 256) (b := 1024) (out0_12 x0 x1 x2 x3 x4 x5 x6 x7 x8 x9) fun i e => fva X G WA (o + i) e := fun i e => by
  unfold out0_12; frame_out
  exact pay3_at (x := fun i => fu X G (o + i)) (w := fun k e => WA k (2048 + e)) (u_at h0 h1) (fun i j => by pointwise; exact h3 i _) i e
theorem o22_at : Is2 (a := 256) (b := 2048) (out0_22 x0 x1 x2 x3 x4 x5 x6 x7 x8 x9) fun i e => fu X G (o + i) e := fun i e => by
  unfold out0_22; frame_out
  exact pay4_at (x := fun i => X (o + i)) (g := G) (fun i j => by pointwise; exact h0 i j) (fun i j => by obtain rfl : i = 0 := Subsingleton.elim _ _; pointwise; exact h1 0 j) i e
end

/-! ## The arrays -/
theorem idx0 : ∀ t : Fin cfg0.N, win0_0.index t = ![t.val, 0] ∧ win0_1.index t = ![0, 0] ∧ win0_2.index t = ![t.val % 16, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val / 16 * 2 + (t.val % 16 - 14), 0]
    ∧ win0_21.index t = ![t.val / 16 * 2 + (t.val % 16 - 14), 0] ∧ t.val < 128 ∧ win0_10.index t = ![t.val, 0] ∧ win0_11.index t = ![t.val, 0]
    ∧ win0_12.index t = ![t.val, 0] ∧ win0_22.index t = ![t.val, 0] :=
  (by decide +kernel : ∀ t : Fin grid0.N, _)

variable (V : (c : Dev nD) → (b : Ref sig .tc) → Buf (Elt Ideal) ((c : Thread nD τ).loc b))
/-- The in-projection region's argument arrays hold these real functions. -/
structure In0 (c : Dev nD) (X G R WA WC WK GQ GK WU WV : ℕ → ℕ → ℝ) : Prop where
  x : Is2 (a := 32768) (b := 2048) (V c main_v17) X
  g : Is2 (a := 1) (b := 2048) (V c main_arg1) G
  r : Is2 (a := 4096) (b := 128) (V c main_v16) R
  wa : Is2 (a := 2048) (b := 3072) (V c main_v22) WA
  wc : Is2 (a := 2048) (b := 768) (V c main_v24) WC
  wk : Is2 (a := 2048) (b := 640) (V c main_v31) WK
  gq : Is2 (a := 1) (b := 768) (V c main_arg3) GQ
  gk : Is2 (a := 1) (b := 512) (V c main_arg7) GK
  wu : Is2 (a := 768) (b := 2048) (V c main_v40) WU
  wv : Is2 (a := 512) (b := 2048) (V c main_v48) WV

section
variable {V} {c : Dev nD} {X G R WA WC WK GQ GK WU WV : ℕ → ℕ → ℝ} (t : Fin cfg0.N)
theorem blk0_0 {f : ℕ → ℕ → ℝ} (h : Is2 (a := 32768) (b := 2048) (V c main_v17) f) :
    Is2 (a := 256) (b := 2048) (iblk0 V c 0 t) fun i => f (t.val * 256 + i) := fun i e => by
  have ht : t.val < 128 := by have := idx0 t; tauto
  refine Eq.trans ?_ (h ⟨t.val * 256 + i, by omega⟩ e)
  blk_ext [iblk0, idx0 t]
theorem blk0_2 {f : ℕ → ℕ → ℝ} (h : Is2 (a := 4096) (b := 128) (V c main_v16) f) :
    Is2 (a := 256) (b := 128) (iblk0 V c 2 t) fun i => f ((t.val * 256 + i) % 4096) := fun i e => by
  have ht : t.val < 128 := by have := idx0 t; tauto
  have e1 : (t.val * 256 + (i : ℕ)) % 4096 = t.val % 16 * 256 + i := by omega
  show _ = ((f ((t.val * 256 + i) % 4096) e : ℝ) : EReal)
  rw [e1]
  refine Eq.trans ?_ (h ⟨t.val % 16 * 256 + i, by omega⟩ e)
  blk_ext [iblk0, idx0 t]
theorem blk0_1 {f : ℕ → ℕ → ℝ} (h : Is2 (a := 1) (b := 2048) (V c main_arg1) f) :
    Is2 (a := 1) (b := 2048) (iblk0 V c 1 t) f := fun i e => by
  refine Eq.trans ?_ (h i e)
  blk_ext [iblk0, idx0 t]
theorem blk0_3 {f : ℕ → ℕ → ℝ} (h : Is2 (a := 2048) (b := 3072) (V c main_v22) f) :
    Is2 (a := 2048) (b := 3072) (iblk0 V c 3 t) f := fun i e => by
  refine Eq.trans ?_ (h i e)
  blk_ext [iblk0, idx0 t]
theorem blk0_4 {f : ℕ → ℕ → ℝ} (h : Is2 (a := 2048) (b := 768) (V c main_v24) f) :
    Is2 (a := 2048) (b := 768) (iblk0 V c 4 t) f := fun i e => by
  refine Eq.trans ?_ (h i e)
  blk_ext [iblk0, idx0 t]
theorem blk0_5 {f : ℕ → ℕ → ℝ} (h : Is2 (a := 2048) (b := 640) (V c main_v31) f) :
    Is2 (a := 2048) (b := 640) (iblk0 V c 5 t) f := fun i e => by
  refine Eq.trans ?_ (h i e)
  blk_ext [iblk0, idx0 t]
theorem blk0_6 {f : ℕ → ℕ → ℝ} (h : Is2 (a := 1) (b := 768) (V c main_arg3) f) :
    Is2 (a := 1) (b := 768) (iblk0 V c 6 t) f := fun i e => by
  refine Eq.trans ?_ (h i e)
  blk_ext [iblk0, idx0 t]
theorem blk0_7 {f : ℕ → ℕ → ℝ} (h : Is2 (a := 1) (b := 512) (V c main_arg7) f) :
    Is2 (a := 1) (b := 512) (iblk0 V c 7 t) f := fun i e => by
  refine Eq.trans ?_ (h i e)
  blk_ext [iblk0, idx0 t]
theorem blk0_8 {f : ℕ → ℕ → ℝ} (h : Is2 (a := 768) (b := 2048) (V c main_v40) f) :
    Is2 (a := 768) (b := 2048) (iblk0 V c 8 t) f := fun i e => by
  refine Eq.trans ?_ (h i e)
  blk_ext [iblk0, idx0 t]
theorem blk0_9 {f : ℕ → ℕ → ℝ} (h : Is2 (a := 512) (b := 2048) (V c main_v48) f) :
    Is2 (a := 512) (b := 2048) (iblk0 V c 9 t) f := fun i e => by
  refine Eq.trans ?_ (h i e)
  blk_ext [iblk0, idx0 t]
end
end Cert.KernelIdeal.Whole
end
-- ==== Proof.InFinal.lean ====
module
public import proofs.«01_k».proof.Proof.InValue
public import Idealize.ShloMosaic.Lib.Pipeline.ValueKit.Acc
public import Idealize.ShloMosaic.Lib.Pipeline.ValueKit.Geometry
@[expose] public section
set_option maxRecDepth 16384
noncomputable section
/-! The in-projection region's result arrays, window by window. -/
namespace Cert.KernelIdeal.Whole
open Cert.KernelIdeal Cert.KernelIdeal.Gen Cert.Kit
open Idealize.ShloMosaic Idealize.ShloMosaic.TcCoe Idealize.ShloMosaic.Tactic Finset
open Idealize.ShloMosaic.Pipeline (Dat Cfg Window BodyObligation cellOf)

variable (V : (c : Dev nD) → (b : Ref sig .tc) → Buf (Elt Ideal) ((c : Thread nD τ).loc b))
/-- An array that holds `f` at coordinates holds it at every index. -/
theorem Is2.at {a b : ℕ} {X : (⟨2, ![a, b]⟩ : Shape).Idx → EReal} {f : ℕ → ℕ → ℝ} (h : Is2 X f) (y : (⟨2, ![a, b]⟩ : Shape).Idx) :
    X y = ((f (y 0 : ℕ) (y 1 : ℕ) : ℝ) : EReal) := by
  have e : y = ix2 (y 0) (y 1) := by funext a; fin_cases a <;> rfl
  exact (congrArg X e).trans (h _ _)
section
variable {V} {c : Dev nD} {X G R WA WC WK GQ GK WU WV : ℕ → ℕ → ℝ} (h : In0 V c X G R WA WC WK GQ GK WU WV)
include h
theorem final0_13 : (dat0 V c).arrAt 13 cfg0.N = fun y : S32768x1024.Idx => ((fqn X G WC GQ WU (y 0 : ℕ) (y 1 : ℕ) : ℝ) : EReal) := by
  refine (dat0 V c).arrAt_eq_of_covers 13 _ (by decide +kernel) fun t _ y => ?_
  blk_simp
  rw [after0_13]
  refine (Is2.at (o13_at (blk0_0 t h.x) (blk0_1 t h.g) (blk0_4 t h.wc) (blk0_6 t h.gq) (blk0_8 t h.wu)) y).trans ?_
  simp only [idx0 t]
  refine congrArg (fun r : ℝ => (r : EReal)) ?_
  show fqn X G WC GQ WU _ _ = fqn X G WC GQ WU (t.val * 256 + (y 0 : ℕ)) (0 * 1024 + (y 1 : ℕ))
  rw [Nat.zero_mul, Nat.zero_add]
theorem final0_14 : (dat0 V c).arrAt 14 cfg0.N = fun y : S32768x1024.Idx => ((fqr X G R WC GQ WU (y 0 : ℕ) (y 1 : ℕ) : ℝ) : EReal) := by
  refine (dat0 V c).arrAt_eq_of_covers 14 _ (by decide +kernel) fun t _ y => ?_
  blk_simp
  rw [after0_14]
  refine (Is2.at (o14_at (blk0_0 t h.x) (blk0_1 t h.g) (blk0_2 t h.r) (blk0_4 t h.wc) (blk0_6 t h.gq) (blk0_8 t h.wu)) y).trans ?_
  simp only [idx0 t]
  refine congrArg (fun r : ℝ => (r : EReal)) ?_
  show fqr X G R WC GQ WU _ _ = fqr X G R WC GQ WU (t.val * 256 + (y 0 : ℕ)) (0 * 1024 + (y 1 : ℕ))
  rw [Nat.zero_mul, Nat.zero_add]
theorem final0_15 : (dat0 V c).arrAt 15 cfg0.N = fun y : S32768x1024.Idx => ((fkn X G WK GK WV (y 0 : ℕ) (y 1 : ℕ) : ℝ) : EReal) := by
  refine (dat0 V c).arrAt_eq_of_covers 15 _ (by decide +kernel) fun t _ y => ?_
  blk_simp
  rw [after0_15]
  refine (Is2.at (o15_at (blk0_0 t h.x) (blk0_1 t h.g) (blk0_5 t h.wk) (blk0_7 t h.gk) (blk0_9 t h.wv)) y).trans ?_
  simp only [idx0 t]
  refine congrArg (fun r : ℝ => (r : EReal)) ?_
  show fkn X G WK GK WV _ _ = fkn X G WK GK WV (t.val * 256 + (y 0 : ℕ)) (0 * 1024 + (y 1 : ℕ))
  rw [Nat.zero_mul, Nat.zero_add]
theorem final0_16 : (dat0 V c).arrAt 16 cfg0.N = fun y : S32768x1024.Idx => ((fvm X G WK GK WV (y 0 : ℕ) (y 1 : ℕ) : ℝ) : EReal) := by
  refine (dat0 V c).arrAt_eq_of_covers 16 _ (by decide +kernel) fun t _ y => ?_
  blk_simp
  rw [after0_16]
  refine (Is2.at (o16_at (blk0_0 t h.x) (blk0_1 t h.g) (blk0_5 t h.wk) (blk0_7 t h.gk) (blk0_9 t h.wv)) y).trans ?_
  simp only [idx0 t]
  refine congrArg (fun r : ℝ => (r : EReal)) ?_
  show fvm X G WK GK WV _ _ = fvm X G WK GK WV (t.val * 256 + (y 0 : ℕ)) (0 * 1024 + (y 1 : ℕ))
  rw [Nat.zero_mul, Nat.zero_add]
theorem final0_17 : (dat0 V c).arrAt 17 cfg0.N = fun y : S32768x128.Idx => ((fkrp X G R WK (y 0 : ℕ) (y 1 : ℕ) : ℝ) : EReal) := by
  refine (dat0 V c).arrAt_eq_of_covers 17 _ (by decide +kernel) fun t _ y => ?_
  blk_simp
  rw [after0_17]
  refine (Is2.at (o17_at (blk0_0 t h.x) (blk0_1 t h.g) (blk0_2 t h.r) (blk0_5 t h.wk)) y).trans ?_
  simp only [idx0 t]
  refine congrArg (fun r : ℝ => (r : EReal)) ?_
  show fkrp X G R WK _ _ = fkrp X G R WK (t.val * 256 + (y 0 : ℕ)) (0 * 128 + (y 1 : ℕ))
  rw [Nat.zero_mul, Nat.zero_add]
theorem final0_18 : (dat0 V c).arrAt 18 cfg0.N = fun y : S32768x512.Idx => ((fck X G WK GK (y 0 : ℕ) (y 1 : ℕ) : ℝ) : EReal) := by
  refine (dat0 V c).arrAt_eq_of_covers 18 _ (by decide +kernel) fun t _ y => ?_
  blk_simp
  rw [after0_18]
  refine (Is2.at (o18_at (blk0_0 t h.x) (blk0_1 t h.g) (blk0_5 t h.wk) (blk0_7 t h.gk)) y).trans ?_
  simp only [idx0 t]
  refine congrArg (fun r : ℝ => (r : EReal)) ?_
  show fck X G WK GK _ _ = fck X G WK GK (t.val * 256 + (y 0 : ℕ)) (0 * 512 + (y 1 : ℕ))
  rw [Nat.zero_mul, Nat.zero_add]
theorem final0_19 : (dat0 V c).arrAt 19 cfg0.N = fun y : S32768x64.Idx => ((fk2 X G R WK (y 0 : ℕ) (y 1 : ℕ) : ℝ) : EReal) := by
  refine (dat0 V c).arrAt_eq_of_covers 19 _ (by decide +kernel) fun t _ y => ?_
  blk_simp
  rw [after0_19]
  refine (Is2.at (o19_at (blk0_0 t h.x) (blk0_1 t h.g) (blk0_2 t h.r) (blk0_5 t h.wk)) y).trans ?_
  simp only [idx0 t]
  refine congrArg (fun r : ℝ => (r : EReal)) ?_
  show fk2 X G R WK _ _ = fk2 X G R WK (t.val * 256 + (y 0 : ℕ)) (0 * 64 + (y 1 : ℕ))
  rw [Nat.zero_mul, Nat.zero_add]
theorem final0_20 : (dat0 V c).arrAt 20 cfg0.N
    = fun y : S4096x1024.Idx => ((fka X G WA ((y 0 : ℕ) / 512 * 4096 + 3584 + (y 0 : ℕ) % 512) (y 1 : ℕ) : ℝ) : EReal) := by
  refine (dat0 V c).arrAt_eq_of_covers 20 _ (by decide +kernel) fun t hf y => ?_
  blk_simp
  rw [after0_20]
  have hl : 14 ≤ t.val % 16 := (by decide +kernel : ∀ t : Fin grid0.N, win0_20.flush t = true → 14 ≤ t.val % 16) t hf
  have hy : (y 0 : ℕ) < 256 := (y 0).isLt
  refine (Is2.at (o20_at (blk0_0 t h.x) (blk0_1 t h.g) (blk0_3 t h.wa)) y).trans ?_
  simp only [idx0 t]
  refine congrArg (fun r : ℝ => (r : EReal)) ?_
  show fka X G WA (t.val * 256 + (y 0 : ℕ)) (y 1 : ℕ) = fka X G WA (((t.val / 16 * 2 + (t.val % 16 - 14)) * 256 + (y 0 : ℕ)) / 512 * 4096 + 3584 + ((t.val / 16 * 2 + (t.val % 16 - 14)) * 256 + (y 0 : ℕ)) % 512) (0 * 1024 + (y 1 : ℕ))
  have e1 : ((t.val / 16 * 2 + (t.val % 16 - 14)) * 256 + (y 0 : ℕ)) / 512 * 4096 + 3584 + ((t.val / 16 * 2 + (t.val % 16 - 14)) * 256 + (y 0 : ℕ)) % 512 = t.val * 256 + (y 0 : ℕ) := by
    have : t.val / 16 * 16 + t.val % 16 = t.val := by omega
    have : t.val % 16 < 16 := by omega
    rcases (by omega : t.val % 16 = 14 ∨ t.val % 16 = 15) with k | k <;> rw [k] <;> omega
  rw [e1, Nat.zero_mul, Nat.zero_add]
theorem final0_21 : (dat0 V c).arrAt 21 cfg0.N
    = fun y : S4096x1024.Idx => ((fva X G WA ((y 0 : ℕ) / 512 * 4096 + 3584 + (y 0 : ℕ) % 512) (y 1 : ℕ) : ℝ) : EReal) := by
  refine (dat0 V c).arrAt_eq_of_covers 21 _ (by decide +kernel) fun t hf y => ?_
  blk_simp
  rw [after0_21]
  have hl : 14 ≤ t.val % 16 := (by decide +kernel : ∀ t : Fin grid0.N, win0_21.flush t = true → 14 ≤ t.val % 16) t hf
  have hy : (y 0 : ℕ) < 256 := (y 0).isLt
  refine (Is2.at (o21_at (blk0_0 t h.x) (blk0_1 t h.g) (blk0_3 t h.wa)) y).trans ?_
  simp only [idx0 t]
  refine congrArg (fun r : ℝ => (r : EReal)) ?_
  show fva X G WA (t.val * 256 + (y 0 : ℕ)) (y 1 : ℕ) = fva X G WA (((t.val / 16 * 2 + (t.val % 16 - 14)) * 256 + (y 0 : ℕ)) / 512 * 4096 + 3584 + ((t.val / 16 * 2 + (t.val % 16 - 14)) * 256 + (y 0 : ℕ)) % 512) (0 * 1024 + (y 1 : ℕ))
  have e1 : ((t.val / 16 * 2 + (t.val % 16 - 14)) * 256 + (y 0 : ℕ)) / 512 * 4096 + 3584 + ((t.val / 16 * 2 + (t.val % 16 - 14)) * 256 + (y 0 : ℕ)) % 512 = t.val * 256 + (y 0 : ℕ) := by
    have : t.val / 16 * 16 + t.val % 16 = t.val := by omega
    have : t.val % 16 < 16 := by omega
    rcases (by omega : t.val % 16 = 14 ∨ t.val % 16 = 15) with k | k <;> rw [k] <;> omega
  rw [e1, Nat.zero_mul, Nat.zero_add]
theorem final0_10 : (dat0 V c).arrAt 10 cfg0.N = fun y : S32768x1024.Idx => ((fqa X G WA (y 0 : ℕ) (y 1 : ℕ) : ℝ) : EReal) := by
  refine (dat0 V c).arrAt_eq_of_covers 10 _ (by decide +kernel) fun t _ y => ?_
  blk_simp
  rw [after0_10]
  refine (Is2.at (o10_at (blk0_0 t h.x) (blk0_1 t h.g) (blk0_3 t h.wa)) y).trans ?_
  simp only [idx0 t]
  refine congrArg (fun r : ℝ => (r : EReal)) ?_
  show fqa X G WA _ _ = fqa X G WA (t.val * 256 + (y 0 : ℕ)) (0 * 1024 + (y 1 : ℕ))
  rw [Nat.zero_mul, Nat.zero_add]
theorem final0_11 : (dat0 V c).arrAt 11 cfg0.N = fun y : S32768x1024.Idx => ((fka X G WA (y 0 : ℕ) (y 1 : ℕ) : ℝ) : EReal) := by
  refine (dat0 V c).arrAt_eq_of_covers 11 _ (by decide +kernel) fun t _ y => ?_
  blk_simp
  rw [after0_11]
  refine (Is2.at (o11_at (blk0_0 t h.x) (blk0_1 t h.g) (blk0_3 t h.wa)) y).trans ?_
  simp only [idx0 t]
  refine congrArg (fun r : ℝ => (r : EReal)) ?_
  show fka X G WA _ _ = fka X G WA (t.val * 256 + (y 0 : ℕ)) (0 * 1024 + (y 1 : ℕ))
  rw [Nat.zero_mul, Nat.zero_add]
theorem final0_12 : (dat0 V c).arrAt 12 cfg0.N = fun y : S32768x1024.Idx => ((fva X G WA (y 0 : ℕ) (y 1 : ℕ) : ℝ) : EReal) := by
  refine (dat0 V c).arrAt_eq_of_covers 12 _ (by decide +kernel) fun t _ y => ?_
  blk_simp
  rw [after0_12]
  refine (Is2.at (o12_at (blk0_0 t h.x) (blk0_1 t h.g) (blk0_3 t h.wa)) y).trans ?_
  simp only [idx0 t]
  refine congrArg (fun r : ℝ => (r : EReal)) ?_
  show fva X G WA _ _ = fva X G WA (t.val * 256 + (y 0 : ℕ)) (0 * 1024 + (y 1 : ℕ))
  rw [Nat.zero_mul, Nat.zero_add]
theorem final0_22 : (dat0 V c).arrAt 22 cfg0.N = fun y : S32768x2048.Idx => ((fu X G (y 0 : ℕ) (y 1 : ℕ) : ℝ) : EReal) := by
  refine (dat0 V c).arrAt_eq_of_covers 22 _ (by decide +kernel) fun t _ y => ?_
  blk_simp
  rw [after0_22]
  refine (Is2.at (o22_at (blk0_0 t h.x) (blk0_1 t h.g)) y).trans ?_
  simp only [idx0 t]
  refine congrArg (fun r : ℝ => (r : EReal)) ?_
  show fu X G _ _ = fu X G (t.val * 256 + (y 0 : ℕ)) (0 * 2048 + (y 1 : ℕ))
  rw [Nat.zero_mul, Nat.zero_add]
end
end Cert.KernelIdeal.Whole
end
-- ==== Proof.HostIn.lean ====
module
public import proofs.«01_k».proof.Proof.InFinal
public import proofs.«01_k».proof.Proof.IdealRun
public import Idealize.ShloMosaic.Lib.Claim
public import Idealize.ShloMosaic.Lib.Pipeline.ValueKit.Acc
public import Idealize.ShloMosaic.Lib.Pipeline.ValueKit.Geometry
@[expose] public section
set_option maxRecDepth 16384
noncomputable section
/-! The host operations before the in-projection region: its argument arrays over real arguments. -/
namespace Cert.KernelIdeal.Whole
open Cert.KernelIdeal Cert.KernelIdeal.Gen Cert.Kit
open Idealize.ShloMosaic Idealize.ShloMosaic.TcCoe Idealize.ShloMosaic.Tactic Finset
open Idealize.ShloMosaic.Pipeline (Dat Cfg Window BodyObligation cellOf)

section
variable (W : Valuation τ sig (Elt Ideal))
theorem cat16 : StableHlo.after (hostOps0.drop 18) W (Proc.devRef .tc main_v16) = concatenate S4096x128 1 [⟨S4096x32, W (Proc.devRef .tc main_v13)⟩,
    ⟨S4096x32, W (Proc.devRef .tc main_v13)⟩, ⟨S4096x32, W (Proc.devRef .tc main_v15)⟩, ⟨S4096x32, W (Proc.devRef .tc main_v14)⟩]
    concatenates_S4096x32_S4096x32_S4096x32_S4096x32_S4096x128_d1 := by
  simp only [hostOps0, List.drop_succ_cons, List.drop_zero]
  after_results
  rfl
theorem cat31 : StableHlo.after (hostOps0.drop 31) W (Proc.devRef .tc main_v31) = truncf (F := Ideal) .bf16 (concatenate S2048x640 1 [⟨S2048x512, W (Proc.devRef .tc main_v25)⟩,
    ⟨S2048x128, concatenate S2048x128 1 [⟨S2048x32, W (Proc.devRef .tc main_v27)⟩, ⟨S2048x32, W (Proc.devRef .tc main_v28)⟩, ⟨S2048x32, W (Proc.devRef .tc main_v28)⟩,
    ⟨S2048x32, W (Proc.devRef .tc main_v27)⟩] concatenates_S2048x32_S2048x32_S2048x32_S2048x32_S2048x128_d1⟩] concatenates_S2048x512_S2048x128_S2048x640_d1 : FVec Ideal S2048x640 .f32) bitsLt_bf16_f32 := by
  simp only [hostOps0, List.drop_succ_cons, List.drop_zero]
  after_results
  rfl
theorem cat40 : StableHlo.after (hostOps0.drop 39) W (Proc.devRef .tc main_v40) = truncf (F := Ideal) .bf16 (concatenate S768x2048 1 [⟨S768x1024, W (Proc.devRef .tc main_v33)⟩,
    ⟨S768x1024, shapeCast S768x1024 (concatenate S768x8x128 2 [⟨S768x8x32, W (Proc.devRef .tc main_v35)⟩, ⟨S768x8x32, W (Proc.devRef .tc main_v36)⟩, ⟨S768x8x32, W (Proc.devRef .tc main_v36)⟩,
    ⟨S768x8x32, W (Proc.devRef .tc main_v35)⟩] concatenates_S768x8x32_S768x8x32_S768x8x32_S768x8x32_S768x8x128_d2) shapeCasts_S768x8x128_S768x1024⟩] concatenates_S768x1024_S768x1024_S768x2048_d1 : FVec Ideal S768x2048 .f32) bitsLt_bf16_f32 := by
  simp only [hostOps0, List.drop_succ_cons, List.drop_zero]
  after_results
  rfl
theorem v13_at : Is2 (a := 4096) (b := 32) (StableHlo.after (hostOps0.take 18) W (Proc.devRef .tc main_v13)) fun i j => Real.cos (ang i j) := fun i j => by
  simp only [hostOps0, List.take_succ_cons, List.take_zero]
  after_results
  pointwise
  rw [ang_coe i j i.2 j.2]; rfl
theorem v14_at : Is2 (a := 4096) (b := 32) (StableHlo.after (hostOps0.take 18) W (Proc.devRef .tc main_v14)) fun i j => Real.sin (ang i j) := fun i j => by
  simp only [hostOps0, List.take_succ_cons, List.take_zero]
  after_results
  pointwise
  rw [ang_coe i j i.2 j.2]; rfl
theorem v15_at : Is2 (a := 4096) (b := 32) (StableHlo.after (hostOps0.take 18) W (Proc.devRef .tc main_v15)) fun i j => -Real.sin (ang i j) := fun i j => by
  simp only [hostOps0, List.take_succ_cons, List.take_zero]
  after_results
  pointwise
  rw [ang_coe i j i.2 j.2]; rfl
end

section
variable (m : (ℓ : Loc nD τ sig) → Buf (Elt Ideal) ℓ) (ρ : Dev nD → PrngReg) (c : Dev nD)
/-- The launch memory's arguments hold these real functions. -/
structure Args (X : ℕ → ℕ → ℕ → ℝ) (g : ℕ → ℕ → ℝ) (w : ℕ → ℕ → ℕ → ℝ) (gq : ℕ → ℕ → ℝ) (uq : ℕ → ℕ → ℕ → ℝ) (uk uv : ℕ → ℕ → ℕ → ℕ → ℝ)
    (gk : ℕ → ℕ → ℝ) : Prop where
  x : Is3 (a := 8) (b := 4096) (c := 2048) (m ((c : Thread nD τ).loc main_arg0)) X
  g : Is2 (a := 1) (b := 2048) (m ((c : Thread nD τ).loc main_arg1)) g
  w : Is3 (a := 1) (b := 2048) (c := 8512) (m ((c : Thread nD τ).loc main_arg2)) w
  gq : Is2 (a := 1) (b := 768) (m ((c : Thread nD τ).loc main_arg3)) gq
  uq : Is3 (a := 1) (b := 768) (c := 1536) (m ((c : Thread nD τ).loc main_arg4)) uq
  uk : Is4 (a := 1) (b := 8) (c := 128) (d := 512) (m ((c : Thread nD τ).loc main_arg5)) uk
  uv : Is4 (a := 1) (b := 8) (c := 512) (d := 128) (m ((c : Thread nD τ).loc main_arg6)) uv
  gk : Is2 (a := 1) (b := 512) (m ((c : Thread nD τ).loc main_arg7)) gk
variable {m c} {X : ℕ → ℕ → ℕ → ℝ} {g : ℕ → ℕ → ℝ} {w : ℕ → ℕ → ℕ → ℝ} {gq : ℕ → ℕ → ℝ} {uq : ℕ → ℕ → ℕ → ℝ} {uk uv : ℕ → ℕ → ℕ → ℕ → ℝ}
    {gk : ℕ → ℕ → ℝ} (h : Args m c X g w gq uq uk uv gk)
include h
theorem v25_at : Is2 (a := 2048) (b := 512) (StableHlo.after (hostOps0.take 31) (W0 m ρ c) (Proc.devRef .tc main_v25)) fun k j => w 0 k (3840 + j) := fun i j => by
  simp only [hostOps0, List.take_succ_cons, List.take_zero]
  after_results
  pointwise
  exact h.w 0 i _
theorem v27_at : Is2 (a := 2048) (b := 32) (StableHlo.after (hostOps0.take 31) (W0 m ρ c) (Proc.devRef .tc main_v27)) fun k j => w 0 k (4352 + j) := fun i j => by
  simp only [hostOps0, List.take_succ_cons, List.take_zero]
  after_results
  pointwise
  exact h.w 0 i _
theorem v28_at : Is2 (a := 2048) (b := 32) (StableHlo.after (hostOps0.take 31) (W0 m ρ c) (Proc.devRef .tc main_v28)) fun k j => w 0 k (4352 + (32 + j)) := fun i j => by
  simp only [hostOps0, List.take_succ_cons, List.take_zero]
  after_results
  pointwise
  exact h.w 0 i _
theorem v33_at : Is2 (a := 768) (b := 1024) (StableHlo.after (hostOps0.take 39) (W0 m ρ c) (Proc.devRef .tc main_v33)) fun k e => uq 0 k (e / 128 * 192 + e % 128) := fun i j => by
  simp only [hostOps0, List.take_succ_cons, List.take_zero]
  after_results
  pointwise
  exact h.uq 0 i _
theorem v35_at : Is3 (a := 768) (b := 8) (c := 32) (StableHlo.after (hostOps0.take 39) (W0 m ρ c) (Proc.devRef .tc main_v35)) fun k n j => uq 0 k (n * 192 + (128 + j)) := fun i j k => by
  simp only [hostOps0, List.take_succ_cons, List.take_zero]
  after_results
  pointwise
  exact h.uq 0 i _
theorem v36_at : Is3 (a := 768) (b := 8) (c := 32) (StableHlo.after (hostOps0.take 39) (W0 m ρ c) (Proc.devRef .tc main_v36)) fun k n j => uq 0 k (n * 192 + (128 + (32 + j))) := fun i j k => by
  simp only [hostOps0, List.take_succ_cons, List.take_zero]
  after_results
  pointwise
  exact h.uq 0 i _
theorem v17_at : Is2 (a := 32768) (b := 2048) (V1 m ρ c main_v17) fun r => X (r / 4096) (r % 4096) := fun i j => by
  show StableHlo.after hostOps0 (W0 m ρ c) (Proc.devRef .tc main_v17) (ix2 i j) = _
  after_results
  pointwise
  exact h.x _ _ j
omit h in
theorem v16_at : Is2 (a := 4096) (b := 128) (V1 m ρ c main_v16) rtab := fun i j => by
  show StableHlo.after (hostOps0.drop 18) (StableHlo.after (hostOps0.take 18) (W0 m ρ c)) (Proc.devRef .tc main_v16) (ix2 i j) = _
  have a := v13_at (W0 m ρ c)
  have b := v14_at (W0 m ρ c)
  have d := v15_at (W0 m ρ c)
  generalize StableHlo.after (hostOps0.take 18) (W0 m ρ c) = W at a b d ⊢
  rw [cat16]
  pointwise
  exact cat4 (P0 := fun l => W (Proc.devRef .tc main_v13) (ix2 i l)) (P1 := fun l => W (Proc.devRef .tc main_v13) (ix2 i l)) (P2 := fun l => W (Proc.devRef .tc main_v15) (ix2 i l))
    (P3 := fun l => W (Proc.devRef .tc main_v14) (ix2 i l)) (fun l => Real.cos (ang i l)) (fun l => Real.cos (ang i l)) (fun l => -Real.sin (ang i l)) (fun l => Real.sin (ang i l)) (fun l => a i l) (fun l => a i l) (fun l => d i l) (fun l => b i l) j j.2
theorem v22_at : Is2 (a := 2048) (b := 3072) (V1 m ρ c main_v22) fun k j => w 0 k j := fun i j => by
  show StableHlo.after hostOps0 (W0 m ρ c) (Proc.devRef .tc main_v22) (ix2 i j) = _
  after_results
  pointwise
  exact h.w 0 i _
theorem v24_at : Is2 (a := 2048) (b := 768) (V1 m ρ c main_v24) fun k j => w 0 k (3072 + j) := fun i j => by
  show StableHlo.after hostOps0 (W0 m ρ c) (Proc.devRef .tc main_v24) (ix2 i j) = _
  after_results
  pointwise
  exact h.w 0 i _
theorem v31_at : Is2 (a := 2048) (b := 640) (V1 m ρ c main_v31) fun k j => if j < 512 then w 0 k (3840 + j) else w 0 k (4352 + rcol (j - 512)) := fun i j => by
  show StableHlo.after (hostOps0.drop 31) (StableHlo.after (hostOps0.take 31) (W0 m ρ c)) (Proc.devRef .tc main_v31) (ix2 i j) = _
  have h25 := v25_at ρ h
  have h27 := v27_at ρ h
  have h28 := v28_at ρ h
  generalize StableHlo.after (hostOps0.take 31) (W0 m ρ c) = W at h25 h27 h28 ⊢
  rw [cat31]
  pointwise
  by_cases hj : (j : ℕ) < 512
  · rw [dif_pos hj, if_pos hj]; exact h25 i ⟨j, hj⟩
  · rw [dif_neg hj, if_neg hj, ← rcol_eq (fun k => w 0 i (4352 + k)) _ (by omega)]
    exact cat4 (P0 := fun l => W (Proc.devRef .tc main_v27) (ix2 i l)) (P1 := fun l => W (Proc.devRef .tc main_v28) (ix2 i l)) (P2 := fun l => W (Proc.devRef .tc main_v28) (ix2 i l))
      (P3 := fun l => W (Proc.devRef .tc main_v27) (ix2 i l)) (fun l => w 0 i (4352 + l)) (fun l => w 0 i (4352 + (32 + l))) (fun l => w 0 i (4352 + (32 + l))) (fun l => w 0 i (4352 + l)) (fun l => h27 i l) (fun l => h28 i l) (fun l => h28 i l) (fun l => h27 i l) (j - 512) (by omega)
theorem v40_at : Is2 (a := 768) (b := 2048) (V1 m ρ c main_v40) fun k e => if e < 1024 then uq 0 k (e / 128 * 192 + e % 128)
    else uq 0 k ((e - 1024) / 128 * 192 + (128 + rcol ((e - 1024) % 128))) := fun i j => by
  show StableHlo.after (hostOps0.drop 39) (StableHlo.after (hostOps0.take 39) (W0 m ρ c)) (Proc.devRef .tc main_v40) (ix2 i j) = _
  have h33 := v33_at ρ h
  have h35 := v35_at ρ h
  have h36 := v36_at ρ h
  generalize StableHlo.after (hostOps0.take 39) (W0 m ρ c) = W at h33 h35 h36 ⊢
  rw [cat40]
  pointwise
  by_cases hj : (j : ℕ) < 1024
  · rw [dif_pos hj, if_pos hj]; exact h33 i ⟨j, hj⟩
  · rw [dif_neg hj, if_neg hj, ← rcol_eq (fun k => uq 0 i ((j - 1024) / 128 * 192 + (128 + k))) _ (by omega)]
    have hn : ((j : ℕ) - 1024) / 128 < 8 := by omega
    exact cat4 (P0 := fun l => W (Proc.devRef .tc main_v35) (ix3 i ⟨((j : ℕ) - 1024) / 128, hn⟩ l)) (P1 := fun l => W (Proc.devRef .tc main_v36) (ix3 i ⟨((j : ℕ) - 1024) / 128, hn⟩ l))
      (P2 := fun l => W (Proc.devRef .tc main_v36) (ix3 i ⟨((j : ℕ) - 1024) / 128, hn⟩ l)) (P3 := fun l => W (Proc.devRef .tc main_v35) (ix3 i ⟨((j : ℕ) - 1024) / 128, hn⟩ l))
      (fun l => uq 0 i (((j : ℕ) - 1024) / 128 * 192 + (128 + l))) (fun l => uq 0 i (((j : ℕ) - 1024) / 128 * 192 + (128 + (32 + l)))) (fun l => uq 0 i (((j : ℕ) - 1024) / 128 * 192 + (128 + (32 + l)))) (fun l => uq 0 i (((j : ℕ) - 1024) / 128 * 192 + (128 + l)))
      (fun l => h35 i ⟨((j : ℕ) - 1024) / 128, hn⟩ l) (fun l => h36 i ⟨((j : ℕ) - 1024) / 128, hn⟩ l) (fun l => h36 i ⟨((j : ℕ) - 1024) / 128, hn⟩ l) (fun l => h35 i ⟨((j : ℕ) - 1024) / 128, hn⟩ l) (((j : ℕ) - 1024) % 128) (by omega)
theorem v48_at : Is2 (a := 512) (b := 2048) (V1 m ρ c main_v48) fun k e => if e < 1024 then uk 0 (e / 128) (e % 128) k
    else uv 0 ((e - 1024) / 128) k ((e - 1024) % 128) := fun i j => by
  show StableHlo.after hostOps0 (W0 m ρ c) (Proc.devRef .tc main_v48) (ix2 i j) = _
  after_results
  pointwise
  split
  · exact h.uk 0 _ _ i
  · exact h.uv 0 _ i _
/-- What the first call reads, from the program's arguments. -/
theorem in0 : In0 (V1 m ρ) c (fun r => X (r / 4096) (r % 4096)) g rtab (fun k j => w 0 k j) (fun k j => w 0 k (3072 + j))
    (fun k j => if j < 512 then w 0 k (3840 + j) else w 0 k (4352 + rcol (j - 512))) gq gk
    (fun k e => if e < 1024 then uq 0 k (e / 128 * 192 + e % 128) else uq 0 k ((e - 1024) / 128 * 192 + (128 + rcol ((e - 1024) % 128))))
    (fun k e => if e < 1024 then uk 0 (e / 128) (e % 128) k else uv 0 ((e - 1024) / 128) k ((e - 1024) % 128)) where
  x := v17_at ρ h
  g := fun i j => (congrFun (W1_args m ρ c main_arg1 (by decide +kernel)) (ix2 i j)).trans (h.g i j)
  r := v16_at ρ
  wa := v22_at ρ h
  wc := v24_at ρ h
  wk := v31_at ρ h
  gq := fun i j => (congrFun (W1_args m ρ c main_arg3 (by decide +kernel)) (ix2 i j)).trans (h.gq i j)
  gk := fun i j => (congrFun (W1_args m ρ c main_arg7 (by decide +kernel)) (ix2 i j)).trans (h.gk i j)
  wu := v40_at ρ h
  wv := v48_at ρ h
end
end Cert.KernelIdeal.Whole
end
-- ==== Proof.MlaStep.lean ====
module
public import proofs.«01_k».proof.Proof.Kit
public import proofs.«01_k».proof.Proof.Gen.KernelIdeal.Skeleton
public import Idealize.ShloMosaic.Lib.WordCmp
public import Idealize.ShloMosaic.Lib.IdealHost
@[expose] public section
set_option maxRecDepth 16384
noncomputable section
/-! The attention kernel's block operations at an index, over the extended reals. -/
namespace Cert.KernelIdeal.Whole
open Cert.KernelIdeal Cert.KernelIdeal.Gen Cert.Kit
open Idealize.ShloMosaic Idealize.ShloMosaic.TcCoe Idealize.ShloMosaic.Tactic Finset

abbrev B512 := Vec Ideal S1x512x128 .bf16
abbrev B1024 := Vec Ideal S1x1024x128 .bf16

/-- The named constant `mask` is `-∞` over the extended reals. -/
theorem mask_bot : (Named.named κ "mask" 0xF149F2CA#32 : Ideal .f32) = ⊥ :=
  IdealRules.named_const.ideal_named_scalar _ _ _ _ rfl

/-- The running maximum and the accumulator of one tile of 512 rows. -/
structure St where
  m : FVec Ideal S512x1 .f32
  a : FVec Ideal S512x256 .f32

/-- Before the first block: nothing seen. -/
def st0 : St := ⟨k1_pay4 (F := Ideal), k1_pay5 (F := Ideal)⟩

/-- The scores of a block of 512 keys. -/
def sc512 (q r k kr : B512) : FVec Ideal S512x512 .f32 := k1_pay14 (F := Ideal) q r k kr
/-- The scores of a block of 1024 keys. -/
def sc1024 (q r : B512) (k kr : B1024) : FVec Ideal S512x1024 .f32 := k1_pay26 (F := Ideal) q r k kr
/-- The scores of the diagonal block, the keys of later chunks masked. -/
def scd (q r k kr : B512) : FVec Ideal S512x512 .f32 := k1_pay7 (F := Ideal) (sc512 q r k kr)
/-- The state after a block of 512 keys with scores `s` and values `v`. -/
def st512 (σ : St) (s : FVec Ideal S512x512 .f32) (v : B512) : St :=
  ⟨k1_pay17 (F := Ideal) σ.m s, k1_pay18 (F := Ideal) k1_pay3 σ.m σ.a s s v⟩
/-- The maximum over the scores of a block of 1024 keys. -/
def mx1024 (s : FVec Ideal S512x1024 .f32) : FVec Ideal S512x1 .f32 :=
  shapeCast S512x1 (multiReduction .maximumf [1] S512 s 0xFF800000#32 reduces_S512x1024_S512 (.inl rfl) rfl) shapeCasts_S512_S512x1
/-- The state after a block of 1024 keys. -/
def st1024 (σ : St) (s : FVec Ideal S512x1024 .f32) (v : B1024) : St :=
  ⟨k1_pay30 (F := Ideal) σ.m (mx1024 s), k1_pay31 (F := Ideal) k1_pay3 σ.m σ.a (mx1024 s) s v⟩
/-- The finished tile: the weighted values over the weights. -/
def fin512 (σ : St) : FVec Ideal S1x512x128 .bf16 :=
  shapeCast S1x512x128 (truncf .bf16 (divf (extractStridedSlice S512x128 ![0, 0] σ.a slices_S512x256_o0_0_S512x128)
    (extractStridedSlice S512x128 ![0, 128] σ.a slices_S512x256_o0_128_S512x128)) bitsLt_bf16_f32) shapeCasts_S512x128_S1x512x128

theorem ofBits_ninf : Ideal.ofBits FTy.f32 4286578688#32 = ⊥ := rfl

theorem chunk_word (a b : ℕ) (ha : a < 512) (hb : b < 512) :
    IntOp.cmpi CmpIPredicate.sle (IntOp.shrui ArithUnit.vector (BitVec.ofNat 32 a) 6#32)
        (IntOp.shrui ArithUnit.vector (BitVec.ofNat 32 b) 6#32) = BitVec.ofBool (decide (a / 64 ≤ b / 64)) := by
  have h : ∀ n, n < 512 → IntOp.shrui ArithUnit.vector (BitVec.ofNat 32 n) 6#32 = BitVec.ofNat 32 (n / 64) := by
    intro n hn
    show (BitVec.ofNat 32 n) >>> 6 = _
    apply BitVec.eq_of_toNat_eq
    rw [BitVec.toNat_ushiftRight, BitVec.toNat_ofNat, BitVec.toNat_ofNat, Nat.mod_eq_of_lt (by omega), Nat.mod_eq_of_lt (by omega), Nat.shiftRight_eq_div_pow]
  rw [h a ha, h b hb]
  have h1 : a / 64 < 8 := by omega
  have h2 : b / 64 < 8 := by omega
  simp (disch := omega) only [hlo_ix]

theorem mask512_at (s : Vec Ideal S512x512 .f32) (i j : Fin 512) :
    (k1_pay7 (F := Ideal) s) (ix2 i j) = if (j : ℕ) / 64 ≤ (i : ℕ) / 64 then s (ix2 i j) else ⊥ := by
  pointwise [k1_pay7, k1_pay2]
  rw [chunk_word _ _ j.2 i.2, mask_bot]
  by_cases h : (j : ℕ) / 64 ≤ (i : ℕ) / 64 <;> simp [h, Scalar.select]

theorem sc512_at (q r k kr : B512) (i j : Fin 512) :
    sc512 q r k kr (ix2 i j) = ∑ x : Fin 128, q (ix3 0 i x) * k (ix3 0 j x) + ∑ x : Fin 128, r (ix3 0 i x) * kr (ix3 0 j x) := by
  pointwise [sc512, k1_pay14, k1_pay11]
theorem sc1024_at (q r : B512) (k kr : B1024) (i : Fin 512) (j : Fin 1024) :
    sc1024 q r k kr (ix2 i j) = ∑ x : Fin 128, q (ix3 0 i x) * k (ix3 0 j x) + ∑ x : Fin 128, r (ix3 0 i x) * kr (ix3 0 j x) := by
  pointwise [sc1024, k1_pay26, k1_pay23]
theorem max512_at (σ : St) (s : FVec Ideal S512x512 .f32) (v : B512) (i : Fin 512) :
    (st512 σ s v).m (ix2 i 0) = max (σ.m (ix2 i 0)) (univ.fold max ⊥ fun x => s (ix2 i x)) := by
  show k1_pay17 (F := Ideal) σ.m s (ix2 i 0) = _
  pointwise [k1_pay17, ofBits_ninf]
theorem acc512_at (σ : St) (s : FVec Ideal S512x512 .f32) (v : B512) (i : Fin 512) (c : Fin 256) :
    (st512 σ s v).a (ix2 i c) = Ideal.exp2 (σ.m (ix2 i 0) - (st512 σ s v).m (ix2 i 0)) * σ.a (ix2 i c)
      + ∑ x : Fin 512, Ideal.exp2 (s (ix2 i x) - (st512 σ s v).m (ix2 i 0)) * if h : (c : ℕ) < 128 then v (ix3 0 x ⟨c, h⟩) else 1 := by
  show k1_pay18 (F := Ideal) k1_pay3 σ.m σ.a s s v (ix2 i c) = Ideal.exp2 (σ.m (ix2 i 0) - k1_pay17 σ.m s (ix2 i 0)) * σ.a (ix2 i c)
      + ∑ x : Fin 512, Ideal.exp2 (s (ix2 i x) - k1_pay17 σ.m s (ix2 i 0)) * _
  pointwise [k1_pay18, k1_pay3]
  rfl
theorem max1024_at (σ : St) (s : FVec Ideal S512x1024 .f32) (v : B1024) (i : Fin 512) :
    (st1024 σ s v).m (ix2 i 0) = max (σ.m (ix2 i 0)) (univ.fold max ⊥ fun x => s (ix2 i x)) := by
  show k1_pay30 (F := Ideal) σ.m (mx1024 s) (ix2 i 0) = _
  pointwise [k1_pay30, mx1024, ofBits_ninf]
theorem acc1024_at (σ : St) (s : FVec Ideal S512x1024 .f32) (v : B1024) (i : Fin 512) (c : Fin 256) :
    (st1024 σ s v).a (ix2 i c) = Ideal.exp2 (σ.m (ix2 i 0) - (st1024 σ s v).m (ix2 i 0)) * σ.a (ix2 i c)
      + ∑ x : Fin 1024, Ideal.exp2 (s (ix2 i x) - (st1024 σ s v).m (ix2 i 0)) * if h : (c : ℕ) < 128 then v (ix3 0 x ⟨c, h⟩) else 1 := by
  show k1_pay31 (F := Ideal) k1_pay3 σ.m σ.a (mx1024 s) s v (ix2 i c) = Ideal.exp2 (σ.m (ix2 i 0) - k1_pay30 σ.m (mx1024 s) (ix2 i 0)) * σ.a (ix2 i c)
      + ∑ x : Fin 1024, Ideal.exp2 (s (ix2 i x) - k1_pay30 σ.m (mx1024 s) (ix2 i 0)) * _
  pointwise [k1_pay31, k1_pay3]
  rfl
theorem fin512_at (σ : St) (i : Fin 512) (c : Fin 128) :
    fin512 σ (ix3 0 i c) = Ideal.div (σ.a (ix2 i ⟨c, by omega⟩)) (σ.a (ix2 i ⟨128 + c, by omega⟩)) := by
  pointwise [fin512]

/-! ## The real model -/

/-- The seen keys of row `i` of the batch: those of its own chunk of 64 and of the chunks before. -/
def seen (i k : ℕ) : Prop := k / 64 ≤ i / 64
instance (i : ℕ) : DecidablePred (seen i) := fun _ => Nat.decLe _ _
/-- The score of key `k` for row `i`, in base-two units: content and rotary parts. -/
def rsc (q r k kr : ℕ → ℕ → ℝ) (i j : ℕ) : ℝ := ∑ x ∈ range 128, q i x * k j x + ∑ x ∈ range 128, r i x * kr j x
/-- The values, with ones in the columns from 128 on. -/
def rv (v : ℕ → ℕ → ℝ) (k c : ℕ) : ℝ := if c < 128 then v k c else 1
/-- The attention output. -/
def rout (q r k kr v : ℕ → ℕ → ℝ) (n i c : ℕ) : ℝ :=
  (∑ j ∈ range n, (if seen i j then Real.rpow 2 (rsc q r k kr i j) else 0) * v j c)
    / ∑ j ∈ range n, (if seen i j then Real.rpow 2 (rsc q r k kr i j) else 0)

/-- A block of rows `o, o+1, …` of the real array `f`. -/
def Is512 (x : B512) (f : ℕ → ℕ → ℝ) (o : ℕ) : Prop := ∀ (i : Fin 512) (c : Fin 128), x (ix3 0 i c) = ((f (o + i) c : ℝ) : EReal)
def Is1024 (x : B1024) (f : ℕ → ℕ → ℝ) (o : ℕ) : Prop := ∀ (i : Fin 1024) (c : Fin 128), x (ix3 0 i c) = ((f (o + i) c : ℝ) : EReal)

/-- The tile's state after `n` keys, row by row (its rows start at `o`). -/
def TInv (q r k kr v : ℕ → ℕ → ℝ) (o n : ℕ) (σ : St) : Prop :=
  ∀ i : Fin 512, Inv (seen (o + i)) (rsc q r k kr (o + i)) (rv v) n (σ.m (ix2 i 0)) fun c => σ.a (ix2 i c)

section
variable {q r k kr v : ℕ → ℕ → ℝ} {o n : ℕ} {σ : St}

theorem TInv.zero : TInv q r k kr v o 0 st0 := fun i => by
  refine Or.inl ⟨?_, rfl, fun c => ?_⟩
  · show (Named.named κ "mask" 0xF149F2CA#32 : Ideal .f32) = ⊥; exact mask_bot
  · show (Scalar.ofBits .f32 0x00000000#32 : Ideal .f32) = 0; exact Ideal.ofBits_zero _

theorem TInv.s512 (h : TInv q r k kr v o n σ) (hn : n + 512 ≤ o) {Q R K KR V : B512} (hQ : Is512 Q q o) (hR : Is512 R r o)
    (hK : Is512 K k n) (hKR : Is512 KR kr n) (hV : Is512 V v n) : TInv q r k kr v o (n + 512) (st512 σ (sc512 Q R K KR) V) := fun i => by
  have hs : ∀ j : Fin 512, seen (o + i) (n + j) := fun j => by unfold seen; omega
  refine (h i).step 512 ⊥ rfl (fun j => sc512 Q R K KR (ix2 i j)) (fun j c => if h : (c : ℕ) < 128 then V (ix3 0 j ⟨c, h⟩) else 1)
    (fun j => ?_) (fun j c => ?_) 0 (hs 0) _ (max512_at σ _ V i) _ (fun c => acc512_at σ _ V i c)
  · rw [if_pos (hs j)]
    rw [sc512_at, rsc, EReal.coe_add]
    exact congrArg₂ _ (sum_fin_coe 128 _ (fun x => q (o + i) x * k (n + j) x) fun x => by rw [hQ, hK, EReal.coe_mul])
      (sum_fin_coe 128 _ (fun x => r (o + i) x * kr (n + j) x) fun x => by rw [hR, hKR, EReal.coe_mul])
  · dsimp only [rv]; split
    · exact hV _ _
    · simp

theorem TInv.s1024 (h : TInv q r k kr v o n σ) (hn : n + 1024 ≤ o) {Q R : B512} {K KR V : B1024} (hQ : Is512 Q q o) (hR : Is512 R r o)
    (hK : Is1024 K k n) (hKR : Is1024 KR kr n) (hV : Is1024 V v n) : TInv q r k kr v o (n + 1024) (st1024 σ (sc1024 Q R K KR) V) := fun i => by
  have hs : ∀ j : Fin 1024, seen (o + i) (n + j) := fun j => by unfold seen; omega
  refine (h i).step 1024 ⊥ rfl (fun j => sc1024 Q R K KR (ix2 i j)) (fun j c => if h : (c : ℕ) < 128 then V (ix3 0 j ⟨c, h⟩) else 1)
    (fun j => ?_) (fun j c => ?_) 0 (hs 0) _ (max1024_at σ _ V i) _ (fun c => acc1024_at σ _ V i c)
  · rw [if_pos (hs j)]
    rw [sc1024_at, rsc, EReal.coe_add]
    exact congrArg₂ _ (sum_fin_coe 128 _ (fun x => q (o + i) x * k (n + j) x) fun x => by rw [hQ, hK, EReal.coe_mul])
      (sum_fin_coe 128 _ (fun x => r (o + i) x * kr (n + j) x) fun x => by rw [hR, hKR, EReal.coe_mul])
  · dsimp only [rv]; split
    · exact hV _ _
    · simp

theorem TInv.sd (h : TInv q r k kr v o n σ) (hn : n = o) (ho : o % 64 = 0) {Q R K KR V : B512} (hQ : Is512 Q q o) (hR : Is512 R r o)
    (hK : Is512 K k n) (hKR : Is512 KR kr n) (hV : Is512 V v n) : TInv q r k kr v o (n + 512) (st512 σ (scd Q R K KR) V) := fun i => by
  refine (h i).step 512 ⊥ rfl (fun j => scd Q R K KR (ix2 i j)) (fun j c => if h : (c : ℕ) < 128 then V (ix3 0 j ⟨c, h⟩) else 1)
    (fun j => ?_) (fun j c => ?_) 0 (show _ ≤ _ by show (n + 0) / 64 ≤ _; omega) _ (max512_at σ _ V i) _ (fun c => acc512_at σ _ V i c)
  · have e : sc512 Q R K KR (ix2 i j) = ((rsc q r k kr (o + i) (n + j) : ℝ) : EReal) := by
      rw [sc512_at, rsc, EReal.coe_add]
      exact congrArg₂ _ (sum_fin_coe 128 _ (fun x => q (o + i) x * k (n + j) x) fun x => by rw [hQ, hK, EReal.coe_mul])
        (sum_fin_coe 128 _ (fun x => r (o + i) x * kr (n + j) x) fun x => by rw [hR, hKR, EReal.coe_mul])
    rw [scd, mask512_at, e]
    have : (j : ℕ) / 64 ≤ (i : ℕ) / 64 ↔ seen (o + i) (n + j) := by unfold seen; omega
    simp only [this]
  · dsimp only [rv]; split
    · exact hV _ _
    · simp

theorem TInv.fin (h : TInv q r k kr v o (o + 512) σ) (i : Fin 512) (c : Fin 128) :
    fin512 σ (ix3 0 i c) = ((rout q r k kr v (o + 512) (o + i) c : ℝ) : EReal) := by
  rw [fin512_at, (h i).fin (by omega) c c.2 (fun j => by simp [rv]) o (by omega) (by unfold seen; omega)]
  simp [rout, rv]
end
end Cert.KernelIdeal.Whole
end
-- ==== Proof.MlaPieces.lean ====
module
public import proofs.«01_k».proof.Proof.IdealMla
public import proofs.«01_k».proof.Proof.MlaStep
public import Idealize.ShloMosaic.Lib.Pipeline.ValueKit
public import Idealize.ShloMosaic.Lib.WholeRead
@[expose] public section
set_option maxRecDepth 16384
noncomputable section
/-! What each of the attention kernel's eight stores writes: its tile's chain of blocks. -/
namespace Cert.KernelIdeal.Whole
open Cert.KernelIdeal Cert.KernelIdeal.Gen Cert.Kit
open Idealize.ShloMosaic Idealize.ShloMosaic.TcCoe Idealize.ShloMosaic.Tactic Finset
open Idealize.ShloMosaic.Pipeline (Dat Cfg Window BodyObligation cellOf)

/-- The whole block of one batch row and head holds the real array `f`. -/
def IsBlk (X : Vec Ideal S1x4096x128 .bf16) (f : ℕ → ℕ → ℝ) : Prop := ∀ (i : Fin 4096) (c : Fin 128), X (ix3 0 i c) = ((f i c : ℝ) : EReal)

theorem is512_ld {m : Memref sig .tc .vmem S1x4096x128 .bf16} (h : m.IsWhole) {X : Vec Ideal S1x4096x128 .bf16} {f : ℕ → ℕ → ℝ} (hX : IsBlk X f)
    (o : ℕ) (inb : ∀ a, (![0, o, 0] : Fin 3 → ℕ) a + S1x512x128.size a ≤ S1x4096x128.size a) :
    Is512 (View.readAt (Elt Ideal) m.view (Rect.unit (s := S1x4096x128) ![0, o, 0] S1x512x128.size inb).toLoadRect (h.unread X)) f o := fun i c => by
  have ho : o + 512 ≤ 4096 := inb 1
  have e : (Rect.unit (s := S1x4096x128) ![0, o, 0] S1x512x128.size inb).toLoadRect.idx (ix3 0 i c) = ix3 0 ⟨o + i, by omega⟩ c := by
    refine funext fun a => ?_
    fin_cases a
    · rfl
    · exact Fin.ext (by show o + 1 * (i : ℕ) = o + i; rw [Nat.one_mul])
    · exact Fin.ext (by show 0 + 1 * (c : ℕ) = c; rw [Nat.one_mul, Nat.zero_add])
  exact (Memref.IsWhole.readAt_unread h X _ _).trans ((congrArg X e).trans (hX _ _))

theorem is1024_ld {m : Memref sig .tc .vmem S1x4096x128 .bf16} (h : m.IsWhole) {X : Vec Ideal S1x4096x128 .bf16} {f : ℕ → ℕ → ℝ} (hX : IsBlk X f)
    (o : ℕ) (inb : ∀ a, (![0, o, 0] : Fin 3 → ℕ) a + S1x1024x128.size a ≤ S1x4096x128.size a) :
    Is1024 (View.readAt (Elt Ideal) m.view (Rect.unit (s := S1x4096x128) ![0, o, 0] S1x1024x128.size inb).toLoadRect (h.unread X)) f o := fun i c => by
  have ho : o + 1024 ≤ 4096 := inb 1
  have e : (Rect.unit (s := S1x4096x128) ![0, o, 0] S1x1024x128.size inb).toLoadRect.idx (ix3 0 i c) = ix3 0 ⟨o + i, by omega⟩ c := by
    refine funext fun a => ?_
    fin_cases a
    · rfl
    · exact Fin.ext (by show o + 1 * (i : ℕ) = o + i; rw [Nat.one_mul])
    · exact Fin.ext (by show 0 + 1 * (c : ℕ) = c; rw [Nat.one_mul, Nat.zero_add])
  exact (Memref.IsWhole.readAt_unread h X _ _).trans ((congrArg X e).trans (hX _ _))

/-- The keys from a chunk's end on are not seen, so the sums may run over all keys. -/
theorem rout_le (q r k kr v : ℕ → ℕ → ℝ) (n N i c : ℕ) (hi : i < n) (hn : n % 64 = 0) (hN : n ≤ N) :
    rout q r k kr v n i c = rout q r k kr v N i c := by
  have hz : ∀ j ∈ range N, j ∉ range n → ¬ seen i j := fun j _ hj => by
    unfold seen; simp only [mem_range, not_lt] at hj; omega
  have hsub : range n ⊆ range N := range_subset_range.2 hN
  unfold rout
  rw [sum_subset hsub fun j h1 h2 => by rw [if_neg (hz j h1 h2), zero_mul], sum_subset hsub fun j h1 h2 => by rw [if_neg (hz j h1 h2)]]

theorem piece_of {q r k kr v : ℕ → ℕ → ℝ} {o : ℕ} {σ : St} (h : TInv q r k kr v o (o + 512) σ) (ho : o + 512 ≤ 4096) (ho' : o % 64 = 0)
    (P : S1x512x128.Idx → EReal) (hP : P = fin512 σ) (x : S1x512x128.Idx) (y : S1x4096x128.Idx) (h1 : (y 1 : ℕ) = o + (x 1 : ℕ)) (h2 : (y 2 : ℕ) = (x 2 : ℕ)) :
    P x = ((rout q r k kr v 4096 (y 1 : ℕ) (y 2 : ℕ) : ℝ) : EReal) := by
  rw [hP, h1, h2, ← rout_le q r k kr v (o + 512) 4096 _ _ (by have := (x 1).isLt; show o + (x 1 : ℕ) < o + 512; exact Nat.add_lt_add_left this o) (by omega) ho, eq_ix3 x]
  have e0 : x 0 = (0 : Fin 1) := Fin.ext (by have := (x 0).isLt; exact Nat.lt_one_iff.1 this)
  rw [e0]
  exact h.fin (x 1) (x 2)

theorem tile7 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 0).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of ((((((TInv.zero (o := 3584)).s1024 (by omega) (is512_ld harg2 hq 3584 _) (is512_ld harg3 hr 3584 _) (is1024_ld harg4 hk 0 _) (is1024_ld harg5 hkr 0 _) (is1024_ld harg6 hv 0 _)).s1024 (by omega) (is512_ld harg2 hq 3584 _) (is512_ld harg3 hr 3584 _) (is1024_ld harg4 hk 1024 _) (is1024_ld harg5 hkr 1024 _) (is1024_ld harg6 hv 1024 _)).s1024 (by omega) (is512_ld harg2 hq 3584 _) (is512_ld harg3 hr 3584 _) (is1024_ld harg4 hk 2048 _) (is1024_ld harg5 hkr 2048 _) (is1024_ld harg6 hv 2048 _)).s512 (by omega) (is512_ld harg2 hq 3584 _) (is512_ld harg3 hr 3584 _) (is512_ld harg4 hk 3072 _) (is512_ld harg5 hkr 3072 _) (is512_ld harg6 hv 3072 _)).sd (by omega) (by omega) (is512_ld harg2 hq 3584 _) (is512_ld harg3 hr 3584 _) (is512_ld harg4 hk 3584 _) (is512_ld harg5 hkr 3584 _) (is512_ld harg6 hv 3584 _)) (by omega) (by omega) _ rfl x _ (by show 3584 + 1 * (x 1 : ℕ) = _; rw [Nat.one_mul]) (by show 0 + 1 * (x 2 : ℕ) = _; rw [Nat.one_mul, Nat.zero_add])

theorem tile6 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 1).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of (((((TInv.zero (o := 3072)).s1024 (by omega) (is512_ld harg2 hq 3072 _) (is512_ld harg3 hr 3072 _) (is1024_ld harg4 hk 0 _) (is1024_ld harg5 hkr 0 _) (is1024_ld harg6 hv 0 _)).s1024 (by omega) (is512_ld harg2 hq 3072 _) (is512_ld harg3 hr 3072 _) (is1024_ld harg4 hk 1024 _) (is1024_ld harg5 hkr 1024 _) (is1024_ld harg6 hv 1024 _)).s1024 (by omega) (is512_ld harg2 hq 3072 _) (is512_ld harg3 hr 3072 _) (is1024_ld harg4 hk 2048 _) (is1024_ld harg5 hkr 2048 _) (is1024_ld harg6 hv 2048 _)).sd (by omega) (by omega) (is512_ld harg2 hq 3072 _) (is512_ld harg3 hr 3072 _) (is512_ld harg4 hk 3072 _) (is512_ld harg5 hkr 3072 _) (is512_ld harg6 hv 3072 _)) (by omega) (by omega) _ rfl x _ (by show 3072 + 1 * (x 1 : ℕ) = _; rw [Nat.one_mul]) (by show 0 + 1 * (x 2 : ℕ) = _; rw [Nat.one_mul, Nat.zero_add])

theorem tile5 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 2).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of (((((TInv.zero (o := 2560)).s1024 (by omega) (is512_ld harg2 hq 2560 _) (is512_ld harg3 hr 2560 _) (is1024_ld harg4 hk 0 _) (is1024_ld harg5 hkr 0 _) (is1024_ld harg6 hv 0 _)).s1024 (by omega) (is512_ld harg2 hq 2560 _) (is512_ld harg3 hr 2560 _) (is1024_ld harg4 hk 1024 _) (is1024_ld harg5 hkr 1024 _) (is1024_ld harg6 hv 1024 _)).s512 (by omega) (is512_ld harg2 hq 2560 _) (is512_ld harg3 hr 2560 _) (is512_ld harg4 hk 2048 _) (is512_ld harg5 hkr 2048 _) (is512_ld harg6 hv 2048 _)).sd (by omega) (by omega) (is512_ld harg2 hq 2560 _) (is512_ld harg3 hr 2560 _) (is512_ld harg4 hk 2560 _) (is512_ld harg5 hkr 2560 _) (is512_ld harg6 hv 2560 _)) (by omega) (by omega) _ rfl x _ (by show 2560 + 1 * (x 1 : ℕ) = _; rw [Nat.one_mul]) (by show 0 + 1 * (x 2 : ℕ) = _; rw [Nat.one_mul, Nat.zero_add])

theorem tile4 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 3).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of ((((TInv.zero (o := 2048)).s1024 (by omega) (is512_ld harg2 hq 2048 _) (is512_ld harg3 hr 2048 _) (is1024_ld harg4 hk 0 _) (is1024_ld harg5 hkr 0 _) (is1024_ld harg6 hv 0 _)).s1024 (by omega) (is512_ld harg2 hq 2048 _) (is512_ld harg3 hr 2048 _) (is1024_ld harg4 hk 1024 _) (is1024_ld harg5 hkr 1024 _) (is1024_ld harg6 hv 1024 _)).sd (by omega) (by omega) (is512_ld harg2 hq 2048 _) (is512_ld harg3 hr 2048 _) (is512_ld harg4 hk 2048 _) (is512_ld harg5 hkr 2048 _) (is512_ld harg6 hv 2048 _)) (by omega) (by omega) _ rfl x _ (by show 2048 + 1 * (x 1 : ℕ) = _; rw [Nat.one_mul]) (by show 0 + 1 * (x 2 : ℕ) = _; rw [Nat.one_mul, Nat.zero_add])

theorem tile3 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 4).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of ((((TInv.zero (o := 1536)).s1024 (by omega) (is512_ld harg2 hq 1536 _) (is512_ld harg3 hr 1536 _) (is1024_ld harg4 hk 0 _) (is1024_ld harg5 hkr 0 _) (is1024_ld harg6 hv 0 _)).s512 (by omega) (is512_ld harg2 hq 1536 _) (is512_ld harg3 hr 1536 _) (is512_ld harg4 hk 1024 _) (is512_ld harg5 hkr 1024 _) (is512_ld harg6 hv 1024 _)).sd (by omega) (by omega) (is512_ld harg2 hq 1536 _) (is512_ld harg3 hr 1536 _) (is512_ld harg4 hk 1536 _) (is512_ld harg5 hkr 1536 _) (is512_ld harg6 hv 1536 _)) (by omega) (by omega) _ rfl x _ (by show 1536 + 1 * (x 1 : ℕ) = _; rw [Nat.one_mul]) (by show 0 + 1 * (x 2 : ℕ) = _; rw [Nat.one_mul, Nat.zero_add])

theorem tile2 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 5).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of (((TInv.zero (o := 1024)).s1024 (by omega) (is512_ld harg2 hq 1024 _) (is512_ld harg3 hr 1024 _) (is1024_ld harg4 hk 0 _) (is1024_ld harg5 hkr 0 _) (is1024_ld harg6 hv 0 _)).sd (by omega) (by omega) (is512_ld harg2 hq 1024 _) (is512_ld harg3 hr 1024 _) (is512_ld harg4 hk 1024 _) (is512_ld harg5 hkr 1024 _) (is512_ld harg6 hv 1024 _)) (by omega) (by omega) _ rfl x _ (by show 1024 + 1 * (x 1 : ℕ) = _; rw [Nat.one_mul]) (by show 0 + 1 * (x 2 : ℕ) = _; rw [Nat.one_mul, Nat.zero_add])

theorem tile1 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 6).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of (((TInv.zero (o := 512)).s512 (by omega) (is512_ld harg2 hq 512 _) (is512_ld harg3 hr 512 _) (is512_ld harg4 hk 0 _) (is512_ld harg5 hkr 0 _) (is512_ld harg6 hv 0 _)).sd (by omega) (by omega) (is512_ld harg2 hq 512 _) (is512_ld harg3 hr 512 _) (is512_ld harg4 hk 512 _) (is512_ld harg5 hkr 512 _) (is512_ld harg6 hv 512 _)) (by omega) (by omega) _ rfl x _ (by show 512 + 1 * (x 1 : ℕ) = _; rw [Nat.one_mul]) (by show 0 + 1 * (x 2 : ℕ) = _; rw [Nat.one_mul, Nat.zero_add])

theorem tile0 (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p, ((kernelRun1_A (F := Ideal) c i arg2 harg2 arg3 harg3 arg4 harg4 arg5 harg5 arg6 harg6 arg7 harg7 arg8 harg8 arg9 harg9 x0 x1 x2 x3 x4).1.drop 7).head? = some p → ∀ x : p.1.shape.Idx,
      p.2 x = (fun y : S1x4096x128.Idx => ((rout q r k kr v 4096 (y 1 : ℕ) (y 2 : ℕ) : ℝ) : EReal)) (p.1.emb x) := by
  unfold kernelRun1_A
  dsimp only [List.drop, List.head?]
  intro p hp x
  obtain rfl := Option.some.inj hp
  sl_unfold_words
  simp only [View.readCov_cons_toLoadRect, shapeCast_id, k1_pay6, k1_pay15, k1_pay16, k1_pay27, k1_pay29, k1_pay42, k1_pay45, k1_pay49, k1_pay55, k1_pay58, k1_pay61, k1_pay70, k1_pay72, k1_pay77, k1_pay81, k1_pay87, k1_pay90, k1_pay95, k1_pay101, k1_pay112, k1_pay115, k1_pay120, k1_pay124, k1_pay128]
  exact piece_of ((TInv.zero (o := 0)).sd (by omega) (by omega) (is512_ld harg2 hq 0 _) (is512_ld harg3 hr 0 _) (is512_ld harg4 hk 0 _) (is512_ld harg5 hkr 0 _) (is512_ld harg6 hv 0 _)) (by omega) (by omega) _ rfl x _ (by show 0 + 1 * (x 1 : ℕ) = _; rw [Nat.one_mul]) (by show 0 + 1 * (x 2 : ℕ) = _; rw [Nat.one_mul, Nat.zero_add])

/-- The attention output of one batch row and head as a block. -/
def routF (q r k kr v : ℕ → ℕ → ℝ) : S1x4096x128.Idx → EReal := fun y => ((rout q r k kr v 4096 (y 1 : ℕ) (y 2 : ℕ) : ℝ) : EReal)

/-- Every stored piece is the attention output at its rectangle. -/
theorem pieces_at (c : Dev nD) (i : grid1.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x1024 .f32) (harg8 : arg8.IsWhole) (arg9 : Memref sig .tc .vmem S512x1024 .f32) (harg9 : arg9.IsWhole)
    (x0 x1 x2 x3 x4 : Vec Ideal S1x4096x128 .bf16) (q r k kr v : ℕ → ℕ → ℝ) (hq : IsBlk x0 q) (hr : IsBlk x1 r) (hk : IsBlk x2 k) (hkr : IsBlk x3 kr) (hv : IsBlk x4 v) :
    ∀ p ∈ (kernelRun1_A (F := Ideal) c i arg2 harg2 arg3 harg3 arg4 harg4 arg5 harg5 arg6 harg6 arg7 harg7 arg8 harg8 arg9 harg9 x0 x1 x2 x3 x4).1, ∀ x : p.1.shape.Idx,
      p.2 x = routF q r k kr v (p.1.emb x) := by
  intro p hp
  have hl : (kernelRun1_A (F := Ideal) c i arg2 harg2 arg3 harg3 arg4 harg4 arg5 harg5 arg6 harg6 arg7 harg7 arg8 harg8 arg9 harg9 x0 x1 x2 x3 x4).1.length = 8 := by unfold kernelRun1_A; rfl
  obtain ⟨n, hn, rfl⟩ := List.getElem_of_mem hp
  rw [hl] at hn
  have hd : ((kernelRun1_A (F := Ideal) c i arg2 harg2 arg3 harg3 arg4 harg4 arg5 harg5 arg6 harg6 arg7 harg7 arg8 harg8 arg9 harg9 x0 x1 x2 x3 x4).1.drop n).head? = some ((kernelRun1_A (F := Ideal) c i arg2 harg2 arg3 harg3 arg4 harg4 arg5 harg5 arg6 harg6 arg7 harg7 arg8 harg8 arg9 harg9 x0 x1 x2 x3 x4).1[n]) := by
    exact List.head?_drop.trans (List.getElem?_eq_getElem (by rw [hl]; exact hn))
  have ht : n = 0 ∨ n = 1 ∨ n = 2 ∨ n = 3 ∨ n = 4 ∨ n = 5 ∨ n = 6 ∨ n = 7 := by omega
  rcases ht with rfl | rfl | rfl | rfl | rfl | rfl | rfl | rfl
  · exact tile7 c i arg2 harg2 arg3 harg3 arg4 harg4 arg5 harg5 arg6 harg6 arg7 harg7 arg8 harg8 arg9 harg9 x0 x1 x2 x3 x4 q r k kr v hq hr hk hkr hv _ hd
  · exact tile6 c i arg2 harg2 arg3 harg3 arg4 harg4 arg5 harg5 arg6 harg6 arg7 harg7 arg8 harg8 arg9 harg9 x0 x1 x2 x3 x4 q r k kr v hq hr hk hkr hv _ hd
  · exact tile5 c i arg2 harg2 arg3 harg3 arg4 harg4 arg5 harg5 arg6 harg6 arg7 harg7 arg8 harg8 arg9 harg9 x0 x1 x2 x3 x4 q r k kr v hq hr hk hkr hv _ hd
  · exact tile4 c i arg2 harg2 arg3 harg3 arg4 harg4 arg5 harg5 arg6 harg6 arg7 harg7 arg8 harg8 arg9 harg9 x0 x1 x2 x3 x4 q r k kr v hq hr hk hkr hv _ hd
  · exact tile3 c i arg2 harg2 arg3 harg3 arg4 harg4 arg5 harg5 arg6 harg6 arg7 harg7 arg8 harg8 arg9 harg9 x0 x1 x2 x3 x4 q r k kr v hq hr hk hkr hv _ hd
  · exact tile2 c i arg2 harg2 arg3 harg3 arg4 harg4 arg5 harg5 arg6 harg6 arg7 harg7 arg8 harg8 arg9 harg9 x0 x1 x2 x3 x4 q r k kr v hq hr hk hkr hv _ hd
  · exact tile1 c i arg2 harg2 arg3 harg3 arg4 harg4 arg5 harg5 arg6 harg6 arg7 harg7 arg8 harg8 arg9 harg9 x0 x1 x2 x3 x4 q r k kr v hq hr hk hkr hv _ hd
  · exact tile0 c i arg2 harg2 arg3 harg3 arg4 harg4 arg5 harg5 arg6 harg6 arg7 harg7 arg8 harg8 arg9 harg9 x0 x1 x2 x3 x4 q r k kr v hq hr hk hkr hv _ hd

end Cert.KernelIdeal.Whole
end
-- ==== Proof.MlaValue.lean ====
module
public import proofs.«01_k».proof.Proof.MlaPieces
public import proofs.«01_k».proof.Proof.Model
@[expose] public section
set_option maxRecDepth 16384
noncomputable section
/-! The attention region's result array over real inputs. -/
namespace Cert.KernelIdeal.Whole
open Cert.KernelIdeal Cert.KernelIdeal.Gen Cert.Kit
open Idealize.ShloMosaic Idealize.ShloMosaic.TcCoe Idealize.ShloMosaic.Tactic Finset
open Idealize.ShloMosaic.Pipeline (Dat Cfg Window BodyObligation cellOf)
variable (V : (c : Dev nD) → (b : Ref sig .tc) → Buf (Elt Ideal) ((c : Thread nD τ).loc b))

theorem idx1 : ∀ t : Fin cfg1.N, win1_0.index t = ![t.val / 8, 0, t.val % 8] ∧ win1_1.index t = ![t.val / 8, 0, t.val % 8]
    ∧ win1_2.index t = ![t.val / 8, 0, t.val % 8] ∧ win1_3.index t = ![t.val / 8, 0, 0] ∧ win1_4.index t = ![t.val / 8, 0, t.val % 8]
    ∧ win1_5.index t = ![t.val / 8, 0, t.val % 8] ∧ t.val < 64 :=
  (by decide +kernel : ∀ t : Fin grid1.N, _)

section
variable {V} {c : Dev nD} (t : Fin cfg1.N)
theorem blk1_0 {f : ℕ → ℕ → ℕ → ℝ} (h : Is3 (a := 8) (b := 4096) (c := 1024) (V c main_v50) f) :
    IsBlk (iblk1 V c 0 t) fun i e => f (t.val / 8) i (t.val % 8 * 128 + e) := fun i e => by
  have ht := (idx1 t).2.2.2.2.2.2
  refine Eq.trans ?_ (h ⟨t.val / 8, by omega⟩ i ⟨t.val % 8 * 128 + e, by omega⟩)
  blk_ext [iblk1, idx1 t]
theorem blk1_1 {f : ℕ → ℕ → ℕ → ℝ} (h : Is3 (a := 8) (b := 4096) (c := 1024) (V c main_v51) f) :
    IsBlk (iblk1 V c 1 t) fun i e => f (t.val / 8) i (t.val % 8 * 128 + e) := fun i e => by
  have ht := (idx1 t).2.2.2.2.2.2
  refine Eq.trans ?_ (h ⟨t.val / 8, by omega⟩ i ⟨t.val % 8 * 128 + e, by omega⟩)
  blk_ext [iblk1, idx1 t]
theorem blk1_2 {f : ℕ → ℕ → ℕ → ℝ} (h : Is3 (a := 8) (b := 4096) (c := 1024) (V c main_v52) f) :
    IsBlk (iblk1 V c 2 t) fun i e => f (t.val / 8) i (t.val % 8 * 128 + e) := fun i e => by
  have ht := (idx1 t).2.2.2.2.2.2
  refine Eq.trans ?_ (h ⟨t.val / 8, by omega⟩ i ⟨t.val % 8 * 128 + e, by omega⟩)
  blk_ext [iblk1, idx1 t]
theorem blk1_3 {f : ℕ → ℕ → ℕ → ℝ} (h : Is3 (a := 8) (b := 4096) (c := 128) (V c main_v53) f) :
    IsBlk (iblk1 V c 3 t) fun i e => f (t.val / 8) i (e) := fun i e => by
  have ht := (idx1 t).2.2.2.2.2.2
  refine Eq.trans ?_ (h ⟨t.val / 8, by omega⟩ i e)
  blk_ext [iblk1, idx1 t]
theorem blk1_4 {f : ℕ → ℕ → ℕ → ℝ} (h : Is3 (a := 8) (b := 4096) (c := 1024) (V c main_v54) f) :
    IsBlk (iblk1 V c 4 t) fun i e => f (t.val / 8) i (t.val % 8 * 128 + e) := fun i e => by
  have ht := (idx1 t).2.2.2.2.2.2
  refine Eq.trans ?_ (h ⟨t.val / 8, by omega⟩ i ⟨t.val % 8 * 128 + e, by omega⟩)
  blk_ext [iblk1, idx1 t]
end

/-- Head `e / 128`'s attention output at column `e % 128`, for batch row `b` and position `i`. -/
def mla (qn qr kn kr v : ℕ → ℕ → ℕ → ℝ) (b i e : ℕ) : ℝ :=
  rout (fun i d => qn b i (e / 128 * 128 + d)) (fun i d => qr b i (e / 128 * 128 + d)) (fun i d => kn b i (e / 128 * 128 + d))
    (fun i d => kr b i d) (fun i d => v b i (e / 128 * 128 + d)) 4096 i (e % 128)

/-- The attention region's result array. -/
theorem final1 (c : Dev nD) {qn qr kn kr v : ℕ → ℕ → ℕ → ℝ}
    (h0 : Is3 (a := 8) (b := 4096) (c := 1024) (V c main_v50) qn) (h1 : Is3 (a := 8) (b := 4096) (c := 1024) (V c main_v51) qr)
    (h2 : Is3 (a := 8) (b := 4096) (c := 1024) (V c main_v52) kn) (h3 : Is3 (a := 8) (b := 4096) (c := 128) (V c main_v53) kr)
    (h4 : Is3 (a := 8) (b := 4096) (c := 1024) (V c main_v54) v) :
    (dat1 V c).arrAt 5 cfg1.N = fun y : S8x4096x1024.Idx => ((mla qn qr kn kr v (y 0 : ℕ) (y 1 : ℕ) (y 2 : ℕ) : ℝ) : EReal) := by
  refine (dat1 V c).arrAt_eq_of_covers 5 _ (by decide +kernel) fun t _ y => ?_
  blk_simp
  rw [after1_5]
  unfold outsAt1 out1_A_5
  refine (View.read_writes_junk_apply_eq_canon VO1_5 y _).trans ((View.canon_apply_of_pieces (routF _ _ _ _ _) _
    (pieces_at c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (iblk1 V c 0 t) (iblk1 V c 1 t) (iblk1 V c 2 t) (iblk1 V c 3 t) (iblk1 V c 4 t) _ _ _ _ _ (blk1_0 t h0) (blk1_1 t h1) (blk1_2 t h2) (blk1_3 t h3) (blk1_4 t h4)) y
    (cover1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (iblk1 V c 0 t) (iblk1 V c 1 t) (iblk1 V c 2 t) (iblk1 V c 3 t) (iblk1 V c 4 t) y)).trans ?_)
  have ht := (idx1 t).2.2.2.2.2.2
  have hy : (y 2 : ℕ) < 128 := (y 2).isLt
  simp only [(idx1 t).2.2.2.2.2.1]
  refine congrArg (fun r : ℝ => (r : EReal)) ?_
  show rout _ _ _ _ _ 4096 (y 1 : ℕ) (y 2 : ℕ) = mla qn qr kn kr v (t.val / 8) (0 * 4096 + (y 1 : ℕ)) (t.val % 8 * 128 + (y 2 : ℕ))
  have e1 : (t.val % 8 * 128 + (y 2 : ℕ)) / 128 = t.val % 8 := by omega
  have e2 : (t.val % 8 * 128 + (y 2 : ℕ)) % 128 = (y 2 : ℕ) := by omega
  rw [mla, e1, e2, Nat.zero_mul, Nat.zero_add]
end Cert.KernelIdeal.Whole
end
-- ==== Proof.KernelOut.lean ====
module
public import proofs.«01_k».proof.Proof.HostIn
public import proofs.«01_k».proof.Proof.MlaValue
@[expose] public section
noncomputable section
namespace Cert.KernelIdeal.Whole
open Cert.KernelIdeal Cert.KernelIdeal.Gen Cert.Kit Idealize.ShloMosaic Idealize.ShloMosaic.TcCoe Idealize.SL.Sem Idealize.ShloMosaic.StableHlo
section
variable {m : (ℓ : Loc nD τ sig) → Buf (Elt Ideal) ℓ} (ρ : Dev nD → PrngReg) {c : Dev nD} {X G R WA WC WK GQ GK WU WV : ℕ → ℕ → ℝ}
  (h : In0 (V1 m ρ) c X G R WA WC WK GQ GK WU WV)
include h
theorem v50_at : Is3 (a := 8) (b := 4096) (c := 1024) (V3 m ρ c main_v50) fun b i e => fqn X G WC GQ WU (b * 4096 + i) e := fun b i e => by
  show StableHlo.after hostOps1 (W2 m ρ c) (Proc.devRef .tc main_v50) (ix3 b i e) = _
  after_results
  pointwise
  exact congrFun ((W2_arr m ρ c 13).trans (final0_13 h)) (ix2 ⟨b * 4096 + i, by omega⟩ e)
theorem v51_at : Is3 (a := 8) (b := 4096) (c := 1024) (V3 m ρ c main_v51) fun b i e => fqr X G R WC GQ WU (b * 4096 + i) e := fun b i e => by
  show StableHlo.after hostOps1 (W2 m ρ c) (Proc.devRef .tc main_v51) (ix3 b i e) = _
  after_results
  pointwise
  exact congrFun ((W2_arr m ρ c 14).trans (final0_14 h)) (ix2 ⟨b * 4096 + i, by omega⟩ e)
theorem v52_at : Is3 (a := 8) (b := 4096) (c := 1024) (V3 m ρ c main_v52) fun b i e => fkn X G WK GK WV (b * 4096 + i) e := fun b i e => by
  show StableHlo.after hostOps1 (W2 m ρ c) (Proc.devRef .tc main_v52) (ix3 b i e) = _
  after_results
  pointwise
  exact congrFun ((W2_arr m ρ c 15).trans (final0_15 h)) (ix2 ⟨b * 4096 + i, by omega⟩ e)
theorem v53_at : Is3 (a := 8) (b := 4096) (c := 128) (V3 m ρ c main_v53) fun b i e => fkrp X G R WK (b * 4096 + i) e := fun b i e => by
  show StableHlo.after hostOps1 (W2 m ρ c) (Proc.devRef .tc main_v53) (ix3 b i e) = _
  after_results
  pointwise
  exact congrFun ((W2_arr m ρ c 17).trans (final0_17 h)) (ix2 ⟨b * 4096 + i, by omega⟩ e)
theorem v54_at : Is3 (a := 8) (b := 4096) (c := 1024) (V3 m ρ c main_v54) fun b i e => fvm X G WK GK WV (b * 4096 + i) e := fun b i e => by
  show StableHlo.after hostOps1 (W2 m ρ c) (Proc.devRef .tc main_v54) (ix3 b i e) = _
  after_results
  pointwise
  exact congrFun ((W2_arr m ρ c 16).trans (final0_16 h)) (ix2 ⟨b * 4096 + i, by omega⟩ e)
theorem ob_eq : W4 m ρ c (Proc.devRef .tc main_v55) = fun y : S8x4096x1024.Idx =>
    ((mla (fun b i e => fqn X G WC GQ WU (b * 4096 + i) e) (fun b i e => fqr X G R WC GQ WU (b * 4096 + i) e) (fun b i e => fkn X G WK GK WV (b * 4096 + i) e)
      (fun b i e => fkrp X G R WK (b * 4096 + i) e) (fun b i e => fvm X G WK GK WV (b * 4096 + i) e) (y 0 : ℕ) (y 1 : ℕ) (y 2 : ℕ) : ℝ) : EReal) :=
  (W4_arr m ρ c 5).trans (final1 _ c (v50_at ρ h) (v51_at ρ h) (v52_at ρ h) (v53_at ρ h) (v54_at ρ h))
omit h in
theorem W4_skip (b : Ref sig .tc) (h1 : ∀ w, Pipeline.arrRef spec1 w ≠ b) (h2 : b ∉ hostOps1_W) : W4 m ρ c (Proc.devRef .tc b) = W2 m ρ c (Proc.devRef .tc b) :=
  (W4_of_ne m ρ c b h1).trans (W3_of m ρ c b h2)
theorem ka_eq : W4 m ρ c (Proc.devRef .tc main_v49_10) = fun y : S4096x1024.Idx => ((fka X G WA ((y 0 : ℕ) / 512 * 4096 + 3584 + (y 0 : ℕ) % 512) (y 1 : ℕ) : ℝ) : EReal) :=
  (W4_skip ρ main_v49_10 (by decide +kernel) (by decide +kernel)).trans ((W2_arr m ρ c 20).trans (final0_20 h))
theorem va_eq : W4 m ρ c (Proc.devRef .tc main_v49_11) = fun y : S4096x1024.Idx => ((fva X G WA ((y 0 : ℕ) / 512 * 4096 + 3584 + (y 0 : ℕ) % 512) (y 1 : ℕ) : ℝ) : EReal) :=
  (W4_skip ρ main_v49_11 (by decide +kernel) (by decide +kernel)).trans ((W2_arr m ρ c 21).trans (final0_21 h))
theorem ck_eq : W4 m ρ c (Proc.devRef .tc main_v49_8) = fun y : S32768x512.Idx => ((fck X G WK GK (y 0 : ℕ) (y 1 : ℕ) : ℝ) : EReal) :=
  (W4_skip ρ main_v49_8 (by decide +kernel) (by decide +kernel)).trans ((W2_arr m ρ c 18).trans (final0_18 h))
theorem kr_eq : W4 m ρ c (Proc.devRef .tc main_v49_9) = fun y : S32768x64.Idx => ((fk2 X G R WK (y 0 : ℕ) (y 1 : ℕ) : ℝ) : EReal) :=
  (W4_skip ρ main_v49_9 (by decide +kernel) (by decide +kernel)).trans ((W2_arr m ρ c 19).trans (final0_19 h))
theorem qa_all_eq : W4 m ρ c (Proc.devRef .tc main_v49_0) = fun y : S32768x1024.Idx => ((fqa X G WA (y 0 : ℕ) (y 1 : ℕ) : ℝ) : EReal) :=
  (W4_skip ρ main_v49_0 (by decide +kernel) (by decide +kernel)).trans ((W2_arr m ρ c 10).trans (final0_10 h))
theorem ka_all_eq : W4 m ρ c (Proc.devRef .tc main_v49_1) = fun y : S32768x1024.Idx => ((fka X G WA (y 0 : ℕ) (y 1 : ℕ) : ℝ) : EReal) :=
  (W4_skip ρ main_v49_1 (by decide +kernel) (by decide +kernel)).trans ((W2_arr m ρ c 11).trans (final0_11 h))
theorem va_all_eq : W4 m ρ c (Proc.devRef .tc main_v49_2) = fun y : S32768x1024.Idx => ((fva X G WA (y 0 : ℕ) (y 1 : ℕ) : ℝ) : EReal) :=
  (W4_skip ρ main_v49_2 (by decide +kernel) (by decide +kernel)).trans ((W2_arr m ρ c 12).trans (final0_12 h))
theorem u_all_eq : W4 m ρ c (Proc.devRef .tc main_v49_12) = fun y : S32768x2048.Idx => ((fu X G (y 0 : ℕ) (y 1 : ℕ) : ℝ) : EReal) :=
  (W4_skip ρ main_v49_12 (by decide +kernel) (by decide +kernel)).trans ((W2_arr m ρ c 22).trans (final0_22 h))
end
end Cert.KernelIdeal.Whole
end
-- ==== Proof.RefIn.lean ====
module
public import proofs.«01_k».proof.Proof.Model
public import proofs.«01_k».proof.Proof.Gen.ReferenceIdeal.Read
public import Idealize.ShloMosaic.Lib.Pointwise
@[expose] public section
set_option maxRecDepth 16384
noncomputable section
/-! The reference's values before its softmax, over real arguments. -/
namespace Cert.ReferenceIdeal.Whole
open Cert.ReferenceIdeal Cert.ReferenceIdeal.Gen Cert.ReferenceIdeal.Read Cert.Kit Idealize.ShloMosaic Idealize.ShloMosaic.StableHlo Finset

/-- The rotary embedding of a 64-lane vector `f` at position `i`. -/
def rope (f : ℕ → ℝ) (i l : ℕ) : ℝ :=
  if l < 32 then f l * Real.cos (ang i l) - f (32 + l) * Real.sin (ang i l)
  else f l * Real.cos (ang i (l - 32)) + f (l - 32) * Real.sin (ang i (l - 32))
section
variable (X : ℕ → ℕ → ℕ → ℝ) (g : ℕ → ℕ → ℝ) (w : ℕ → ℕ → ℕ → ℝ) (gq : ℕ → ℕ → ℝ) (uq : ℕ → ℕ → ℕ → ℝ) (uk uv : ℕ → ℕ → ℕ → ℕ → ℝ) (gk : ℕ → ℕ → ℝ)
/-- The normalised input. -/
def ru (b i d : ℕ) : ℝ := rmsn 2048 (X b i) (g 0) d
/-- The joint in-projection. -/
def rz (b i j : ℕ) : ℝ := ∑ k ∈ range 2048, ru X g b i k * w 0 k j
def rcq (b i j : ℕ) : ℝ := rmsn 768 (fun j => rz X g w b i (3072 + j)) (gq 0) j
def rck (b i j : ℕ) : ℝ := rmsn 512 (fun j => rz X g w b i (3840 + j)) (gk 0) j
def rq (b i e : ℕ) : ℝ := ∑ k ∈ range 768, rcq X g w gq b i k * uq 0 k e
def rqr (b i n l : ℕ) : ℝ := rope (fun l => rq X g w gq uq b i (n * 192 + (128 + l))) i l
def rkr (b i l : ℕ) : ℝ := rope (fun l => rz X g w b i (4352 + l)) i l
/-- The query carried to the latent space. -/
def rql (b i n c : ℕ) : ℝ := ∑ d ∈ range 128, uk 0 n d c * rq X g w gq uq b i (n * 192 + d)
/-- The attention scores. -/
def sc (b n i j : ℕ) : ℝ :=
  (∑ c ∈ range 512, rck X g w gk b j c * rql X g w gq uq uk b i n c + ∑ l ∈ range 64, rkr X g w b j l * rqr X g w gq uq b i n l) / Real.sqrt 192
end

/-- What the reference's arguments hold. -/
structure Args (x0 : (⟨S8x4096x2048, .f32⟩ : BufTy).Contents (Elt Ideal)) (x1 : (⟨S1x2048, .f32⟩ : BufTy).Contents (Elt Ideal))
    (x2 : (⟨S1x2048x8512, .f32⟩ : BufTy).Contents (Elt Ideal)) (x3 : (⟨S1x768, .f32⟩ : BufTy).Contents (Elt Ideal))
    (x4 : (⟨S1x768x1536, .f32⟩ : BufTy).Contents (Elt Ideal)) (x5 : (⟨S1x8x128x512, .f32⟩ : BufTy).Contents (Elt Ideal))
    (x6 : (⟨S1x8x512x128, .f32⟩ : BufTy).Contents (Elt Ideal)) (x7 : (⟨S1x512, .f32⟩ : BufTy).Contents (Elt Ideal))
    (X : ℕ → ℕ → ℕ → ℝ) (g : ℕ → ℕ → ℝ) (w : ℕ → ℕ → ℕ → ℝ) (gq : ℕ → ℕ → ℝ) (uq : ℕ → ℕ → ℕ → ℝ) (uk uv : ℕ → ℕ → ℕ → ℕ → ℝ) (gk : ℕ → ℕ → ℝ) : Prop where
  x : Is3 (a := 8) (b := 4096) (c := 2048) x0 X
  g : Is2 (a := 1) (b := 2048) x1 g
  w : Is3 (a := 1) (b := 2048) (c := 8512) x2 w
  gq : Is2 (a := 1) (b := 768) x3 gq
  uq : Is3 (a := 1) (b := 768) (c := 1536) x4 uq
  uk : Is4 (a := 1) (b := 8) (c := 128) (d := 512) x5 uk
  uv : Is4 (a := 1) (b := 8) (c := 512) (d := 128) x6 uv
  gk : Is2 (a := 1) (b := 512) x7 gk

section
variable {x0 : (⟨S8x4096x2048, .f32⟩ : BufTy).Contents (Elt Ideal)} {x1 : (⟨S1x2048, .f32⟩ : BufTy).Contents (Elt Ideal)}
    {x2 : (⟨S1x2048x8512, .f32⟩ : BufTy).Contents (Elt Ideal)} {x3 : (⟨S1x768, .f32⟩ : BufTy).Contents (Elt Ideal)}
    {x4 : (⟨S1x768x1536, .f32⟩ : BufTy).Contents (Elt Ideal)} {x5 : (⟨S1x8x128x512, .f32⟩ : BufTy).Contents (Elt Ideal)}
    {x6 : (⟨S1x8x512x128, .f32⟩ : BufTy).Contents (Elt Ideal)} {x7 : (⟨S1x512, .f32⟩ : BufTy).Contents (Elt Ideal)}
    {X : ℕ → ℕ → ℕ → ℝ} {g : ℕ → ℕ → ℝ} {w : ℕ → ℕ → ℕ → ℝ} {gq : ℕ → ℕ → ℝ} {uq : ℕ → ℕ → ℕ → ℝ} {uk uv : ℕ → ℕ → ℕ → ℕ → ℝ} {gk : ℕ → ℕ → ℝ}
    (h : Args x0 x1 x2 x3 x4 x5 x6 x7 X g w gq uq uk uv gk)
include h
theorem u_at : Is3 (a := 8) (b := 4096) (c := 2048) (val_main_v14 (F := Ideal) x0 x1) (ru X g) := fun b i d => by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  exact rmsn_coe 2048 (fun k => h.x b i k) (h.x b i d) (h.g 0 d) lit_2048
theorem z_at : Is3 (a := 8) (b := 4096) (c := 8512) (val_main_v16 (F := Ideal) x0 x1 x2) (rz X g w) := fun b i j => by
  have hu := u_at h
  unfold val_main_v16
  generalize val_main_v14 (F := Ideal) x0 x1 = U at hu ⊢
  pointwise [val_main_v15]
  exact mm_coe (fun k => hu b i k) (fun k => h.w 0 k j)
theorem cq_at : Is3 (a := 8) (b := 4096) (c := 768) (val_main_v37 (F := Ideal) x0 x1 x2 x3) (rcq X g w gq) := fun b i j => by
  have hz : Is3 (a := 8) (b := 4096) (c := 768) (val_main_v21 (F := Ideal) x0 x1 x2) fun b i j => rz X g w b i (3072 + j) := fun b i j => by
    have hz := z_at h
    unfold val_main_v21
    generalize val_main_v16 (F := Ideal) x0 x1 x2 = Z at hz ⊢
    pointwise
    exact hz b i _
  unfold val_main_v37 val_main_v34 val_main_v33 val_main_v32 val_main_v31 val_main_v29 val_main_v27 val_main_v26 val_main_v25
  generalize val_main_v21 (F := Ideal) x0 x1 x2 = Z at hz ⊢
  pointwise [val_main_v36, val_main_v35, val_main_v30, val_main_v28, val_main_v24, val_main_cst_2, val_main_cst_3, val_main_cst_4]
  exact rmsn_coe 768 (fun k => hz b i k) (hz b i j) (h.gq 0 j) lit_768
theorem ck_at : Is3 (a := 8) (b := 4096) (c := 512) (val_main_v88 (F := Ideal) x0 x1 x2 x7) (rck X g w gk) := fun b i j => by
  have hz : Is3 (a := 8) (b := 4096) (c := 512) (val_main_v22 (F := Ideal) x0 x1 x2) fun b i j => rz X g w b i (3840 + j) := fun b i j => by
    have hz := z_at h
    unfold val_main_v22
    generalize val_main_v16 (F := Ideal) x0 x1 x2 = Z at hz ⊢
    pointwise
    exact hz b i _
  unfold val_main_v88 val_main_v85 val_main_v84 val_main_v83 val_main_v82 val_main_v80 val_main_v78 val_main_v77 val_main_v76
  generalize val_main_v22 (F := Ideal) x0 x1 x2 = Z at hz ⊢
  pointwise [val_main_v87, val_main_v86, val_main_v81, val_main_v79, val_main_v75, val_main_cst_7, val_main_cst_8, val_main_cst_9]
  exact rmsn_coe 512 (fun k => hz b i k) (hz b i j) (h.gk 0 j) lit_512
theorem q_at : Is3 (a := 8) (b := 4096) (c := 1536) (val_main_v39 (F := Ideal) x0 x1 x2 x3 x4) (rq X g w gq uq) := fun b i j => by
  have hu := cq_at h
  unfold val_main_v39
  generalize val_main_v37 (F := Ideal) x0 x1 x2 x3 = U at hu ⊢
  pointwise [val_main_v38]
  exact mm_coe (fun k => hu b i k) (fun k => h.uq 0 k j)
omit h in
theorem cos1_at (i : Fin 4096) (j : Fin 32) : val_main_v54 (F := Ideal) (ix2 i j) = ((Real.cos (ang i j) : ℝ) : EReal) := by
  pointwise [val_main_v54, val_main_v53, val_main_v52, val_main_v51, val_main_v50, val_main_v49, val_main_v48, val_main_v47, val_main_v46, val_main_v45, val_main_v44, val_main_v43, val_main_v42, val_main_v0, val_main_cst_5, val_main_cst_6]
  rw [ang_coe i j i.2 j.2]; rfl
omit h in
theorem sin1_at (i : Fin 4096) (j : Fin 32) : val_main_v56 (F := Ideal) (ix2 i j) = ((Real.sin (ang i j) : ℝ) : EReal) := by
  pointwise [val_main_v56, val_main_v53, val_main_v52, val_main_v51, val_main_v50, val_main_v49, val_main_v48, val_main_v47, val_main_v46, val_main_v45, val_main_v44, val_main_v43, val_main_v42, val_main_v0, val_main_cst_5, val_main_cst_6]
  rw [ang_coe i j i.2 j.2]; rfl
omit h in
theorem cos2_at (i : Fin 4096) (j : Fin 32) : val_main_v101 (F := Ideal) (ix2 i j) = ((Real.cos (ang i j) : ℝ) : EReal) := by
  pointwise [val_main_v101, val_main_v100, val_main_v99, val_main_v98, val_main_v97, val_main_v96, val_main_v95, val_main_v94, val_main_v93, val_main_v92, val_main_v91, val_main_v90, val_main_v89, val_main_v0, val_main_cst_10, val_main_cst_11]
  rw [ang_coe i j i.2 j.2]; rfl
omit h in
theorem sin2_at (i : Fin 4096) (j : Fin 32) : val_main_v103 (F := Ideal) (ix2 i j) = ((Real.sin (ang i j) : ℝ) : EReal) := by
  pointwise [val_main_v103, val_main_v100, val_main_v99, val_main_v98, val_main_v97, val_main_v96, val_main_v95, val_main_v94, val_main_v93, val_main_v92, val_main_v91, val_main_v90, val_main_v89, val_main_v0, val_main_cst_10, val_main_cst_11]
  rw [ang_coe i j i.2 j.2]; rfl
end
end Cert.ReferenceIdeal.Whole
end
-- ==== Proof.RefAtt.lean ====
module
public import proofs.«01_k».proof.Proof.RefIn
@[expose] public section
set_option maxRecDepth 16384
noncomputable section
/-! The reference's rotary parts, scores and mask over real arguments. -/
namespace Cert.ReferenceIdeal.Whole
open Cert.ReferenceIdeal Cert.ReferenceIdeal.Gen Cert.ReferenceIdeal.Read Cert.Kit Idealize.ShloMosaic Idealize.ShloMosaic.StableHlo Finset
/-- Two pieces of 32 lanes side by side. -/
theorem rope_coe (f : ℕ → ℝ) (i : ℕ) {A B C D : Fin 32 → EReal} (hA : ∀ l : Fin 32, A l = (f l : ℝ)) (hB : ∀ l : Fin 32, B l = (f (32 + l) : ℝ))
    (hC : ∀ l : Fin 32, C l = (Real.cos (ang i l) : ℝ)) (hD : ∀ l : Fin 32, D l = (Real.sin (ang i l) : ℝ)) (l : ℕ) (hl : l < 64) :
    (if h : l < 32 then A ⟨l, h⟩ * C ⟨l, h⟩ - B ⟨l, h⟩ * D ⟨l, h⟩
      else B ⟨l - 32, by omega⟩ * C ⟨l - 32, by omega⟩ + A ⟨l - 32, by omega⟩ * D ⟨l - 32, by omega⟩) = ((rope f i l : ℝ) : EReal) := by
  unfold rope
  by_cases a : l < 32
  · rw [dif_pos a, if_pos a, hA, hB, hC, hD, EReal.coe_sub, EReal.coe_mul, EReal.coe_mul]
  · rw [dif_neg a, if_neg a, hA, hB, hC, hD, EReal.coe_add, EReal.coe_mul, EReal.coe_mul, Nat.add_sub_cancel' (by omega : 32 ≤ l)]
section
variable {x0 : (⟨S8x4096x2048, .f32⟩ : BufTy).Contents (Elt Ideal)} {x1 : (⟨S1x2048, .f32⟩ : BufTy).Contents (Elt Ideal)}
    {x2 : (⟨S1x2048x8512, .f32⟩ : BufTy).Contents (Elt Ideal)} {x3 : (⟨S1x768, .f32⟩ : BufTy).Contents (Elt Ideal)}
    {x4 : (⟨S1x768x1536, .f32⟩ : BufTy).Contents (Elt Ideal)} {x5 : (⟨S1x8x128x512, .f32⟩ : BufTy).Contents (Elt Ideal)}
    {x6 : (⟨S1x8x512x128, .f32⟩ : BufTy).Contents (Elt Ideal)} {x7 : (⟨S1x512, .f32⟩ : BufTy).Contents (Elt Ideal)}
    {X : ℕ → ℕ → ℕ → ℝ} {g : ℕ → ℕ → ℝ} {w : ℕ → ℕ → ℕ → ℝ} {gq : ℕ → ℕ → ℝ} {uq : ℕ → ℕ → ℕ → ℝ} {uk uv : ℕ → ℕ → ℕ → ℕ → ℝ} {gk : ℕ → ℕ → ℝ}
    (h : Args x0 x1 x2 x3 x4 x5 x6 x7 X g w gq uq uk uv gk)
include h
theorem qr_at : Is4 (a := 8) (b := 4096) (c := 8) (d := 64) (val_main_v70 (F := Ideal) x0 x1 x2 x3 x4) (rqr X g w gq uq) := fun b i n l => by
  have hq := q_at h
  have hc := cos1_at i
  have hs := sin1_at i
  unfold val_main_v70 val_main_v69 val_main_v68 val_main_v67 val_main_v66 val_main_v65 val_main_v64 val_main_v63 val_main_v62 val_main_v61 val_main_v60 val_main_v59 val_main_v58 val_main_v57 val_main_v55 val_main_v41 val_main_v40
  generalize val_main_v39 (F := Ideal) x0 x1 x2 x3 x4 = Q at hq ⊢
  generalize val_main_v54 (F := Ideal) = CC at hc ⊢
  generalize val_main_v56 (F := Ideal) = SS at hs ⊢
  pointwise
  exact rope_coe (fun l => rq X g w gq uq b i (n * 192 + (128 + l))) i (A := fun l => Q (ix3 b i ⟨n * 192 + (128 + l), by omega⟩)) (B := fun l => Q (ix3 b i ⟨n * 192 + (128 + (32 + l)), by omega⟩))
    (C := fun l => CC (ix2 i l)) (D := fun l => SS (ix2 i l)) (fun l => hq b i ⟨n * 192 + (128 + l), by omega⟩) (fun l => hq b i ⟨n * 192 + (128 + (32 + l)), by omega⟩) hc hs l l.2
theorem kr_at : Is3 (a := 8) (b := 4096) (c := 64) (val_main_v117 (F := Ideal) x0 x1 x2) (rkr X g w) := fun b i l => by
  have hz := z_at h
  have hc := cos2_at i
  have hs := sin2_at i
  unfold val_main_v117 val_main_v116 val_main_v115 val_main_v114 val_main_v113 val_main_v112 val_main_v111 val_main_v110 val_main_v109 val_main_v108 val_main_v107 val_main_v106 val_main_v105 val_main_v104 val_main_v102 val_main_v23
  generalize val_main_v16 (F := Ideal) x0 x1 x2 = Q at hz ⊢
  generalize val_main_v101 (F := Ideal) = CC at hc ⊢
  generalize val_main_v103 (F := Ideal) = SS at hs ⊢
  pointwise
  exact rope_coe (fun l => rz X g w b i (4352 + l)) i (A := fun l => Q (ix3 b i ⟨4352 + l, by omega⟩)) (B := fun l => Q (ix3 b i ⟨4352 + (32 + l), by omega⟩))
    (C := fun l => CC (ix2 i l)) (D := fun l => SS (ix2 i l)) (fun l => hz b i ⟨4352 + l, by omega⟩) (fun l => hz b i ⟨4352 + (32 + l), by omega⟩) hc hs l l.2
theorem ql_at : Is4 (a := 8) (b := 4096) (c := 8) (d := 512) (val_main_v74 (F := Ideal) x0 x1 x2 x3 x4 x5) (rql X g w gq uq uk) := fun b i n c => by
  have hq := q_at h
  unfold val_main_v74 val_main_v73 val_main_v71 val_main_v40
  generalize val_main_v39 (F := Ideal) x0 x1 x2 x3 x4 = Q at hq ⊢
  pointwise [val_main_v72]
  exact sum_fin_coe 128 _ (fun d => uk 0 n d c * rq X g w gq uq b i (n * 192 + d)) fun d => by
    rw [EReal.coe_mul]; exact congrArg₂ (· * ·) (h.uk 0 n d c) (hq b i ⟨n * 192 + d, by omega⟩)
theorem sc_at : Is4 (a := 8) (b := 8) (c := 4096) (d := 4096) (val_main_v133 (F := Ideal) x0 x1 x2 x3 x4 x5 x7) (sc X g w gq uq uk gk) := fun b n i j => by
  have hc := ck_at h
  have hq := ql_at h
  have hk := kr_at h
  have hr := qr_at h
  unfold val_main_v133 val_main_v132 val_main_v131 val_main_v130 val_main_v129 val_main_v128 val_main_v127 val_main_v126
  generalize val_main_v88 (F := Ideal) x0 x1 x2 x7 = C at hc ⊢
  generalize val_main_v74 (F := Ideal) x0 x1 x2 x3 x4 x5 = Q at hq ⊢
  generalize val_main_v117 (F := Ideal) x0 x1 x2 = K at hk ⊢
  generalize val_main_v70 (F := Ideal) x0 x1 x2 x3 x4 = R at hr ⊢
  pointwise [val_main_cst_12]
  rw [sum_fin_coe 512 (fun x => C (ix3 b j x) * Q (ix4 b i n x)) (fun c => rck X g w gk b j c * rql X g w gq uq uk b i n c) fun d => by rw [hc, hq, EReal.coe_mul],
    sum_fin_coe 64 (fun x => K (ix3 b j x) * R (ix4 b i n x)) (fun l => rkr X g w b j l * rqr X g w gq uq b i n l) fun d => by rw [hk, hr, EReal.coe_mul],
    lit_192, Ideal.sqrt_coe, if_neg (by norm_num), ← EReal.coe_add, div_real _ (by positivity)]
  rfl
omit h in
theorem chunk_at (i : Fin 4096) : val_main_v119 (F := Ideal) (ix1 i) = BitVec.ofNat 32 ((i : ℕ) / 64) := by
  pointwise [val_main_v119, val_main_call0_v13, val_main_call0_v12, val_main_call0_c_0, val_main_call0_v11, val_main_call0_v10, val_main_call0_v9, val_main_call0_c, val_main_call0_v8,
    val_main_call0_v7, val_main_call0_v6, val_main_call0_v5, val_main_call0_v4, val_main_call0_v3, val_main_call0_v2, val_main_call0_v1, val_main_call0_v0, val_main_v118, val_main_c]
  revert i
  decide +kernel
omit h in
theorem mask_at (i j : Fin 4096) : val_main_v124 (F := Ideal) (ix2 i j) = if (j : ℕ) / 64 ≤ (i : ℕ) / 64 then 1#1 else 0#1 := by
  unfold val_main_v124
  pointwise [val_main_v123, val_main_v122, val_main_v121, val_main_v120]
  rw [chunk_at, chunk_at]
  exact (by decide +kernel : ∀ a b : Fin 64, IntOp.cmpi CmpIPredicate.sge (BitVec.ofNat 32 a) (BitVec.ofNat 32 b) = if (b : ℕ) ≤ a then 1#1 else 0#1)
    ⟨i / 64, by omega⟩ ⟨j / 64, by omega⟩
theorem ms_at (b n : Fin 8) (i j : Fin 4096) : val_main_v135 (F := Ideal) x0 x1 x2 x3 x4 x5 x7 (ix4 b n i j)
    = if (j : ℕ) / 64 ≤ (i : ℕ) / 64 then ((sc X g w gq uq uk gk b n i j : ℝ) : EReal) else ⊥ := by
  have hs := sc_at h b n i j
  have hm := mask_at i j
  unfold val_main_v135 val_main_call1_v1 val_main_v134
  generalize val_main_v133 (F := Ideal) x0 x1 x2 x3 x4 x5 x7 = S at hs ⊢
  generalize val_main_v124 (F := Ideal) = M at hm ⊢
  pointwise [val_main_call1_v2, val_main_call1_v0, val_main_cst_13]
  rw [hm, hs]
  split <;> rfl
theorem ka_at (r : Fin 4096) (e : Fin 1024) : val_main_v154 (F := Ideal) x0 x1 x2 (ix2 r e) = ((rz X g w (r / 512) (3584 + r % 512) (1024 + e) : ℝ) : EReal) := by
  have hz := z_at h
  unfold val_main_v154 val_main_v153 val_main_v18 val_main_v17
  generalize val_main_v16 (F := Ideal) x0 x1 x2 = Q at hz ⊢
  pointwise
  exact hz _ _ _
theorem va_at (r : Fin 4096) (e : Fin 1024) : val_main_v156 (F := Ideal) x0 x1 x2 (ix2 r e) = ((rz X g w (r / 512) (3584 + r % 512) (2048 + e) : ℝ) : EReal) := by
  have hz := z_at h
  unfold val_main_v156 val_main_v155 val_main_v20 val_main_v19
  generalize val_main_v16 (F := Ideal) x0 x1 x2 = Q at hz ⊢
  pointwise
  exact hz _ _ _
theorem cko_at (r : Fin 32768) (e : Fin 512) : val_main_v157 (F := Ideal) x0 x1 x2 x7 (ix2 r e) = ((rck X g w gk (r / 4096) (r % 4096) e : ℝ) : EReal) := by
  have hz := ck_at h
  unfold val_main_v157
  generalize val_main_v88 (F := Ideal) x0 x1 x2 x7 = Q at hz ⊢
  pointwise
  exact hz _ _ _
theorem kro_at (r : Fin 32768) (e : Fin 64) : val_main_v158 (F := Ideal) x0 x1 x2 (ix2 r e) = ((rkr X g w (r / 4096) (r % 4096) e : ℝ) : EReal) := by
  have hz := kr_at h
  unfold val_main_v158
  generalize val_main_v117 (F := Ideal) x0 x1 x2 = Q at hz ⊢
  pointwise
  exact hz _ _ _
theorem qa_all_at (r : Fin 32768) (e : Fin 1024) : val_main_v166 (F := Ideal) x0 x1 x2 (ix2 r e) = ((rz X g w (r / 4096) (r % 4096) e * S3 : ℝ) : EReal) := by
  have hz := z_at h
  unfold val_main_v166 val_main_v165 val_main_v164 val_main_v163 val_main_v162 val_main_v161 val_main_v160 val_main_v159
  generalize val_main_v16 (F := Ideal) x0 x1 x2 = Q at hz ⊢
  pointwise [val_main_cst_17, val_main_cst_18]
  have h2 : (0 : ℝ) < Real.log 2 := Real.log_pos (by norm_num)
  rw [lit_128, lit_2, Ideal.sqrt_coe, if_neg (by norm_num), Ideal.log_coe, if_neg (by norm_num), ← EReal.coe_mul]
  refine (congrArg (fun x => Ideal.div x _) (hz _ _ _)).trans ?_
  rw [div_real _ (by positivity), div_eq_mul_inv, mul_inv]
  rfl
theorem ka_all_at (r : Fin 32768) (e : Fin 1024) : val_main_v168 (F := Ideal) x0 x1 x2 (ix2 r e) = ((rz X g w (r / 4096) (r % 4096) (1024 + e) : ℝ) : EReal) := by
  have hz := z_at h
  unfold val_main_v168 val_main_v167 val_main_v18 val_main_v17
  generalize val_main_v16 (F := Ideal) x0 x1 x2 = Q at hz ⊢
  pointwise
  exact hz _ _ _
theorem va_all_at (r : Fin 32768) (e : Fin 1024) : val_main_v170 (F := Ideal) x0 x1 x2 (ix2 r e) = ((rz X g w (r / 4096) (r % 4096) (2048 + e) : ℝ) : EReal) := by
  have hz := z_at h
  unfold val_main_v170 val_main_v169 val_main_v20 val_main_v19
  generalize val_main_v16 (F := Ideal) x0 x1 x2 = Q at hz ⊢
  pointwise
  exact hz _ _ _
theorem u_all_at (r : Fin 32768) (e : Fin 2048) : val_main_v172 (F := Ideal) x0 x1 (ix2 r e) = ((ru X g (r / 4096) (r % 4096) e : ℝ) : EReal) := by
  have hu := u_at h
  unfold val_main_v172 val_main_v171
  generalize val_main_v14 (F := Ideal) x0 x1 = U at hu ⊢
  pointwise
  exact hu _ _ _
end
end Cert.ReferenceIdeal.Whole
end
-- ==== Proof.RefSoft.lean ====
module
public import proofs.«01_k».proof.Proof.RefAtt
@[expose] public section
set_option maxRecDepth 16384
noncomputable section
/-! The reference's result over real arguments. -/
namespace Cert.ReferenceIdeal.Whole
open Cert.ReferenceIdeal Cert.ReferenceIdeal.Gen Cert.ReferenceIdeal.Read Cert.Kit Idealize.ShloMosaic Idealize.ShloMosaic.StableHlo Finset
theorem max_last {n0 n1 n2 n3 : ℕ} (S : FVec Ideal ⟨4, ![n0, n1, n2, n3]⟩ .f32) (init : FVec Ideal ⟨0, ![]⟩ .f32)
    (h' : (⟨4, ![n0, n1, n2, n3]⟩ : Shape).ReducesTo [3] ⟨3, ![n0, n1, n2]⟩) (hr : (⟨4, ![n0, n1, n2, n3]⟩ : Shape).Reduces [3] ⟨3, ![n0, n1, n2]⟩) (hu) (i : Fin n0) (j : Fin n1) (k : Fin n2) :
    Host.reduce FloatOps.maximumf S init h' hu (ix3 i j k) = univ.fold max (init (Shape.Idx.first hu) : EReal) fun x : Fin n3 => (S (ix4 i j k x) : EReal) := by
  rw [Host.reduce_eq_fold_single _ S init h' hr hu]
  have e : (S ∘ hr.lift (ix3 i j k)) = fun x : Fin n3 => S (ix4 i j k x) := funext fun x => congrArg S (funext fun a => Fin.ext (by
    match a with | ⟨0, _⟩ => rfl | ⟨1, _⟩ => rfl | ⟨2, _⟩ => rfl | ⟨3, _⟩ => rfl))
  rw [e]
  rfl
/-- The weight of key `j` at score `s j`, kept where `A j`. -/
def ew (A : ℕ → Prop) [DecidablePred A] (s : ℕ → ℝ) (j : ℕ) : ℝ := if A j then Real.exp (s j) else 0
theorem ew_shift (A : ℕ → Prop) [DecidablePred A] (s : ℕ → ℝ) (M : ℝ) (j : ℕ) : ew A (fun j => s j - M) j = Real.exp (-M) * ew A s j := by
  unfold ew
  split
  · rw [← Real.exp_add]; congr 1; ring
  · rw [mul_zero]
theorem ew_sum_pos (A : ℕ → Prop) [DecidablePred A] (s : ℕ → ℝ) (n i : ℕ) (hi : i < n) (hA : A i) : 0 < ∑ j ∈ range n, ew A s j := by
  refine sum_pos' (fun j _ => ?_) ⟨i, mem_range.2 hi, ?_⟩
  · unfold ew; split
    · exact (Real.exp_pos _).le
    · exact le_rfl
  · unfold ew; rw [if_pos hA]; exact Real.exp_pos _
/-- A softmax over masked scores, then the two contractions of the latent attention's output. -/
theorem soft_coe (n p : ℕ) (A : ℕ → Prop) [DecidablePred A] (s : ℕ → ℝ) (u : ℕ → ℝ) (v : ℕ → ℕ → ℝ) (i : ℕ) (hi : i < n) (hA : A i) {S : Fin n → EReal}
    {U : Fin p → EReal} {V : Fin n → Fin p → EReal} {M : EReal} (hS : ∀ j : Fin n, S j = if A j then ((s j : ℝ) : EReal) else ⊥)
    (hU : ∀ c, U c = (u c : ℝ)) (hV : ∀ j c, V j c = (v j c : ℝ)) (hM : ∃ M' : ℝ, M = (M' : EReal)) :
    ∑ c, U c * ∑ j, V j c * Ideal.div (Ideal.exp (S j - M)) (∑ j, Ideal.exp (S j - M))
      = (((∑ j ∈ range n, ew A s j * ∑ c ∈ range p, v j c * u c) / ∑ j ∈ range n, ew A s j : ℝ) : EReal) := by
  obtain ⟨M', rfl⟩ := hM
  have e1 : ∀ j : Fin n, Ideal.exp (S j - (M' : EReal)) = ((Real.exp (-M') * ew A s j : ℝ) : EReal) := fun j => by
    rw [hS, ← ew_shift, ew]
    split
    · rw [← EReal.coe_sub, Ideal.exp_coe]
    · rw [EReal.bot_sub]; rfl
  have e2 : ∑ j, Ideal.exp (S j - (M' : EReal)) = ((Real.exp (-M') * ∑ j ∈ range n, ew A s j : ℝ) : EReal) := by
    rw [mul_sum]; exact sum_fin_coe n _ (fun j => Real.exp (-M') * ew A s j) e1
  have hp := ew_sum_pos A s n i hi hA
  have e3 : ∀ j : Fin n, Ideal.div (Ideal.exp (S j - (M' : EReal))) (∑ j, Ideal.exp (S j - (M' : EReal))) = ((ew A s j / ∑ j ∈ range n, ew A s j : ℝ) : EReal) := fun j => by
    rw [e2, e1, div_real _ (mul_pos (Real.exp_pos _) hp).ne', mul_div_mul_left _ _ (Real.exp_pos _).ne']
  rw [sum_fin_coe p _ (fun c => u c * ∑ j ∈ range n, v j c * (ew A s j / ∑ j ∈ range n, ew A s j)) fun c => by
    rw [hU, EReal.coe_mul, sum_fin_coe n _ (fun j => v j c * (ew A s j / ∑ j ∈ range n, ew A s j)) fun j => by rw [hV, e3, EReal.coe_mul]]]
  refine congrArg (fun r : ℝ => (r : EReal)) ?_
  simp only [mul_sum, sum_div]
  rw [sum_comm]
  refine sum_congr rfl fun j _ => sum_congr rfl fun c _ => ?_
  ring
section
variable {x0 : (⟨S8x4096x2048, .f32⟩ : BufTy).Contents (Elt Ideal)} {x1 : (⟨S1x2048, .f32⟩ : BufTy).Contents (Elt Ideal)}
    {x2 : (⟨S1x2048x8512, .f32⟩ : BufTy).Contents (Elt Ideal)} {x3 : (⟨S1x768, .f32⟩ : BufTy).Contents (Elt Ideal)}
    {x4 : (⟨S1x768x1536, .f32⟩ : BufTy).Contents (Elt Ideal)} {x5 : (⟨S1x8x128x512, .f32⟩ : BufTy).Contents (Elt Ideal)}
    {x6 : (⟨S1x8x512x128, .f32⟩ : BufTy).Contents (Elt Ideal)} {x7 : (⟨S1x512, .f32⟩ : BufTy).Contents (Elt Ideal)}
    {X : ℕ → ℕ → ℕ → ℝ} {g : ℕ → ℕ → ℝ} {w : ℕ → ℕ → ℕ → ℝ} {gq : ℕ → ℕ → ℝ} {uq : ℕ → ℕ → ℕ → ℝ} {uk uv : ℕ → ℕ → ℕ → ℕ → ℝ} {gk : ℕ → ℕ → ℝ}
    (h : Args x0 x1 x2 x3 x4 x5 x6 x7 X g w gq uq uk uv gk)
theorem neg_inf : Ideal.ofBits .f32 0xFF800000#32 = ⊥ := by simp [Ideal.ofBits, Ideal.ieee]
theorem first_at (b n : Fin 8) (i : Fin 4096) : val_main_v137 (F := Ideal) (ix3 b n i) = (⊥ : EReal) := by
  rw [val_main_v137_apply, val_main_cst_15_apply]
  exact neg_inf
theorem fold_at (b n : Fin 8) (i : Fin 4096) : val_main_v136 (F := Ideal) x0 x1 x2 x3 x4 x5 x7 (ix3 b n i)
    = univ.fold max (⊥ : EReal) fun j : Fin 4096 => val_main_v135 (F := Ideal) x0 x1 x2 x3 x4 x5 x7 (ix4 b n i j) := by
  unfold val_main_v136
  generalize val_main_v135 (F := Ideal) x0 x1 x2 x3 x4 x5 x7 = S
  rw [max_last S _ reducesTo_S8x8x4096x4096_S8x8x4096_d3 (by decide) h_S_ b n i, val_main_cst_14_apply]
  exact congrArg (fun z => univ.fold max z fun j : Fin 4096 => S (ix4 b n i j)) neg_inf
theorem mx_at (h : Args x0 x1 x2 x3 x4 x5 x6 x7 X g w gq uq uk uv gk) (b n : Fin 8) (i : Fin 4096) :
    ∃ M : ℝ, val_main_v138 (F := Ideal) x0 x1 x2 x3 x4 x5 x7 (ix3 b n i) = (M : EReal) := by
  have hs := ms_at h b n i
  rw [val_main_v138_apply, first_at, fold_at]
  generalize val_main_v135 (F := Ideal) x0 x1 x2 x3 x4 x5 x7 = S at hs ⊢
  refine fold_max_real 4096 _ _ _ bot_ne_top bot_ne_top (fun j => ?_) i ?_
  · rw [hs]; split
    · exact EReal.coe_ne_top _
    · exact bot_ne_top
  · rw [hs, if_pos le_rfl]; exact EReal.coe_ne_bot _
theorem ob_at (h : Args x0 x1 x2 x3 x4 x5 x6 x7 X g w gq uq uk uv gk) (b : Fin 8) (i : Fin 4096) (e : Fin 1024) :
    val_main_v152 (F := Ideal) x0 x1 x2 x3 x4 x5 x6 x7 (ix3 b i e)
      = (((∑ j ∈ range 4096, ew (fun j => j / 64 ≤ (i : ℕ) / 64) (sc X g w gq uq uk gk b (e / 128) i) j * ∑ c ∈ range 512, rck X g w gk b j c * uv 0 (e / 128) c (e % 128))
        / ∑ j ∈ range 4096, ew (fun j => j / 64 ≤ (i : ℕ) / 64) (sc X g w gq uq uk gk b (e / 128) i) j : ℝ) : EReal) := by
  have hs := ms_at h b ⟨e / 128, by omega⟩ i
  have hM := mx_at h b ⟨e / 128, by omega⟩ i
  have hc := ck_at h
  unfold val_main_v152 val_main_v151 val_main_v150 val_main_v149 val_main_v148 val_main_v147 val_main_v146 val_main_v145 val_main_v144 val_main_v143 val_main_v142 val_main_v141 val_main_v140 val_main_v139
  generalize val_main_v135 (F := Ideal) x0 x1 x2 x3 x4 x5 x7 = S at hs ⊢
  generalize val_main_v138 (F := Ideal) x0 x1 x2 x3 x4 x5 x7 = M at hM ⊢
  generalize val_main_v88 (F := Ideal) x0 x1 x2 x7 = C at hc ⊢
  pointwise [val_main_v125, val_main_cst_16]
  have key := soft_coe 4096 512 (fun j => j / 64 ≤ (i : ℕ) / 64) (sc X g w gq uq uk gk b (e / 128) i) (fun c => uv 0 (e / 128) c (e % 128)) (fun j c => rck X g w gk b j c) i i.2 le_rfl
    (S := fun j => S (ix4 b ⟨e / 128, by omega⟩ i j)) (U := fun c => x6 (ix4 0 ⟨e / 128, by omega⟩ c ⟨e % 128, by omega⟩)) (V := fun j c => C (ix3 b j c)) hs (fun c => h.uv 0 ⟨e / 128, by omega⟩ c ⟨e % 128, by omega⟩) (fun j c => hc b j c) hM
  refine Eq.trans ?_ key
  refine Finset.sum_congr rfl fun c _ => ?_
  refine congrArg _ (Finset.sum_congr rfl fun j _ => ?_)
  refine congrArg _ (congrArg _ ?_)
  exact Finset.sum_congr rfl fun j _ => rfl
end
end Cert.ReferenceIdeal.Whole
end
-- ==== Proof.Bridge.lean ====
module
public import proofs.«01_k».proof.Proof.KernelOut
public import proofs.«01_k».proof.Proof.RefSoft
@[expose] public section
set_option maxRecDepth 16384
noncomputable section
/-! The kernel's real functions are the reference's. -/
namespace Cert.Bridge
open Cert.Kit Cert.KernelIdeal.Whole Cert.ReferenceIdeal.Whole Finset

theorem rmsn_congr {n : ℕ} {f f' g : ℕ → ℝ} (h : ∀ j < n, f j = f' j) {k : ℕ} (hk : k < n) : rmsn n f g k = rmsn n f' g k := by
  unfold rmsn
  rw [h k hk, sum_congr rfl fun j hj => by rw [h j (mem_range.1 hj)]]
/-- The folded rotary lanes are the rotary embedding. -/
theorem rope_fold (f : ℕ → ℝ) (i l l' : ℕ) (hl : l < 128) (h' : l' = (l + 64) % 128) :
    f (rcol l) * rtab i l + f (rcol l') * rtab i l' = rope f i (l % 64) := by
  subst h'
  rcases (by omega : l < 32 ∨ (32 ≤ l ∧ l < 64) ∨ (64 ≤ l ∧ l < 96) ∨ (96 ≤ l ∧ l < 128)) with a | a | a | a
  · have e1 : (l + 64) % 128 = l + 64 := by omega
    have e2 : l % 64 = l := by omega
    have e3 : l + 64 - 32 = 32 + l := by omega
    rw [e1, e2, rope, rcol, rcol, rtab, rtab, if_pos (by omega), if_pos a, if_neg (by omega), if_pos (by omega), if_neg (by omega), if_neg (by omega), if_pos (by omega), if_pos a, e3,
      Nat.add_sub_cancel]
    ring
  · have e1 : (l + 64) % 128 = l + 64 := by omega
    have e2 : l % 64 = l := by omega
    have e3 : l + 64 - 96 = l - 32 := by omega
    rw [e1, e2, rope, rcol, rcol, rtab, rtab, if_pos (by omega), if_neg (by omega), if_pos (by omega), if_neg (by omega), if_neg (by omega), if_neg (by omega), if_neg (by omega), if_neg (by omega),
      if_neg (by omega), e3]
  · have e1 : (l + 64) % 128 = l - 64 := by omega
    have e2 : l % 64 = l - 64 := by omega
    have e3 : l - 32 = 32 + (l - 64) := by omega
    rw [e1, e2, rope, rcol, rcol, rtab, rtab, if_neg (by omega), if_pos (by omega), if_neg (by omega), if_neg (by omega), if_pos (by omega), if_pos (by omega), if_pos (by omega), if_pos (by omega), e3]
    ring
  · have e1 : (l + 64) % 128 = l - 64 := by omega
    have e2 : l % 64 = l - 64 := by omega
    have e3 : l - 96 = l - 64 - 32 := by omega
    rw [e1, e2, rope, rcol, rcol, rtab, rtab, if_neg (by omega), if_neg (by omega), if_neg (by omega), if_neg (by omega), if_neg (by omega), if_pos (by omega), if_neg (by omega), if_pos (by omega),
      if_neg (by omega), e3]
    ring
theorem two_pow (t : ℝ) : Real.rpow 2 (t * S2) = Real.exp (t / Real.sqrt 192) := by
  show (2 : ℝ) ^ (t * S2) = _
  have h2 : Real.log 2 ≠ 0 := (Real.log_pos (by norm_num)).ne'
  rw [Real.rpow_def_of_pos (by norm_num), S2]
  congr 1
  field_simp

section
variable (X : ℕ → ℕ → ℕ → ℝ) (g : ℕ → ℕ → ℝ) (w : ℕ → ℕ → ℕ → ℝ) (gq : ℕ → ℕ → ℝ) (uq : ℕ → ℕ → ℕ → ℝ) (uk uv : ℕ → ℕ → ℕ → ℕ → ℝ) (gk : ℕ → ℕ → ℝ)
abbrev kX (r : ℕ) : ℕ → ℝ := X (r / 4096) (r % 4096)
abbrev kA (k j : ℕ) : ℝ := w 0 k j
abbrev kC (k j : ℕ) : ℝ := w 0 k (3072 + j)
abbrev kK (k j : ℕ) : ℝ := if j < 512 then w 0 k (3840 + j) else w 0 k (4352 + rcol (j - 512))
abbrev kU (k e : ℕ) : ℝ := if e < 1024 then uq 0 k (e / 128 * 192 + e % 128) else uq 0 k ((e - 1024) / 128 * 192 + (128 + rcol ((e - 1024) % 128)))
abbrev kV (k e : ℕ) : ℝ := if e < 1024 then uk 0 (e / 128) (e % 128) k else uv 0 ((e - 1024) / 128) k ((e - 1024) % 128)

theorem fu_eq (r e : ℕ) : fu (kX X) g r e = ru X g (r / 4096) (r % 4096) e := rfl
theorem fqa_eq (r e : ℕ) : fqa (kX X) g (kA w) r e = rz X g w (r / 4096) (r % 4096) e * S3 := rfl
theorem fka_eq (r e : ℕ) : fka (kX X) g (kA w) r e = rz X g w (r / 4096) (r % 4096) (1024 + e) := rfl
theorem fva_eq (r e : ℕ) : fva (kX X) g (kA w) r e = rz X g w (r / 4096) (r % 4096) (2048 + e) := rfl
theorem fcq_eq (r : ℕ) : fcq (kX X) g (kC w) gq r = rcq X g w gq (r / 4096) (r % 4096) := rfl
theorem fzk_lo (r j : ℕ) (hj : j < 512) : fzk (kX X) g (kK w) r j = rz X g w (r / 4096) (r % 4096) (3840 + j) := by
  unfold fzk mm rz
  exact sum_congr rfl fun k _ => by simp only [kK, if_pos hj]; rfl
theorem fzk_hi (r l : ℕ) : fzk (kX X) g (kK w) r (512 + l) = rz X g w (r / 4096) (r % 4096) (4352 + rcol l) := by
  unfold fzk mm rz
  exact sum_congr rfl fun k _ => by simp only [kK, if_neg (by omega : ¬ 512 + l < 512), Nat.add_sub_cancel_left]; rfl
theorem fck_eq (r j : ℕ) (hj : j < 512) : fck (kX X) g (kK w) gk r j = rck X g w gk (r / 4096) (r % 4096) j :=
  rmsn_congr (fun j hj => fzk_lo X g w r j hj) hj
theorem fk2_eq (r l : ℕ) (hl : l < 128) : fk2 (kX X) g rtab (kK w) r l = rkr X g w (r / 4096) (r % 4096) (l % 64) := by
  unfold fk2 fold64
  beta_reduce
  rw [fzk_hi, fzk_hi]
  exact rope_fold (fun l => rz X g w (r / 4096) (r % 4096) (4352 + l)) (r % 4096) l _ hl (by omega)
theorem q_eq (r k e : ℕ) (he : e < 1024) : mm 768 (fcq (kX X) g (kC w) gq) (kU uq) r e = rq X g w gq uq (r / 4096) (r % 4096) (e / 128 * 192 + e % 128) := by
  unfold mm rq
  exact sum_congr rfl fun k _ => by simp only [kU, if_pos he]; rfl
theorem qr_eq (r e : ℕ) (h : 64 ≤ e % 128) (he : e < 1024) :
    fqr (kX X) g rtab (kC w) gq (kU uq) r e = rqr X g w gq uq (r / 4096) (r % 4096) (e / 128) (e % 128 - 64) * S2 := by
  have hm : ∀ e, mm 768 (fcq (kX X) g (kC w) gq) (fun k e => kU uq k (1024 + e)) r e
      = rq X g w gq uq (r / 4096) (r % 4096) (e / 128 * 192 + (128 + rcol (e % 128))) := fun e => by
    unfold mm rq
    exact sum_congr rfl fun k _ => by simp only [kU, if_neg (by omega : ¬ 1024 + e < 1024), Nat.add_sub_cancel_left]; rfl
  unfold fqr fold64
  beta_reduce
  rw [hm, hm]
  have e1 : (e + 1024 - 64) % 1024 / 128 = e / 128 := by omega
  have e2 : e % 128 - 64 = e % 128 % 64 := by omega
  rw [e1, e2]
  exact congrArg (· * S2) (rope_fold (fun l => rq X g w gq uq (r / 4096) (r % 4096) (e / 128 * 192 + (128 + l))) (r % 4096) (e % 128) _ (by omega) (by omega))
theorem fkn_eq (r e : ℕ) (he : e < 1024) : fkn (kX X) g (kK w) gk (kV uk uv) r e = ∑ c ∈ range 512, rck X g w gk (r / 4096) (r % 4096) c * uk 0 (e / 128) (e % 128) c := by
  unfold fkn mm
  exact sum_congr rfl fun k hk => by simp only [kV, if_pos he]; rw [fck_eq X g w gk r k (mem_range.1 hk)]
theorem fvm_eq (r e : ℕ) : fvm (kX X) g (kK w) gk (kV uk uv) r e = ∑ c ∈ range 512, rck X g w gk (r / 4096) (r % 4096) c * uv 0 (e / 128) c (e % 128) := by
  unfold fvm mm
  exact sum_congr rfl fun k hk => by simp only [kV, if_neg (by omega : ¬ 1024 + e < 1024), Nat.add_sub_cancel_left]; rw [fck_eq X g w gk r k (mem_range.1 hk)]

theorem rsc_eq (b i j n : ℕ) (hi : i < 4096) (hj : j < 4096) (hn : n < 8) :
    rsc (fun i d => fqn (kX X) g (kC w) gq (kU uq) (b * 4096 + i) (n * 128 + d)) (fun i d => fqr (kX X) g rtab (kC w) gq (kU uq) (b * 4096 + i) (n * 128 + d))
      (fun i d => fkn (kX X) g (kK w) gk (kV uk uv) (b * 4096 + i) (n * 128 + d)) (fun i d => fkrp (kX X) g rtab (kK w) (b * 4096 + i) d) i j
    = (∑ c ∈ range 512, rck X g w gk b j c * rql X g w gq uq uk b i n c + ∑ l ∈ range 64, rkr X g w b j l * rqr X g w gq uq b i n l) * S2 := by
  have a1 : (b * 4096 + i) / 4096 = b := by omega
  have a2 : (b * 4096 + i) % 4096 = i := by omega
  have a3 : (b * 4096 + j) / 4096 = b := by omega
  have a4 : (b * 4096 + j) % 4096 = j := by omega
  unfold rsc
  rw [add_mul]
  refine congrArg₂ (· + ·) ?_ ?_
  · unfold rql
    simp only [mul_sum, sum_mul]
    rw [sum_comm]
    refine sum_congr rfl fun d hd => ?_
    have hd := mem_range.1 hd
    have b1 : (n * 128 + d) / 128 = n := by omega
    have b2 : (n * 128 + d) % 128 = d := by omega
    simp only [fqn]
    rw [q_eq X g w gq uq _ 0 _ (by omega), fkn_eq X g w uk uv gk _ _ (by omega), a1, a2, a3, a4, b1, b2, mul_sum]
    refine sum_congr rfl fun c _ => ?_
    ring
  · rw [show (128 : ℕ) = 64 + 64 from rfl, sum_range_add, sum_eq_zero fun d hd => ?_, zero_add, sum_mul]
    · refine sum_congr rfl fun l hl => ?_
      have hl := mem_range.1 hl
      have b1 : (n * 128 + (64 + l)) / 128 = n := by omega
      have b2 : (n * 128 + (64 + l)) % 128 = 64 + l := by omega
      have b3 : (64 + l) % 64 = l := by omega
      simp only [fkrp, if_pos (by omega : 64 ≤ 64 + l)]
      rw [qr_eq X g w gq uq _ _ (by omega) (by omega), fk2_eq X g w _ _ (by omega), a1, a2, a3, a4, b1, b2, b3, Nat.add_sub_cancel_left]
      ring
    · have hd := mem_range.1 hd
      simp only [fkrp, if_neg (by omega : ¬ 64 ≤ d), mul_zero]
/-- The attention output of the kernel is the reference's. -/
theorem mla_eq (b i e : ℕ) (hi : i < 4096) (he : e < 1024) :
    mla (fun b i e => fqn (kX X) g (kC w) gq (kU uq) (b * 4096 + i) e) (fun b i e => fqr (kX X) g rtab (kC w) gq (kU uq) (b * 4096 + i) e)
      (fun b i e => fkn (kX X) g (kK w) gk (kV uk uv) (b * 4096 + i) e) (fun b i e => fkrp (kX X) g rtab (kK w) (b * 4096 + i) e)
      (fun b i e => fvm (kX X) g (kK w) gk (kV uk uv) (b * 4096 + i) e) b i e
    = (∑ j ∈ range 4096, ew (fun j => j / 64 ≤ i / 64) (sc X g w gq uq uk gk b (e / 128) i) j * ∑ c ∈ range 512, rck X g w gk b j c * uv 0 (e / 128) c (e % 128))
      / ∑ j ∈ range 4096, ew (fun j => j / 64 ≤ i / 64) (sc X g w gq uq uk gk b (e / 128) i) j := by
  have hw : ∀ j < 4096, (if seen i j then Real.rpow 2 (rsc (fun i d => fqn (kX X) g (kC w) gq (kU uq) (b * 4096 + i) (e / 128 * 128 + d))
      (fun i d => fqr (kX X) g rtab (kC w) gq (kU uq) (b * 4096 + i) (e / 128 * 128 + d)) (fun i d => fkn (kX X) g (kK w) gk (kV uk uv) (b * 4096 + i) (e / 128 * 128 + d))
      (fun i d => fkrp (kX X) g rtab (kK w) (b * 4096 + i) d) i j) else 0) = ew (fun j => j / 64 ≤ i / 64) (sc X g w gq uq uk gk b (e / 128) i) j := fun j hj => by
    rw [rsc_eq X g w gq uq uk uv gk b i j (e / 128) hi hj (by omega), two_pow]
    rfl
  unfold mla rout
  refine congrArg₂ (· / ·) (sum_congr rfl fun j hj => ?_) (sum_congr rfl fun j hj => hw j (mem_range.1 hj))
  have hj := mem_range.1 hj
  have a3 : (b * 4096 + j) / 4096 = b := by omega
  have a4 : (b * 4096 + j) % 4096 = j := by omega
  have b1 : (e / 128 * 128 + e % 128) / 128 = e / 128 := by omega
  have b2 : (e / 128 * 128 + e % 128) % 128 = e % 128 := by omega
  beta_reduce
  rw [hw j hj, fvm_eq, a3, a4, b1, b2]
end
end Cert.Bridge
end
-- ==== Proof.Finite.lean ====
module
public import proofs.«01_k».proof.Proof.HostIn
public import proofs.«01_k».proof.Proof.RefIn
public import proofs.«01_k».proof.Pre_finite
public import proofs.«01_k».proof.Proof.Gen.Pre_finite
public import Idealize.ShloMosaic.Lib.ReduceAll
@[expose] public section
set_option maxRecDepth 16384
noncomputable section
/-! The precondition: every argument element is a real number. -/
namespace Cert.Finite
open Idealize.ShloMosaic Cert.Kit

theorem and_one : ∀ a b : BitVec 1, IntOp.andi a b = 1#1 → a = 1#1 ∧ b = 1#1 := by decide
/-- An extended real whose absolute value is below infinity is a real. -/
theorem abs_lt {x : EReal} (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h
abbrev S0 : Shape := ⟨0, ![]⟩
/-- One argument's test: the conjunction over its elements of "the absolute value is below infinity". -/
theorem real_of {s : Shape} {axes : List (Fin s.rank)} (a : FVec Ideal s .f32) (hb : S0.BroadcastsInDim s (![] : Fin 0 → Fin s.rank)) (h : s.ReducesTo axes S0) (hu : 0 < S0.numel) (j : S0.Idx)
    (e : Host.reduce IntOp.andi (cmpf .olt (Host.absf a) (broadcastInDim s ![] hb (constant (F := Ideal) S0 .f32 0x7F800000#32))) (constantI S0 1 1#1) h hu j = 1#1)
    (i : s.Idx) : ∃ r : ℝ, a i = (r : EReal) := by
  haveI : Subsingleton S0.Idx := ⟨fun x y => funext fun k => k.elim0⟩
  have q := Host.reduce_andi_all _ _ _ _ j e i
  have t : Ideal.ofBits .f32 0x7F800000#32 = ⊤ := by simp [Ideal.ofBits, Ideal.ieee]
  refine abs_lt ?_
  rw [← t]
  exact q

theorem ex2 {a b : ℕ} (x : (⟨2, ![a, b]⟩ : Shape).Idx → EReal) (h : ∀ i, ∃ r : ℝ, x i = (r : EReal)) : ∃ f, Is2 x f :=
  ⟨fun i j => if q : i < a ∧ j < b then (x (ix2 ⟨i, q.1⟩ ⟨j, q.2⟩)).toReal else 0, fun i j => by
    beta_reduce
    rw [dif_pos ⟨i.2, j.2⟩]
    obtain ⟨r, e⟩ := h (ix2 i j)
    show x (ix2 i j) = ((x (ix2 i j)).toReal : EReal)
    rw [e, EReal.toReal_coe]⟩
theorem ex3 {a b c : ℕ} (x : (⟨3, ![a, b, c]⟩ : Shape).Idx → EReal) (h : ∀ i, ∃ r : ℝ, x i = (r : EReal)) : ∃ f, Is3 x f :=
  ⟨fun i j k => if q : i < a ∧ j < b ∧ k < c then (x (ix3 ⟨i, q.1⟩ ⟨j, q.2.1⟩ ⟨k, q.2.2⟩)).toReal else 0, fun i j k => by
    beta_reduce
    rw [dif_pos ⟨i.2, j.2, k.2⟩]
    obtain ⟨r, e⟩ := h (ix3 i j k)
    show x (ix3 i j k) = ((x (ix3 i j k)).toReal : EReal)
    rw [e, EReal.toReal_coe]⟩
theorem ex4 {a b c d : ℕ} (x : (⟨4, ![a, b, c, d]⟩ : Shape).Idx → EReal) (h : ∀ i, ∃ r : ℝ, x i = (r : EReal)) : ∃ f, Is4 x f :=
  ⟨fun i j k l => if q : i < a ∧ j < b ∧ k < c ∧ l < d then (x (ix4 ⟨i, q.1⟩ ⟨j, q.2.1⟩ ⟨k, q.2.2.1⟩ ⟨l, q.2.2.2⟩)).toReal else 0, fun i j k l => by
    beta_reduce
    rw [dif_pos ⟨i.2, j.2, k.2, l.2⟩]
    obtain ⟨r, e⟩ := h (ix4 i j k l)
    show x (ix4 i j k l) = ((x (ix4 i j k l)).toReal : EReal)
    rw [e, EReal.toReal_coe]⟩

/-- Arguments that pass the precondition hold real functions. -/
theorem reals (x0 : FVec Ideal Cert.Pre_finite.S8x4096x2048 .f32) (x1 : FVec Ideal Cert.Pre_finite.S1x2048 .f32) (x2 : FVec Ideal Cert.Pre_finite.S1x2048x8512 .f32)
    (x3 : FVec Ideal Cert.Pre_finite.S1x768 .f32) (x4 : FVec Ideal Cert.Pre_finite.S1x768x1536 .f32) (x5 : FVec Ideal Cert.Pre_finite.S1x8x128x512 .f32)
    (x6 : FVec Ideal Cert.Pre_finite.S1x8x512x128 .f32) (x7 : FVec Ideal Cert.Pre_finite.S1x512 .f32)
    (h : Cert.Pre_finite.fn (F := Ideal) x0 x1 x2 x3 x4 x5 x6 x7 = fun _ => 1#1) :
    ∃ X g w gq uq uk uv gk, Cert.ReferenceIdeal.Whole.Args x0 x1 x2 x3 x4 x5 x6 x7 X g w gq uq uk uv gk := by
  have e := congrFun h ((fun k => k.elim0) : S0.Idx)
  unfold Cert.Pre_finite.fn Cert.Pre_finite.fn_part1 Cert.Pre_finite.fn_part2 at e
  obtain ⟨e, e7⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  obtain ⟨X, h0⟩ := ex3 x0 (real_of x0 _ _ _ _ e0)
  obtain ⟨g, h1⟩ := ex2 x1 (real_of x1 _ _ _ _ e1)
  obtain ⟨w, h2⟩ := ex3 x2 (real_of x2 _ _ _ _ e2)
  obtain ⟨gq, h3⟩ := ex2 x3 (real_of x3 _ _ _ _ e3)
  obtain ⟨uq, h4⟩ := ex3 x4 (real_of x4 _ _ _ _ e4)
  obtain ⟨uk, h5⟩ := ex4 x5 (real_of x5 _ _ _ _ e5)
  obtain ⟨uv, h6⟩ := ex4 x6 (real_of x6 _ _ _ _ e6)
  obtain ⟨gk, h7⟩ := ex2 x7 (real_of x7 _ _ _ _ e7)
  exact ⟨X, g, w, gq, uq, uk, uv, gk, h0, h1, h2, h3, h4, h5, h6, h7⟩
end Cert.Finite
end
-- ==== Proof.Final.lean ====
module
public import proofs.«01_k».proof.Proof.Bridge
public import proofs.«01_k».proof.Proof.Finite
@[expose] public section
set_option maxRecDepth 16384
noncomputable section
/-! The nine results agree. -/
namespace Cert.Final
open Idealize.ShloMosaic Cert.Kit Cert.Bridge Cert.KernelIdeal.Whole Cert.ReferenceIdeal.Read

section
variable {m : (ℓ : Loc Cert.KernelIdeal.nD Cert.KernelIdeal.τ Cert.KernelIdeal.sig) → Buf (Elt Ideal) ℓ} (ρ : Dev Cert.KernelIdeal.nD → PrngReg) {c : Dev Cert.KernelIdeal.nD}
  {x0 : FVec Ideal Cert.Pre_finite.S8x4096x2048 .f32} {x1 : FVec Ideal Cert.Pre_finite.S1x2048 .f32} {x2 : FVec Ideal Cert.Pre_finite.S1x2048x8512 .f32}
  {x3 : FVec Ideal Cert.Pre_finite.S1x768 .f32} {x4 : FVec Ideal Cert.Pre_finite.S1x768x1536 .f32} {x5 : FVec Ideal Cert.Pre_finite.S1x8x128x512 .f32}
  {x6 : FVec Ideal Cert.Pre_finite.S1x8x512x128 .f32} {x7 : FVec Ideal Cert.Pre_finite.S1x512 .f32}
  {X : ℕ → ℕ → ℕ → ℝ} {g : ℕ → ℕ → ℝ} {w : ℕ → ℕ → ℕ → ℝ} {gq : ℕ → ℕ → ℝ} {uq : ℕ → ℕ → ℕ → ℝ} {uk uv : ℕ → ℕ → ℕ → ℕ → ℝ} {gk : ℕ → ℕ → ℝ}
  (hk : Cert.KernelIdeal.Whole.Args m c X g w gq uq uk uv gk) (hr : Cert.ReferenceIdeal.Whole.Args x0 x1 x2 x3 x4 x5 x6 x7 X g w gq uq uk uv gk)
include hk hr
theorem ob : val_main_v152 (F := Ideal) x0 x1 x2 x3 x4 x5 x6 x7 = W4 m ρ c (Proc.devRef .tc Cert.KernelIdeal.main_v55) := by
  refine Eq.trans (funext fun y => ?_) (ob_eq ρ (in0 ρ hk)).symm
  refine ((congrArg _ (eq_ix3 y)).trans (Cert.ReferenceIdeal.Whole.ob_at hr (y 0) (y 1) (y 2))).trans ?_
  exact congrArg _ (mla_eq X g w gq uq uk uv gk (y 0) (y 1) (y 2) (y 1).2 (y 2).2).symm
theorem ka : val_main_v154 (F := Ideal) x0 x1 x2 = W4 m ρ c (Proc.devRef .tc Cert.KernelIdeal.main_v49_10) := by
  refine Eq.trans (funext fun y => ?_) (ka_eq ρ (in0 ρ hk)).symm
  refine ((congrArg _ (eq_ix2 y)).trans (Cert.ReferenceIdeal.Whole.ka_at hr (y 0) (y 1))).trans ?_
  have h0 : (y 0 : ℕ) < 4096 := (y 0).2
  refine congrArg _ (Eq.symm ((fka_eq X g w _ _).trans ?_))
  rw [show ((y 0 : ℕ) / 512 * 4096 + 3584 + (y 0 : ℕ) % 512) / 4096 = (y 0 : ℕ) / 512 by omega,
    show ((y 0 : ℕ) / 512 * 4096 + 3584 + (y 0 : ℕ) % 512) % 4096 = 3584 + (y 0 : ℕ) % 512 by omega]
theorem va : val_main_v156 (F := Ideal) x0 x1 x2 = W4 m ρ c (Proc.devRef .tc Cert.KernelIdeal.main_v49_11) := by
  refine Eq.trans (funext fun y => ?_) (va_eq ρ (in0 ρ hk)).symm
  refine ((congrArg _ (eq_ix2 y)).trans (Cert.ReferenceIdeal.Whole.va_at hr (y 0) (y 1))).trans ?_
  have h0 : (y 0 : ℕ) < 4096 := (y 0).2
  refine congrArg _ (Eq.symm ((fva_eq X g w _ _).trans ?_))
  rw [show ((y 0 : ℕ) / 512 * 4096 + 3584 + (y 0 : ℕ) % 512) / 4096 = (y 0 : ℕ) / 512 by omega,
    show ((y 0 : ℕ) / 512 * 4096 + 3584 + (y 0 : ℕ) % 512) % 4096 = 3584 + (y 0 : ℕ) % 512 by omega]
theorem ck : val_main_v157 (F := Ideal) x0 x1 x2 x7 = W4 m ρ c (Proc.devRef .tc Cert.KernelIdeal.main_v49_8) := by
  refine Eq.trans (funext fun y => ?_) (ck_eq ρ (in0 ρ hk)).symm
  refine ((congrArg _ (eq_ix2 y)).trans (Cert.ReferenceIdeal.Whole.cko_at hr (y 0) (y 1))).trans ?_
  exact congrArg _ (fck_eq X g w gk (y 0) (y 1) (y 1).2).symm
theorem kr : val_main_v158 (F := Ideal) x0 x1 x2 = W4 m ρ c (Proc.devRef .tc Cert.KernelIdeal.main_v49_9) := by
  refine Eq.trans (funext fun y => ?_) (kr_eq ρ (in0 ρ hk)).symm
  refine ((congrArg _ (eq_ix2 y)).trans (Cert.ReferenceIdeal.Whole.kro_at hr (y 0) (y 1))).trans ?_
  have h1 : (y 1 : ℕ) < 64 := (y 1).2
  refine congrArg _ (Eq.symm ((fk2_eq X g w _ _ (by omega)).trans ?_))
  rw [Nat.mod_eq_of_lt h1]
theorem qa_all : val_main_v166 (F := Ideal) x0 x1 x2 = W4 m ρ c (Proc.devRef .tc Cert.KernelIdeal.main_v49_0) := by
  refine Eq.trans (funext fun y => ?_) (qa_all_eq ρ (in0 ρ hk)).symm
  refine ((congrArg _ (eq_ix2 y)).trans (Cert.ReferenceIdeal.Whole.qa_all_at hr (y 0) (y 1))).trans ?_
  exact congrArg _ (fqa_eq X g w (y 0) (y 1)).symm
theorem ka_all : val_main_v168 (F := Ideal) x0 x1 x2 = W4 m ρ c (Proc.devRef .tc Cert.KernelIdeal.main_v49_1) := by
  refine Eq.trans (funext fun y => ?_) (ka_all_eq ρ (in0 ρ hk)).symm
  refine ((congrArg _ (eq_ix2 y)).trans (Cert.ReferenceIdeal.Whole.ka_all_at hr (y 0) (y 1))).trans ?_
  exact congrArg _ (fka_eq X g w (y 0) (y 1)).symm
theorem va_all : val_main_v170 (F := Ideal) x0 x1 x2 = W4 m ρ c (Proc.devRef .tc Cert.KernelIdeal.main_v49_2) := by
  refine Eq.trans (funext fun y => ?_) (va_all_eq ρ (in0 ρ hk)).symm
  refine ((congrArg _ (eq_ix2 y)).trans (Cert.ReferenceIdeal.Whole.va_all_at hr (y 0) (y 1))).trans ?_
  exact congrArg _ (fva_eq X g w (y 0) (y 1)).symm
theorem u_all : val_main_v172 (F := Ideal) x0 x1 = W4 m ρ c (Proc.devRef .tc Cert.KernelIdeal.main_v49_12) := by
  refine Eq.trans (funext fun y => ?_) (u_all_eq ρ (in0 ρ hk)).symm
  refine ((congrArg _ (eq_ix2 y)).trans (Cert.ReferenceIdeal.Whole.u_all_at hr (y 0) (y 1))).trans ?_
  exact congrArg _ (fu_eq X g (y 0) (y 1)).symm
end
end Cert.Final
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.BitsRun
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealRun
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.MergeBitsRun
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.MergeIdealRun
public import proofs.«01_k».proof.Proof.MergeValue
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.PleValue
public import proofs.«01_k».proof.Proof.Gen.PleReferenceIdeal
public import proofs.«01_k».proof.Proof.Gen.PleReferenceIdeal.Run
public import proofs.«01_k».proof.Proof.Gen.PleReferenceIdeal.Read
public import proofs.«01_k».proof.Proof.Final
public import proofs.«01_k».proof.Proof.FfnFinal
public import Idealize.ShloMosaic.Adequacy
public import Idealize.ShloMosaic.Init

@[expose] public section

set_option maxRecDepth 16384

noncomputable section

namespace Cert.Proof

open Idealize.ShloMosaic Idealize.SL.Sem Idealize.ShloMosaic.StableHlo

/-- The reference leaves its arguments as they were, and it has no semaphores. -/
theorem frame_reference : Cert.quiescent_ReferenceIdeal := fun m ρ _ =>
  (θ_run Cert.ReferenceIdeal.defs _ _).mono (fun r h => ⟨fun c => (h c).2.2.2.2.2.2.2.2.2, Idealize.ShloMosaic.sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl, IdealRules.named_const.statement _ _ _ _ _ rfl⟩

open Cert.KernelIdeal in
theorem algebraic : Cert.algebraic_KernelIdeal_ReferenceIdeal_pre_finite := by
  intro m ρ m' ρ' hpre hagree
  refine ⟨fun c => Whole.W4 m ρ c (Proc.devRef .tc main_v55), fun c => Whole.W4 m ρ c (Proc.devRef .tc main_v49_10), fun c => Whole.W4 m ρ c (Proc.devRef .tc main_v49_11),
    fun c => Whole.W4 m ρ c (Proc.devRef .tc main_v49_8), fun c => Whole.W4 m ρ c (Proc.devRef .tc main_v49_9),
    fun c => Whole.W4 m ρ c (Proc.devRef .tc main_v49_0), fun c => Whole.W4 m ρ c (Proc.devRef .tc main_v49_1), fun c => Whole.W4 m ρ c (Proc.devRef .tc main_v49_2),
    fun c => Whole.W4 m ρ c (Proc.devRef .tc main_v49_12), ?_, ?_⟩
  · exact (θ_run Cert.KernelIdeal.defs _ _).mono (fun r h c => ⟨h.1 c _ (Whole.mem_uc main_v55 (by decide)), h.1 c _ (Whole.mem_uc main_v49_10 (by decide)),
      h.1 c _ (Whole.mem_uc main_v49_11 (by decide)), h.1 c _ (Whole.mem_uc main_v49_8 (by decide)), h.1 c _ (Whole.mem_uc main_v49_9 (by decide)),
      h.1 c _ (Whole.mem_uc main_v49_0 (by decide)), h.1 c _ (Whole.mem_uc main_v49_1 (by decide)), h.1 c _ (Whole.mem_uc main_v49_2 (by decide)), h.1 c _ (Whole.mem_uc main_v49_12 (by decide)),
      (h.1 c _ (Whole.mem_uc main_arg0 (by decide))).trans (Whole.W4_main_arg0 m ρ c), (h.1 c _ (Whole.mem_uc main_arg1 (by decide))).trans (Whole.W4_main_arg1 m ρ c),
      (h.1 c _ (Whole.mem_uc main_arg2 (by decide))).trans (Whole.W4_main_arg2 m ρ c), (h.1 c _ (Whole.mem_uc main_arg3 (by decide))).trans (Whole.W4_main_arg3 m ρ c),
      (h.1 c _ (Whole.mem_uc main_arg4 (by decide))).trans (Whole.W4_main_arg4 m ρ c), (h.1 c _ (Whole.mem_uc main_arg5 (by decide))).trans (Whole.W4_main_arg5 m ρ c),
      (h.1 c _ (Whole.mem_uc main_arg6 (by decide))).trans (Whole.W4_main_arg6 m ρ c), (h.1 c _ (Whole.mem_uc main_arg7 (by decide))).trans (Whole.W4_main_arg7 m ρ c)⟩)
      (Whole.run (F := Ideal) m ρ)
  · refine (θ_run Cert.ReferenceIdeal.defs _ _).mono (fun r h c => ?_) (Cert.ReferenceIdeal.Value.run (F := Ideal) m' ρ')
    obtain ⟨X, g, w, gq, uq, uk, uv, gk, hr⟩ := Cert.Finite.reals _ _ _ _ _ _ _ _ (hpre c)
    have hk : Whole.Args m c X g w gq uq uk uv gk := ⟨hr.x, hr.g, hr.w, hr.gq, hr.uq, hr.uk, hr.uv, hr.gk⟩
    obtain ⟨a0, a1, a2, a3, a4, a5, a6, a7⟩ := hagree c
    rw [← a0, ← a1, ← a2, ← a3, ← a4, ← a5, ← a6, ← a7] at hr
    obtain ⟨h0, h1, h2, h3, h4, h5, h6, h7, h8, hargs⟩ := h c
    exact ⟨(h0.trans (Cert.ReferenceIdeal.Read.val_main_v152_eq (launchContents m' c))).trans (Cert.Final.ob ρ hk hr),
      (h1.trans (Cert.ReferenceIdeal.Read.val_main_v154_eq (launchContents m' c))).trans (Cert.Final.ka ρ hk hr),
      (h2.trans (Cert.ReferenceIdeal.Read.val_main_v156_eq (launchContents m' c))).trans (Cert.Final.va ρ hk hr),
      (h3.trans (Cert.ReferenceIdeal.Read.val_main_v157_eq (launchContents m' c))).trans (Cert.Final.ck ρ hk hr),
      (h4.trans (Cert.ReferenceIdeal.Read.val_main_v158_eq (launchContents m' c))).trans (Cert.Final.kr ρ hk hr),
      (h5.trans (Cert.ReferenceIdeal.Read.val_main_v166_eq (launchContents m' c))).trans (Cert.Final.qa_all ρ hk hr),
      (h6.trans (Cert.ReferenceIdeal.Read.val_main_v168_eq (launchContents m' c))).trans (Cert.Final.ka_all ρ hk hr),
      (h7.trans (Cert.ReferenceIdeal.Read.val_main_v170_eq (launchContents m' c))).trans (Cert.Final.va_all ρ hk hr),
      (h8.trans (Cert.ReferenceIdeal.Read.val_main_v172_eq (launchContents m' c))).trans (Cert.Final.u_all ρ hk hr), hargs⟩

/-- The half feed-forward's reference leaves its arguments as they were, and it has no semaphores. -/
theorem frame_ffn_reference : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

theorem algebraic_ffn : Cert.algebraic_FfnIdeal_FfnReferenceIdeal := by
  intro m ρ m' ρ' _ hagree
  refine ⟨fun c => Cert.FfnIdeal.Value.G5 m c, Cert.FfnIdeal.Value.run (F := Ideal) m ρ, ?_⟩
  refine (θ_run Cert.FfnReferenceIdeal.defs _ _).mono (fun r h c => ?_) (Cert.FfnReferenceIdeal.Value.run (F := Ideal) m' ρ')
  obtain ⟨a0, a1, a2, a3, a4⟩ := hagree c
  obtain ⟨h0, hargs⟩ := h c
  rw [a0, a1, a2, a3, a4] at h0
  exact ⟨(h0.trans (Cert.FfnReferenceIdeal.Read.val_main_v25_eq _ _ _ _ _)).trans (Cert.FfnIdeal.Whole.same m c), hargs⟩

/-- The merge's reference leaves its arguments as they were, and it has no semaphores. -/
theorem frame_merge_reference : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

theorem algebraic_merge : Cert.algebraic_MergeIdeal_MergeReferenceIdeal := by
  intro m ρ m' ρ' _ hagree
  refine ⟨fun c => (Cert.MergeIdeal.Whole.dats m 0 c).arrAt 9 Cert.MergeIdeal.cfg0.N, Cert.MergeIdeal.Whole.run_blocks m ρ, ?_⟩
  refine (θ_run Cert.MergeReferenceIdeal.defs _ _).mono (fun r h c => ?_) (Cert.MergeReferenceIdeal.Value.run (F := Ideal) m' ρ')
  obtain ⟨a0, a1, a2, a3, a4, a5, a6, a7⟩ := hagree c
  obtain ⟨h0, hargs⟩ := h c
  rw [a0, a1, a2, a3, a4, a5, a6, a7] at h0
  exact ⟨(h0.trans (Cert.MergeReferenceIdeal.Read.val_main_v28_eq _ _ _ _ _ _ _ _)).trans (Cert.MergeIdeal.Whole.same m c), hargs⟩

/-- The per-layer embedding's reference leaves its arguments as they were, and it has no semaphores. -/
theorem frame_ple_reference : Cert.quiescent_PleReferenceIdeal := fun m ρ _ =>
  (θ_run Cert.PleReferenceIdeal.defs _ _).mono (fun r h => ⟨fun c => (h c).2, Idealize.ShloMosaic.sem_eq_zero_of_no_sems (by decide) r.2⟩)
    (Cert.PleReferenceIdeal.Value.run (F := Ideal) m ρ)

theorem algebraic_ple : Cert.algebraic_PleIdeal_PleReferenceIdeal := by
  intro m ρ m' ρ' _ hagree
  refine ⟨fun c => (Cert.PleIdeal.Gen.dats m 0 c).arrAt 6 Cert.PleIdeal.cfg0.N, Cert.PleIdeal.Value.run_blocks (F := Ideal) m ρ, ?_⟩
  refine (θ_run Cert.PleReferenceIdeal.defs _ _).mono (fun r h c => ?_) (Cert.PleReferenceIdeal.Value.run (F := Ideal) m' ρ')
  obtain ⟨a0, a1, a2, a3, a4, a5⟩ := hagree c
  obtain ⟨h0, hargs⟩ := h c
  have h1 := h0.trans (Cert.PleReferenceIdeal.Read.val_main_v40_eq _ _)
  rw [a0, a1, a2, a3, a4, a5] at h1
  exact ⟨h1.trans (Cert.PleIdeal.Whole.same m c), hargs⟩

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Merge.Gen.facts, Cert.MergeIdeal.Gen.facts, Cert.MergeReferenceIdeal.Gen.facts, Cert.Ple.Gen.facts, Cert.PleIdeal.Gen.facts,
  Cert.PleReferenceIdeal.Gen.facts, Cert.Pre_finite.Gen.facts,
  fun m ρ _ => Cert.Kernel.Whole.frame m ρ, fun m ρ _ => Cert.KernelIdeal.Whole.frame m ρ, fun m ρ _ => Cert.KernelIdeal.Whole.frame m ρ,
  frame_reference, fun m ρ _ => frame_reference m ρ trivial, fun m ρ _ => Cert.Ffn.Gen.frame m ρ, fun m ρ _ => Cert.FfnIdeal.Gen.frame m ρ, frame_ffn_reference,
  fun m ρ _ => Cert.Merge.Whole.frame m ρ, fun m ρ _ => Cert.MergeIdeal.Whole.frame m ρ, frame_merge_reference,
  fun m ρ _ => Cert.Ple.Gen.frame m ρ, fun m ρ _ => Cert.PleIdeal.Gen.frame m ρ, frame_ple_reference,
  preserves, algebraic, trivial, algebraic_ffn, trivial, algebraic_merge, trivial, algebraic_ple⟩

end Cert.Proof

end
